-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6)
      ∧ r.2.mem ((c.tc : Thread Cert.Project.nD Cert.Project.τ).loc Cert.Project.main_arg7) = m ((c.tc : Thread Cert.Project.nD Cert.Project.τ).loc Cert.Project.main_arg7)
      ∧ r.2.mem ((c.tc : Thread Cert.Project.nD Cert.Project.τ).loc Cert.Project.main_arg8) = m ((c.tc : Thread Cert.Project.nD Cert.Project.τ).loc Cert.Project.main_arg8)
      ∧ r.2.mem ((c.tc : Thread Cert.Project.nD Cert.Project.τ).loc Cert.Project.main_arg9) = m ((c.tc : Thread Cert.Project.nD Cert.Project.τ).loc Cert.Project.main_arg9)
      ∧ r.2.mem ((c.tc : Thread Cert.Project.nD Cert.Project.τ).loc Cert.Project.main_arg10) = m ((c.tc : Thread Cert.Project.nD Cert.Project.τ).loc Cert.Project.main_arg10)
      ∧ r.2.mem ((c.tc : Thread Cert.Project.nD Cert.Project.τ).loc Cert.Project.main_arg11) = m ((c.tc : Thread Cert.Project.nD Cert.Project.τ).loc Cert.Project.main_arg11)
      ∧ r.2.mem ((c.tc : Thread Cert.Project.nD Cert.Project.τ).loc Cert.Project.main_arg12) = m ((c.tc : Thread Cert.Project.nD Cert.Project.τ).loc Cert.Project.main_arg12)
      ∧ r.2.mem ((c.tc : Thread Cert.Project.nD Cert.Project.τ).loc Cert.Project.main_arg13) = m ((c.tc : Thread Cert.Project.nD Cert.Project.τ).loc Cert.Project.main_arg13)
      ∧ r.2.mem ((c.tc : Thread Cert.Project.nD Cert.Project.τ).loc Cert.Project.main_arg14) = m ((c.tc : Thread Cert.Project.nD Cert.Project.τ).loc Cert.Project.main_arg14))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
      ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7)
      ∧ r.2.mem ((c.tc : Thread Cert.ProjectIdeal.nD Cert.ProjectIdeal.τ).loc Cert.ProjectIdeal.main_arg8) = m ((c.tc : Thread Cert.ProjectIdeal.nD Cert.ProjectIdeal.τ).loc Cert.ProjectIdeal.main_arg8)
      ∧ r.2.mem ((c.tc : Thread Cert.ProjectIdeal.nD Cert.ProjectIdeal.τ).loc Cert.ProjectIdeal.main_arg9) = m ((c.tc : Thread Cert.ProjectIdeal.nD Cert.ProjectIdeal.τ).loc Cert.ProjectIdeal.main_arg9)
      ∧ r.2.mem ((c.tc : Thread Cert.ProjectIdeal.nD Cert.ProjectIdeal.τ).loc Cert.ProjectIdeal.main_arg10) = m ((c.tc : Thread Cert.ProjectIdeal.nD Cert.ProjectIdeal.τ).loc Cert.ProjectIdeal.main_arg10)
      ∧ r.2.mem ((c.tc : Thread Cert.ProjectIdeal.nD Cert.ProjectIdeal.τ).loc Cert.ProjectIdeal.main_arg11) = m ((c.tc : Thread Cert.ProjectIdeal.nD Cert.ProjectIdeal.τ).loc Cert.ProjectIdeal.main_arg11)
      ∧ r.2.mem ((c.tc : Thread Cert.ProjectIdeal.nD Cert.ProjectIdeal.τ).loc Cert.ProjectIdeal.main_arg12) = m ((c.tc : Thread Cert.ProjectIdeal.nD Cert.ProjectIdeal.τ).loc Cert.ProjectIdeal.main_arg12)
      ∧ r.2.mem ((c.tc : Thread Cert.ProjectIdeal.nD Cert.ProjectIdeal.τ).loc Cert.ProjectIdeal.main_arg13) = m ((c.tc : Thread Cert.ProjectIdeal.nD Cert.ProjectIdeal.τ).loc Cert.ProjectIdeal.main_arg13)
      ∧ r.2.mem ((c.tc : Thread Cert.ProjectIdeal.nD Cert.ProjectIdeal.τ).loc Cert.ProjectIdeal.main_arg14) = m ((c.tc : Thread Cert.ProjectIdeal.nD Cert.ProjectIdeal.τ).loc Cert.ProjectIdeal.main_arg14))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5)
      ∧ r.2.mem ((c.tc : Thread Cert.ProjectReferenceIdeal.nD Cert.ProjectReferenceIdeal.τ).loc Cert.ProjectReferenceIdeal.main_arg6) = m ((c.tc : Thread Cert.ProjectReferenceIdeal.nD Cert.ProjectReferenceIdeal.τ).loc Cert.ProjectReferenceIdeal.main_arg6)
      ∧ r.2.mem ((c.tc : Thread Cert.ProjectReferenceIdeal.nD Cert.ProjectReferenceIdeal.τ).loc Cert.ProjectReferenceIdeal.main_arg7) = m ((c.tc : Thread Cert.ProjectReferenceIdeal.nD Cert.ProjectReferenceIdeal.τ).loc Cert.ProjectReferenceIdeal.main_arg7)
      ∧ r.2.mem ((c.tc : Thread Cert.ProjectReferenceIdeal.nD Cert.ProjectReferenceIdeal.τ).loc Cert.ProjectReferenceIdeal.main_arg8) = m ((c.tc : Thread Cert.ProjectReferenceIdeal.nD Cert.ProjectReferenceIdeal.τ).loc Cert.ProjectReferenceIdeal.main_arg8)
      ∧ r.2.mem ((c.tc : Thread Cert.ProjectReferenceIdeal.nD Cert.ProjectReferenceIdeal.τ).loc Cert.ProjectReferenceIdeal.main_arg9) = m ((c.tc : Thread Cert.ProjectReferenceIdeal.nD Cert.ProjectReferenceIdeal.τ).loc Cert.ProjectReferenceIdeal.main_arg9)
      ∧ r.2.mem ((c.tc : Thread Cert.ProjectReferenceIdeal.nD Cert.ProjectReferenceIdeal.τ).loc Cert.ProjectReferenceIdeal.main_arg10) = m ((c.tc : Thread Cert.ProjectReferenceIdeal.nD Cert.ProjectReferenceIdeal.τ).loc Cert.ProjectReferenceIdeal.main_arg10)
      ∧ r.2.mem ((c.tc : Thread Cert.ProjectReferenceIdeal.nD Cert.ProjectReferenceIdeal.τ).loc Cert.ProjectReferenceIdeal.main_arg11) = m ((c.tc : Thread Cert.ProjectReferenceIdeal.nD Cert.ProjectReferenceIdeal.τ).loc Cert.ProjectReferenceIdeal.main_arg11)
      ∧ r.2.mem ((c.tc : Thread Cert.ProjectReferenceIdeal.nD Cert.ProjectReferenceIdeal.τ).loc Cert.ProjectReferenceIdeal.main_arg12) = m ((c.tc : Thread Cert.ProjectReferenceIdeal.nD Cert.ProjectReferenceIdeal.τ).loc Cert.ProjectReferenceIdeal.main_arg12)
      ∧ r.2.mem ((c.tc : Thread Cert.ProjectReferenceIdeal.nD Cert.ProjectReferenceIdeal.τ).loc Cert.ProjectReferenceIdeal.main_arg13) = m ((c.tc : Thread Cert.ProjectReferenceIdeal.nD Cert.ProjectReferenceIdeal.τ).loc Cert.ProjectReferenceIdeal.main_arg13)
      ∧ r.2.mem ((c.tc : Thread Cert.ProjectReferenceIdeal.nD Cert.ProjectReferenceIdeal.τ).loc Cert.ProjectReferenceIdeal.main_arg14) = m ((c.tc : Thread Cert.ProjectReferenceIdeal.nD Cert.ProjectReferenceIdeal.τ).loc Cert.ProjectReferenceIdeal.main_arg14))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)
      ∧ m' ((c.tc : Thread Cert.ProjectReferenceIdeal.nD Cert.ProjectReferenceIdeal.τ).loc Cert.ProjectReferenceIdeal.main_arg5) = m ((c.tc : Thread Cert.ProjectIdeal.nD Cert.ProjectIdeal.τ).loc Cert.ProjectIdeal.main_arg5)
      ∧ m' ((c.tc : Thread Cert.ProjectReferenceIdeal.nD Cert.ProjectReferenceIdeal.τ).loc Cert.ProjectReferenceIdeal.main_arg6) = m ((c.tc : Thread Cert.ProjectIdeal.nD Cert.ProjectIdeal.τ).loc Cert.ProjectIdeal.main_arg6)
      ∧ m' ((c.tc : Thread Cert.ProjectReferenceIdeal.nD Cert.ProjectReferenceIdeal.τ).loc Cert.ProjectReferenceIdeal.main_arg7) = m ((c.tc : Thread Cert.ProjectIdeal.nD Cert.ProjectIdeal.τ).loc Cert.ProjectIdeal.main_arg7)
      ∧ m' ((c.tc : Thread Cert.ProjectReferenceIdeal.nD Cert.ProjectReferenceIdeal.τ).loc Cert.ProjectReferenceIdeal.main_arg8) = m ((c.tc : Thread Cert.ProjectIdeal.nD Cert.ProjectIdeal.τ).loc Cert.ProjectIdeal.main_arg8)
      ∧ m' ((c.tc : Thread Cert.ProjectReferenceIdeal.nD Cert.ProjectReferenceIdeal.τ).loc Cert.ProjectReferenceIdeal.main_arg9) = m ((c.tc : Thread Cert.ProjectIdeal.nD Cert.ProjectIdeal.τ).loc Cert.ProjectIdeal.main_arg9)
      ∧ m' ((c.tc : Thread Cert.ProjectReferenceIdeal.nD Cert.ProjectReferenceIdeal.τ).loc Cert.ProjectReferenceIdeal.main_arg10) = m ((c.tc : Thread Cert.ProjectIdeal.nD Cert.ProjectIdeal.τ).loc Cert.ProjectIdeal.main_arg10)
      ∧ m' ((c.tc : Thread Cert.ProjectReferenceIdeal.nD Cert.ProjectReferenceIdeal.τ).loc Cert.ProjectReferenceIdeal.main_arg11) = m ((c.tc : Thread Cert.ProjectIdeal.nD Cert.ProjectIdeal.τ).loc Cert.ProjectIdeal.main_arg11)
      ∧ m' ((c.tc : Thread Cert.ProjectReferenceIdeal.nD Cert.ProjectReferenceIdeal.τ).loc Cert.ProjectReferenceIdeal.main_arg12) = m ((c.tc : Thread Cert.ProjectIdeal.nD Cert.ProjectIdeal.τ).loc Cert.ProjectIdeal.main_arg12)
      ∧ m' ((c.tc : Thread Cert.ProjectReferenceIdeal.nD Cert.ProjectReferenceIdeal.τ).loc Cert.ProjectReferenceIdeal.main_arg13) = m ((c.tc : Thread Cert.ProjectIdeal.nD Cert.ProjectIdeal.τ).loc Cert.ProjectIdeal.main_arg13)
      ∧ m' ((c.tc : Thread Cert.ProjectReferenceIdeal.nD Cert.ProjectReferenceIdeal.τ).loc Cert.ProjectReferenceIdeal.main_arg14) = m ((c.tc : Thread Cert.ProjectIdeal.nD Cert.ProjectIdeal.τ).loc Cert.ProjectIdeal.main_arg14)) →
    ∃ (v0 : (c : Dev Cert.ProjectIdeal.nD) → Buf (Elt Ideal) ((c.tc : Thread Cert.ProjectIdeal.nD Cert.ProjectIdeal.τ).loc Cert.ProjectIdeal.main_v0_0)) (v1 : (c : Dev Cert.ProjectIdeal.nD) → Buf (Elt Ideal) ((c.tc : Thread Cert.ProjectIdeal.nD Cert.ProjectIdeal.τ).loc Cert.ProjectIdeal.main_v0_1)) (v2 : (c : Dev Cert.ProjectIdeal.nD) → Buf (Elt Ideal) ((c.tc : Thread Cert.ProjectIdeal.nD Cert.ProjectIdeal.τ).loc Cert.ProjectIdeal.main_v0_2)) (v3 : (c : Dev Cert.ProjectIdeal.nD) → Buf (Elt Ideal) ((c.tc : Thread Cert.ProjectIdeal.nD Cert.ProjectIdeal.τ).loc Cert.ProjectIdeal.main_v0_3)) (v4 : (c : Dev Cert.ProjectIdeal.nD) → Buf (Elt Ideal) ((c.tc : Thread Cert.ProjectIdeal.nD Cert.ProjectIdeal.τ).loc Cert.ProjectIdeal.main_v0_4)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0_0) = v0 c
          ∧ r.2.mem ((c.tc : Thread Cert.ProjectIdeal.nD Cert.ProjectIdeal.τ).loc Cert.ProjectIdeal.main_v0_1) = v1 c
          ∧ r.2.mem ((c.tc : Thread Cert.ProjectIdeal.nD Cert.ProjectIdeal.τ).loc Cert.ProjectIdeal.main_v0_2) = v2 c
          ∧ r.2.mem ((c.tc : Thread Cert.ProjectIdeal.nD Cert.ProjectIdeal.τ).loc Cert.ProjectIdeal.main_v0_3) = v3 c
          ∧ r.2.mem ((c.tc : Thread Cert.ProjectIdeal.nD Cert.ProjectIdeal.τ).loc Cert.ProjectIdeal.main_v0_4) = v4 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
          ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7)
          ∧ r.2.mem ((c.tc : Thread Cert.ProjectIdeal.nD Cert.ProjectIdeal.τ).loc Cert.ProjectIdeal.main_arg8) = m ((c.tc : Thread Cert.ProjectIdeal.nD Cert.ProjectIdeal.τ).loc Cert.ProjectIdeal.main_arg8)
          ∧ r.2.mem ((c.tc : Thread Cert.ProjectIdeal.nD Cert.ProjectIdeal.τ).loc Cert.ProjectIdeal.main_arg9) = m ((c.tc : Thread Cert.ProjectIdeal.nD Cert.ProjectIdeal.τ).loc Cert.ProjectIdeal.main_arg9)
          ∧ r.2.mem ((c.tc : Thread Cert.ProjectIdeal.nD Cert.ProjectIdeal.τ).loc Cert.ProjectIdeal.main_arg10) = m ((c.tc : Thread Cert.ProjectIdeal.nD Cert.ProjectIdeal.τ).loc Cert.ProjectIdeal.main_arg10)
          ∧ r.2.mem ((c.tc : Thread Cert.ProjectIdeal.nD Cert.ProjectIdeal.τ).loc Cert.ProjectIdeal.main_arg11) = m ((c.tc : Thread Cert.ProjectIdeal.nD Cert.ProjectIdeal.τ).loc Cert.ProjectIdeal.main_arg11)
          ∧ r.2.mem ((c.tc : Thread Cert.ProjectIdeal.nD Cert.ProjectIdeal.τ).loc Cert.ProjectIdeal.main_arg12) = m ((c.tc : Thread Cert.ProjectIdeal.nD Cert.ProjectIdeal.τ).loc Cert.ProjectIdeal.main_arg12)
          ∧ r.2.mem ((c.tc : Thread Cert.ProjectIdeal.nD Cert.ProjectIdeal.τ).loc Cert.ProjectIdeal.main_arg13) = m ((c.tc : Thread Cert.ProjectIdeal.nD Cert.ProjectIdeal.τ).loc Cert.ProjectIdeal.main_arg13)
          ∧ r.2.mem ((c.tc : Thread Cert.ProjectIdeal.nD Cert.ProjectIdeal.τ).loc Cert.ProjectIdeal.main_arg14) = m ((c.tc : Thread Cert.ProjectIdeal.nD Cert.ProjectIdeal.τ).loc Cert.ProjectIdeal.main_arg14))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v135) = v0 c
          ∧ r.2.mem ((c.tc : Thread Cert.ProjectReferenceIdeal.nD Cert.ProjectReferenceIdeal.τ).loc Cert.ProjectReferenceIdeal.main_v137) = v1 c
          ∧ r.2.mem ((c.tc : Thread Cert.ProjectReferenceIdeal.nD Cert.ProjectReferenceIdeal.τ).loc Cert.ProjectReferenceIdeal.main_v139) = v2 c
          ∧ r.2.mem ((c.tc : Thread Cert.ProjectReferenceIdeal.nD Cert.ProjectReferenceIdeal.τ).loc Cert.ProjectReferenceIdeal.main_v140) = v3 c
          ∧ r.2.mem ((c.tc : Thread Cert.ProjectReferenceIdeal.nD Cert.ProjectReferenceIdeal.τ).loc Cert.ProjectReferenceIdeal.main_v141) = v4 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4)
          ∧ r.2.mem ((c.tc : Thread Cert.ProjectReferenceIdeal.nD Cert.ProjectReferenceIdeal.τ).loc Cert.ProjectReferenceIdeal.main_arg5) = m' ((c.tc : Thread Cert.ProjectReferenceIdeal.nD Cert.ProjectReferenceIdeal.τ).loc Cert.ProjectReferenceIdeal.main_arg5)
          ∧ r.2.mem ((c.tc : Thread Cert.ProjectReferenceIdeal.nD Cert.ProjectReferenceIdeal.τ).loc Cert.ProjectReferenceIdeal.main_arg6) = m' ((c.tc : Thread Cert.ProjectReferenceIdeal.nD Cert.ProjectReferenceIdeal.τ).loc Cert.ProjectReferenceIdeal.main_arg6)
          ∧ r.2.mem ((c.tc : Thread Cert.ProjectReferenceIdeal.nD Cert.ProjectReferenceIdeal.τ).loc Cert.ProjectReferenceIdeal.main_arg7) = m' ((c.tc : Thread Cert.ProjectReferenceIdeal.nD Cert.ProjectReferenceIdeal.τ).loc Cert.ProjectReferenceIdeal.main_arg7)
          ∧ r.2.mem ((c.tc : Thread Cert.ProjectReferenceIdeal.nD Cert.ProjectReferenceIdeal.τ).loc Cert.ProjectReferenceIdeal.main_arg8) = m' ((c.tc : Thread Cert.ProjectReferenceIdeal.nD Cert.ProjectReferenceIdeal.τ).loc Cert.ProjectReferenceIdeal.main_arg8)
          ∧ r.2.mem ((c.tc : Thread Cert.ProjectReferenceIdeal.nD Cert.ProjectReferenceIdeal.τ).loc Cert.ProjectReferenceIdeal.main_arg9) = m' ((c.tc : Thread Cert.ProjectReferenceIdeal.nD Cert.ProjectReferenceIdeal.τ).loc Cert.ProjectReferenceIdeal.main_arg9)
          ∧ r.2.mem ((c.tc : Thread Cert.ProjectReferenceIdeal.nD Cert.ProjectReferenceIdeal.τ).loc Cert.ProjectReferenceIdeal.main_arg10) = m' ((c.tc : Thread Cert.ProjectReferenceIdeal.nD Cert.ProjectReferenceIdeal.τ).loc Cert.ProjectReferenceIdeal.main_arg10)
          ∧ r.2.mem ((c.tc : Thread Cert.ProjectReferenceIdeal.nD Cert.ProjectReferenceIdeal.τ).loc Cert.ProjectReferenceIdeal.main_arg11) = m' ((c.tc : Thread Cert.ProjectReferenceIdeal.nD Cert.ProjectReferenceIdeal.τ).loc Cert.ProjectReferenceIdeal.main_arg11)
          ∧ r.2.mem ((c.tc : Thread Cert.ProjectReferenceIdeal.nD Cert.ProjectReferenceIdeal.τ).loc Cert.ProjectReferenceIdeal.main_arg12) = m' ((c.tc : Thread Cert.ProjectReferenceIdeal.nD Cert.ProjectReferenceIdeal.τ).loc Cert.ProjectReferenceIdeal.main_arg12)
          ∧ r.2.mem ((c.tc : Thread Cert.ProjectReferenceIdeal.nD Cert.ProjectReferenceIdeal.τ).loc Cert.ProjectReferenceIdeal.main_arg13) = m' ((c.tc : Thread Cert.ProjectReferenceIdeal.nD Cert.ProjectReferenceIdeal.τ).loc Cert.ProjectReferenceIdeal.main_arg13)
          ∧ r.2.mem ((c.tc : Thread Cert.ProjectReferenceIdeal.nD Cert.ProjectReferenceIdeal.τ).loc Cert.ProjectReferenceIdeal.main_arg14) = m' ((c.tc : Thread Cert.ProjectReferenceIdeal.nD Cert.ProjectReferenceIdeal.τ).loc Cert.ProjectReferenceIdeal.main_arg14))

def Claim : Prop :=
  ∃ (hKernel : Cert.Kernel.Facts) (hKernelIdeal : Cert.KernelIdeal.Facts) (hReferenceIdeal : Cert.ReferenceIdeal.Facts) (hProject : Cert.Project.Facts) (hProjectIdeal : Cert.ProjectIdeal.Facts) (hProjectReferenceIdeal : Cert.ProjectReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Project (hProject := hProject)
    ∧ quiescent_ProjectIdeal (hProjectIdeal := hProjectIdeal)
    ∧ quiescent_ProjectReferenceIdeal (hProjectReferenceIdeal := hProjectReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Project_ProjectIdeal
    ∧ algebraic_ProjectIdeal_ProjectReferenceIdeal (hProjectIdeal := hProjectIdeal) (hProjectReferenceIdeal := hProjectReferenceIdeal)
-- ==== Pre_finite.lean ====
abbrev S1024x40960 : Shape := ⟨2, ![1024, 40960]⟩
abbrev S40960x256 : Shape := ⟨2, ![40960, 256]⟩
abbrev S256x40960 : Shape := ⟨2, ![256, 40960]⟩
abbrev S128 : Shape := ⟨1, ![128]⟩
abbrev S_ : Shape := ⟨0, ![]⟩

class Facts : Prop where
  bitsLt_bf16_f32 : FTy.bits .bf16 < FTy.bits .f32
  bcast_S_S1024x40960 : S_.BroadcastsInDim S1024x40960 (![] : Fin 0 → Fin S1024x40960.rank)
  bcast_S_S40960x256 : S_.BroadcastsInDim S40960x256 (![] : Fin 0 → Fin S40960x256.rank)
  bcast_S_S128 : S_.BroadcastsInDim S128 (![] : Fin 0 → Fin S128.rank)

variable [Facts]

def fn {F : FTy → Type} [FloatOps F] (main_arg0 : FVec F S1024x40960 .bf16) (main_arg1 : FVec F S40960x256 .bf16) (main_arg2 : FVec F S256x40960 .bf16) (main_arg3 : FVec F S128 .f32) (main_arg4 : FVec F S128 .f32) : IVec S1024x40960 1 × IVec S40960x256 1 × IVec S128 1 :=
  let main_v0 : FVec F S1024x40960 .f32 := (extf .f32 · bitsLt_bf16_f32) main_arg0
  let main_v1 : FVec F S1024x40960 .f32 := Host.absf main_v0
  let main_cst : FVec F S_ .f32 := constant S_ .f32 0x7F800000#32
  let main_v2 : FVec F S1024x40960 .f32 := broadcastInDim S1024x40960 ![] bcast_S_S1024x40960 main_cst
  let main_v3 : IVec S1024x40960 1 := cmpf .olt main_v1 main_v2
  let main_v4 : FVec F S40960x256 .f32 := (extf .f32 · bitsLt_bf16_f32) main_arg1
  let main_v5 : FVec F S40960x256 .f32 := Host.absf main_v4
  let main_cst_0 : FVec F S_ .f32 := constant S_ .f32 0x7F800000#32
  let main_v6 : FVec F S40960x256 .f32 := broadcastInDim S40960x256 ![] bcast_S_S40960x256 main_cst_0
  let main_v7 : IVec S40960x256 1 := cmpf .olt main_v5 main_v6
  let main_v8 : FVec F S128 .f32 := Host.absf main_arg4
  let main_cst_1 : FVec F S_ .f32 := constant S_ .f32 0x7F800000#32
  let main_v9 : FVec F S128 .f32 := broadcastInDim S128 ![] bcast_S_S128 main_cst_1
  let main_v10 : IVec S128 1 := cmpf .olt main_v8 main_v9
  (main_v3, main_v7, main_v10)
-- ==== Kernel.lean ====
abbrev S1024x40960 : Shape := ⟨2, ![1024, 40960]⟩
abbrev S40960x256 : Shape := ⟨2, ![40960, 256]⟩
abbrev S256x40960 : Shape := ⟨2, ![256, 40960]⟩
abbrev S128 : Shape := ⟨1, ![128]⟩
abbrev S272 : Shape := ⟨1, ![272]⟩
abbrev S_ : Shape := ⟨0, ![]⟩
abbrev S1 : Shape := ⟨1, ![1]⟩
abbrev S8x128 : Shape := ⟨2, ![8, 128]⟩
abbrev S40960x1024 : Shape := ⟨2, ![40960, 1024]⟩
abbrev S512x1024 : Shape := ⟨2, ![512, 1024]⟩
abbrev S2048x128 : Shape := ⟨2, ![2048, 128]⟩
abbrev S128x2048 : Shape := ⟨2, ![128, 2048]⟩
abbrev S128x1024 : Shape := ⟨2, ![128, 1024]⟩
abbrev S1024x512 : Shape := ⟨2, ![1024, 512]⟩
abbrev S128x4096 : Shape := ⟨2, ![128, 4096]⟩
abbrev S1x4096 : Shape := ⟨2, ![1, 4096]⟩
abbrev S1024x4096 : Shape := ⟨2, ![1024, 4096]⟩
abbrev S4096 : Shape := ⟨1, ![4096]⟩
abbrev S1x1 : Shape := ⟨2, ![1, 1]⟩
abbrev S1024x128 : Shape := ⟨2, ![1024, 128]⟩
abbrev S2048x4096 : Shape := ⟨2, ![2048, 4096]⟩

abbrev nBuf : Space → Nat
  | .hbm => 26
  | .vmem => 16
  | .smem => 5
  | _ => 0

abbrev bufTy : (tb : Table) → Fin (tcTables nBuf tb) → BufTy
  | .hbm, ⟨0, _⟩ => ⟨S1024x40960, .bf16⟩
  | .hbm, ⟨1, _⟩ => ⟨S40960x256, .bf16⟩
  | .hbm, ⟨2, _⟩ => ⟨S256x40960, .bf16⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .i1⟩
  | .hbm, ⟨23, _⟩ => ⟨S_, .i32⟩
  | .hbm, ⟨24, _⟩ => ⟨S8x128, .f32⟩
  | .hbm, ⟨25, _⟩ => ⟨S40960x1024, .bf16⟩
  | .local _ .vmem, ⟨0, _⟩ => ⟨S512x1024, .bf16⟩
  | .local _ .vmem, ⟨1, _⟩ => ⟨S512x1024, .bf16⟩
  | .local _ .vmem, ⟨2, _⟩ => ⟨S2048x128, .bf16⟩
  | .local _ .vmem, ⟨3, _⟩ => ⟨S2048x128, .bf16⟩
  | .local _ .vmem, ⟨4, _⟩ => ⟨S128x2048, .bf16⟩
  | .local _ .vmem, ⟨5, _⟩ => ⟨S128x2048, .bf16⟩
  | .local _ .vmem, ⟨6, _⟩ => ⟨S128x1024, .bf16⟩
  | .local _ .vmem, ⟨7, _⟩ => ⟨S128x1024, .bf16⟩
  | .local _ .vmem, ⟨8, _⟩ => ⟨S8x128, .f32⟩
  | .local _ .vmem, ⟨9, _⟩ => ⟨S1024x512, .bf16⟩
  | .local _ .vmem, ⟨10, _⟩ => ⟨S1024x512, .bf16⟩
  | .local _ .vmem, ⟨11, _⟩ => ⟨S128x4096, .bf16⟩
  | .local _ .vmem, ⟨12, _⟩ => ⟨S1x4096, .f32⟩
  | .local _ .vmem, ⟨13, _⟩ => ⟨S1x4096, .f32⟩
  | .local _ .vmem, ⟨14, _⟩ => ⟨S128x4096, .f32⟩
  | .local _ .vmem, ⟨15, _⟩ => ⟨S1024x4096, .bf16⟩
  | .local _ .smem, ⟨0, _⟩ => ⟨S272, .i32⟩
  | .local _ .smem, ⟨1, _⟩ => ⟨S272, .i32⟩
  | .local _ .smem, ⟨2, _⟩ => ⟨S272, .i32⟩
  | .local _ .smem, ⟨3, _⟩ => ⟨S272, .i32⟩
  | .local _ .smem, ⟨4, _⟩ => ⟨S1, .i32⟩
  | _, _ => ⟨S1024x40960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_3 : Ref sig .tc := ⟨.hbm, 8, rfl⟩
abbrev main_v2 : Ref sig .tc := ⟨.hbm, 9, rfl⟩
abbrev main_cst_4 : Ref sig .tc := ⟨.hbm, 10, rfl⟩
abbrev main_v3 : Ref sig .tc := ⟨.hbm, 11, rfl⟩
abbrev main_v4 : Ref sig .tc := ⟨.hbm, 12, rfl⟩
abbrev main_cst_5 : Ref sig .tc := ⟨.hbm, 13, rfl⟩
abbrev main_v5 : Ref sig .tc := ⟨.hbm, 14, rfl⟩
abbrev main_cst_6 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_7 : Ref sig .tc := ⟨.hbm, 19, rfl⟩
abbrev main_v9 : Ref sig .tc := ⟨.hbm, 20, rfl⟩
abbrev main_cst_8 : Ref sig .tc := ⟨.hbm, 21, rfl⟩
abbrev main_v10 : Ref sig .tc := ⟨.hbm, 22, rfl⟩
abbrev main_v11 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.smem, 0, rfl⟩
abbrev main_c_0 : Ref sig .tc := ⟨.smem, 1, rfl⟩
abbrev main_c_1 : Ref sig .tc := ⟨.smem, 2, rfl⟩
abbrev main_c_2 : Ref sig .tc := ⟨.smem, 3, rfl⟩
abbrev main_v12 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 272], ![false, false]⟩

abbrev pre0 : Pipeline.Prefetch sig := ⟨5, ![main_c.idx, main_c_0.idx, main_c_1.idx, main_c_2.idx, main_v12.idx], fun | 0 => main_c.names | 1 => main_c_0.names | 2 => main_c_1.names | 3 => main_c_2.names | 4 => main_v12.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond5 (v1 : BitVec 32) : BitVec 1 :=
  let c2_i32_6 : BitVec 32 := 2#32
  let v18 : BitVec 32 := Scalar.andi v1 c2_i32_6
  let c0_i32_7 : BitVec 32 := 0#32
  let v19 : BitVec 1 := Scalar.cmpi .ne v18 c0_i32_7
  let v20 : BitVec 32 := Scalar.extui v19
  let c0_i32_8 : BitVec 32 := 0#32
  let v21 : BitVec 1 := Scalar.cmpi .ne v20 c0_i32_8
  v21

def cc0_transform_0 (k0_off1_inb : ∀ i : grid0.Coords, ∀ a, (k0_off1 i) a + S1.size a ≤ S272.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S272) ![v0.toNat] S1.size (k0_off1_inb i)) numel1_S1
  let c0_i32 : BitVec 32 := 0#32
  ![arg0.toNat, v1.toNat]

def cc0_transform_1 (k0_off1_inb : ∀ i : grid0.Coords, ∀ a, (k0_off1 i) a + S1.size a ≤ S272.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S272) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S272.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S272) ![v0.toNat] S1.size (k0_off1_inb i)) numel1_S1
  let c0_i32 : BitVec 32 := 0#32
  ![arg0.toNat, v1.toNat]

def cc0_transform_3 (k0_off1_inb : ∀ i : grid0.Coords, ∀ a, (k0_off1 i) a + S1.size a ≤ S272.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S272) ![v0.toNat] S1.size (k0_off1_inb i)) numel1_S1
  let c0_i32 : BitVec 32 := 0#32
  ![arg0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (k0_off1_inb : ∀ i : grid0.Coords, ∀ a, (k0_off1 i) a + S1.size a ≤ S272.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S272) ![v0.toNat] S1.size (k0_off1_inb i)) numel1_S1
  let c0_i32 : BitVec 32 := 0#32
  ![v1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S1024x40960 : Shape := ⟨2, ![1024, 40960]⟩
abbrev S40960x256 : Shape := ⟨2, ![40960, 256]⟩
abbrev S256x40960 : Shape := ⟨2, ![256, 40960]⟩
abbrev S128 : Shape := ⟨1, ![128]⟩
abbrev S40960x1024 : Shape := ⟨2, ![40960, 1024]⟩
abbrev S32768x1024 : Shape := ⟨2, ![32768, 1024]⟩
abbrev S2x16384x2x4x128 : Shape := ⟨5, ![2, 16384, 2, 4, 128]⟩
abbrev S32768x256 : Shape := ⟨2, ![32768, 256]⟩
abbrev S2x16384x2x128 : Shape := ⟨4, ![2, 16384, 2, 128]⟩
abbrev S2x2x16384x16384x4 : Shape := ⟨5, ![2, 2, 16384, 16384, 4]⟩
abbrev S2x2x4x16384x16384 : Shape := ⟨5, ![2, 2, 4, 16384, 16384]⟩
abbrev S_ : Shape := ⟨0, ![]⟩
abbrev S2x2x4x16384 : Shape := ⟨4, ![2, 2, 4, 16384]⟩
abbrev S2x2x4x16384x1 : Shape := ⟨5, ![2, 2, 4, 16384, 1]⟩
abbrev S2x2x128x4x16384 : Shape := ⟨5, ![2, 2, 128, 4, 16384]⟩
abbrev S8192x1024 : Shape := ⟨2, ![8192, 1024]⟩
abbrev S2x4096x2x4x128 : Shape := ⟨5, ![2, 4096, 2, 4, 128]⟩
abbrev S8192x256 : Shape := ⟨2, ![8192, 256]⟩
abbrev S2x4096x2x128 : Shape := ⟨4, ![2, 4096, 2, 128]⟩
abbrev S2x2x4096x4096x4 : Shape := ⟨5, ![2, 2, 4096, 4096, 4]⟩
abbrev S2x2x4x4096x4096 : Shape := ⟨5, ![2, 2, 4, 4096, 4096]⟩
abbrev S2x2x4x4096 : Shape := ⟨4, ![2, 2, 4, 4096]⟩
abbrev S2x2x4x4096x1 : Shape := ⟨5, ![2, 2, 4, 4096, 1]⟩
abbrev S2x2x128x4x4096 : Shape := ⟨5, ![2, 2, 128, 4, 4096]⟩

abbrev nBuf : Space → Nat
  | .hbm => 60
  | .vmem => 0
  | .smem => 0
  | _ => 0

abbrev bufTy : (tb : Table) → Fin (tcTables nBuf tb) → BufTy
  | .hbm, ⟨0, _⟩ => ⟨S1024x40960, .bf16⟩
  | .hbm, ⟨1, _⟩ => ⟨S40960x256, .bf16⟩
  | .hbm, ⟨2, _⟩ => ⟨S256x40960, .bf16⟩
  | .hbm, ⟨3, _⟩ => ⟨S128, .f32⟩
  | .hbm, ⟨4, _⟩ => ⟨S128, .f32⟩
  | .hbm, ⟨5, _⟩ => ⟨S1024x40960, .f32⟩
  | .hbm, ⟨6, _⟩ => ⟨S40960x1024, .f32⟩
  | .hbm, ⟨7, _⟩ => ⟨S40960x256, .f32⟩
  | .hbm, ⟨8, _⟩ => ⟨S256x40960, .f32⟩
  | .hbm, ⟨9, _⟩ => ⟨S40960x256, .f32⟩
  | .hbm, ⟨10, _⟩ => ⟨S32768x1024, .f32⟩
  | .hbm, ⟨11, _⟩ => ⟨S2x16384x2x4x128, .f32⟩
  | .hbm, ⟨12, _⟩ => ⟨S32768x256, .f32⟩
  | .hbm, ⟨13, _⟩ => ⟨S2x16384x2x128, .f32⟩
  | .hbm, ⟨14, _⟩ => ⟨S32768x256, .f32⟩
  | .hbm, ⟨15, _⟩ => ⟨S2x16384x2x128, .f32⟩
  | .hbm, ⟨16, _⟩ => ⟨S2x2x16384x16384x4, .f32⟩
  | .hbm, ⟨17, _⟩ => ⟨S2x2x4x16384x16384, .f32⟩
  | .hbm, ⟨18, _⟩ => ⟨S_, .f32⟩
  | .hbm, ⟨19, _⟩ => ⟨S2x2x4x16384x16384, .f32⟩
  | .hbm, ⟨20, _⟩ => ⟨S_, .f32⟩
  | .hbm, ⟨21, _⟩ => ⟨S2x2x4x16384, .f32⟩
  | .hbm, ⟨22, _⟩ => ⟨S2x2x4x16384x1, .f32⟩
  | .hbm, ⟨23, _⟩ => ⟨S2x2x4x16384x16384, .f32⟩
  | .hbm, ⟨24, _⟩ => ⟨S2x2x4x16384x16384, .f32⟩
  | .hbm, ⟨25, _⟩ => ⟨S2x2x4x16384x16384, .f32⟩
  | .hbm, ⟨26, _⟩ => ⟨S_, .f32⟩
  | .hbm, ⟨27, _⟩ => ⟨S2x2x4x16384, .f32⟩
  | .hbm, ⟨28, _⟩ => ⟨S2x2x4x16384x1, .f32⟩
  | .hbm, ⟨29, _⟩ => ⟨S2x2x4x16384x16384, .f32⟩
  | .hbm, ⟨30, _⟩ => ⟨S2x2x4x16384x16384, .f32⟩
  | .hbm, ⟨31, _⟩ => ⟨S2x2x128x4x16384, .f32⟩
  | .hbm, ⟨32, _⟩ => ⟨S2x16384x2x4x128, .f32⟩
  | .hbm, ⟨33, _⟩ => ⟨S32768x1024, .f32⟩
  | .hbm, ⟨34, _⟩ => ⟨S8192x1024, .f32⟩
  | .hbm, ⟨35, _⟩ => ⟨S2x4096x2x4x128, .f32⟩
  | .hbm, ⟨36, _⟩ => ⟨S8192x256, .f32⟩
  | .hbm, ⟨37, _⟩ => ⟨S2x4096x2x128, .f32⟩
  | .hbm, ⟨38, _⟩ => ⟨S8192x256, .f32⟩
  | .hbm, ⟨39, _⟩ => ⟨S2x4096x2x128, .f32⟩
  | .hbm, ⟨40, _⟩ => ⟨S2x2x4096x4096x4, .f32⟩
  | .hbm, ⟨41, _⟩ => ⟨S2x2x4x4096x4096, .f32⟩
  | .hbm, ⟨42, _⟩ => ⟨S_, .f32⟩
  | .hbm, ⟨43, _⟩ => ⟨S2x2x4x4096x4096, .f32⟩
  | .hbm, ⟨44, _⟩ => ⟨S_, .f32⟩
  | .hbm, ⟨45, _⟩ => ⟨S2x2x4x4096, .f32⟩
  | .hbm, ⟨46, _⟩ => ⟨S2x2x4x4096x1, .f32⟩
  | .hbm, ⟨47, _⟩ => ⟨S2x2x4x4096x4096, .f32⟩
  | .hbm, ⟨48, _⟩ => ⟨S2x2x4x4096x4096, .f32⟩
  | .hbm, ⟨49, _⟩ => ⟨S2x2x4x4096x4096, .f32⟩
  | .hbm, ⟨50, _⟩ => ⟨S_, .f32⟩
  | .hbm, ⟨51, _⟩ => ⟨S2x2x4x4096, .f32⟩
  | .hbm, ⟨52, _⟩ => ⟨S2x2x4x4096x1, .f32⟩
  | .hbm, ⟨53, _⟩ => ⟨S2x2x4x4096x4096, .f32⟩
  | .hbm, ⟨54, _⟩ => ⟨S2x2x4x4096x4096, .f32⟩
  | .hbm, ⟨55, _⟩ => ⟨S2x2x128x4x4096, .f32⟩
  | .hbm, ⟨56, _⟩ => ⟨S2x4096x2x4x128, .f32⟩
  | .hbm, ⟨57, _⟩ => ⟨S8192x1024, .f32⟩
  | .hbm, ⟨58, _⟩ => ⟨S40960x1024, .f32⟩
  | .hbm, ⟨59, _⟩ => ⟨S40960x1024, .bf16⟩
  | _, _ => ⟨S1024x40960, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩

abbrev nD : Nat := 1
abbrev τ : Topo := Topo.v7x

variable {F : FTy → Type} [FloatOps F]
-- ==== Project.lean ====
abbrev S32768x2048 : Shape := ⟨2, ![32768, 2048]⟩
abbrev S8192x2048 : Shape := ⟨2, ![8192, 2048]⟩
abbrev S4x8x2048 : Shape := ⟨3, ![4, 8, 2048]⟩
abbrev S1x2048 : Shape := ⟨2, ![1, 2048]⟩
abbrev S1024x2048 : Shape := ⟨2, ![1024, 2048]⟩
abbrev S2048x256 : Shape := ⟨2, ![2048, 256]⟩
abbrev S256x2048 : Shape := ⟨2, ![256, 2048]⟩
abbrev S2048x1024 : Shape := ⟨2, ![2048, 1024]⟩
abbrev S128x1 : Shape := ⟨2, ![128, 1]⟩
abbrev S1x128 : Shape := ⟨2, ![1, 128]⟩
abbrev S128x16384 : Shape := ⟨2, ![128, 16384]⟩
abbrev S16384x128 : Shape := ⟨2, ![16384, 128]⟩
abbrev S1024x40960 : Shape := ⟨2, ![1024, 40960]⟩
abbrev S40960x256 : Shape := ⟨2, ![40960, 256]⟩
abbrev S256x40960 : Shape := ⟨2, ![256, 40960]⟩
abbrev S40960x1024 : Shape := ⟨2, ![40960, 1024]⟩
abbrev S512x2048 : Shape := ⟨2, ![512, 2048]⟩
abbrev S1x8x2048 : Shape := ⟨3, ![1, 8, 2048]⟩
abbrev S128x512 : Shape := ⟨2, ![128, 512]⟩
abbrev S512x128 : Shape := ⟨2, ![512, 128]⟩
abbrev S1024x512 : Shape := ⟨2, ![1024, 512]⟩
abbrev S512x256 : Shape := ⟨2, ![512, 256]⟩
abbrev S256x512 : Shape := ⟨2, ![256, 512]⟩
abbrev S512x1024 : Shape := ⟨2, ![512, 1024]⟩
abbrev S1x1x2048 : Shape := ⟨3, ![1, 1, 2048]⟩
abbrev S512 : Shape := ⟨1, ![512]⟩
abbrev S512x1 : Shape := ⟨2, ![512, 1]⟩
abbrev S1x512 : Shape := ⟨2, ![1, 512]⟩
abbrev S64x512 : Shape := ⟨2, ![64, 512]⟩
abbrev S512x64 : Shape := ⟨2, ![512, 64]⟩

abbrev nBuf : Space → Nat
  | .hbm => 20
  | .vmem => 32
  | .smem => 0
  | _ => 0

abbrev bufTy : (tb : Table) → Fin (tcTables nBuf tb) → BufTy
  | .hbm, ⟨0, _⟩ => ⟨S32768x2048, .f32⟩
  | .hbm, ⟨1, _⟩ => ⟨S8192x2048, .f32⟩
  | .hbm, ⟨2, _⟩ => ⟨S4x8x2048, .f32⟩
  | .hbm, ⟨3, _⟩ => ⟨S1x2048, .f32⟩
  | .hbm, ⟨4, _⟩ => ⟨S1024x2048, .bf16⟩
  | .hbm, ⟨5, _⟩ => ⟨S2048x256, .bf16⟩
  | .hbm, ⟨6, _⟩ => ⟨S256x2048, .bf16⟩
  | .hbm, ⟨7, _⟩ => ⟨S2048x1024, .bf16⟩
  | .hbm, ⟨8, _⟩ => ⟨S2048x1024, .bf16⟩
  | .hbm, ⟨9, _⟩ => ⟨S128x1, .f32⟩
  | .hbm, ⟨10, _⟩ => ⟨S1x128, .f32⟩
  | .hbm, ⟨11, _⟩ => ⟨S128x16384, .f32⟩
  | .hbm, ⟨12, _⟩ => ⟨S128x16384, .f32⟩
  | .hbm, ⟨13, _⟩ => ⟨S16384x128, .f32⟩
  | .hbm, ⟨14, _⟩ => ⟨S16384x128, .f32⟩
  | .hbm, ⟨15, _⟩ => ⟨S1024x40960, .bf16⟩
  | .hbm, ⟨16, _⟩ => ⟨S40960x256, .bf16⟩
  | .hbm, ⟨17, _⟩ => ⟨S256x40960, .bf16⟩
  | .hbm, ⟨18, _⟩ => ⟨S40960x1024, .bf16⟩
  | .hbm, ⟨19, _⟩ => ⟨S40960x1024, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x8x2048, .f32⟩
  | .local _ .vmem, ⟨5, _⟩ => ⟨S1x8x2048, .f32⟩
  | .local _ .vmem, ⟨6, _⟩ => ⟨S1x2048, .f32⟩
  | .local _ .vmem, ⟨7, _⟩ => ⟨S1024x2048, .bf16⟩
  | .local _ .vmem, ⟨8, _⟩ => ⟨S2048x256, .bf16⟩
  | .local _ .vmem, ⟨9, _⟩ => ⟨S256x2048, .bf16⟩
  | .local _ .vmem, ⟨10, _⟩ => ⟨S2048x1024, .bf16⟩
  | .local _ .vmem, ⟨11, _⟩ => ⟨S2048x1024, .bf16⟩
  | .local _ .vmem, ⟨12, _⟩ => ⟨S128x1, .f32⟩
  | .local _ .vmem, ⟨13, _⟩ => ⟨S1x128, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S1024x512, .bf16⟩
  | .local _ .vmem, ⟨23, _⟩ => ⟨S1024x512, .bf16⟩
  | .local _ .vmem, ⟨24, _⟩ => ⟨S512x256, .bf16⟩
  | .local _ .vmem, ⟨25, _⟩ => ⟨S512x256, .bf16⟩
  | .local _ .vmem, ⟨26, _⟩ => ⟨S256x512, .bf16⟩
  | .local _ .vmem, ⟨27, _⟩ => ⟨S256x512, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c64_i32 : BitVec 32 := 64#32
  let v0 : BitVec 1 := Scalar.cmpi .slt arg0 c64_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c64_i32_4 : BitVec 32 := 64#32
  let v18 : BitVec 32 := Scalar.subi arg0 c64_i32_4
  let c8_i32 : BitVec 32 := 8#32
  let v19 : BitVec 32 := Scalar.divsi v18 c8_i32
  let c0_i32_5 : BitVec 32 := 0#32
  let v20 : BitVec 1 := Scalar.cmpi .sgt v18 c0_i32_5
  let v21 : BitVec 32 := Scalar.extui v20
  let c0_i32_6 : BitVec 32 := 0#32
  let v22 : BitVec 1 := Scalar.cmpi .slt v18 c0_i32_6
  let v23 : BitVec 32 := Scalar.extui v22
  let v24 : BitVec 32 := Scalar.subi v21 v23
  let c0_i32_7 : BitVec 32 := 0#32
  let v25 : BitVec 1 := Scalar.cmpi .sgt c8_i32 c0_i32_7
  let v26 : BitVec 32 := Scalar.extui v25
  let c0_i32_8 : BitVec 32 := 0#32
  let v27 : BitVec 1 := Scalar.cmpi .slt c8_i32 c0_i32_8
  let v28 : BitVec 32 := Scalar.extui v27
  let v29 : BitVec 32 := Scalar.subi v26 v28
  let v30 : BitVec 1 := Scalar.cmpi .ne v24 v29
  let v31 : BitVec 32 := Scalar.remsi v18 c8_i32
  let c0_i32_9 : BitVec 32 := 0#32
  let v32 : BitVec 1 := Scalar.cmpi .ne v31 c0_i32_9
  let v33 : BitVec 1 := Scalar.andi v30 v32
  let c1_i32_10 : BitVec 32 := 1#32
  let v34 : BitVec 32 := Scalar.subi v19 c1_i32_10
  let v35 : BitVec 32 := Scalar.select v33 v34 v19
  let c2_i32 : BitVec 32 := 2#32
  let v36 : BitVec 32 := Scalar.addi c2_i32 v35
  let v37 : BitVec 32 := Scalar.select v0 v17 v36
  let c0_i32_11 : BitVec 32 := 0#32
  let c0_i32_12 : BitVec 32 := 0#32
  let c0_i32_13 : BitVec 32 := 0#32
  ![v37.toNat, c0_i32_11.toNat, c0_i32_12.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c64_i32 : BitVec 32 := 64#32
  let v0 : BitVec 1 := Scalar.cmpi .slt arg0 c64_i32
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c64_i32_3 : BitVec 32 := 64#32
  let v11 : BitVec 32 := Scalar.subi arg0 c64_i32_3
  let c8_i32 : BitVec 32 := 8#32
  let c0_i32_4 : BitVec 32 := 0#32
  let v12 : BitVec 1 := Scalar.cmpi .eq c8_i32 c0_i32_4
  let c1_i32_5 : BitVec 32 := 1#32
  let v13 : BitVec 32 := Scalar.select v12 c1_i32_5 c8_i32
  let v14 : BitVec 32 := Scalar.remsi v11 v13
  let c0_i32_6 : BitVec 32 := 0#32
  let v15 : BitVec 1 := Scalar.cmpi .ne v14 c0_i32_6
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let v19 : BitVec 1 := Scalar.andi v18 v15
  let v20 : BitVec 32 := Scalar.addi v14 v13
  let v21 : BitVec 32 := Scalar.select v19 v20 v14
  let v22 : BitVec 32 := Scalar.select v0 v10 v21
  let c0_i32_9 : BitVec 32 := 0#32
  let c0_i32_10 : BitVec 32 := 0#32
  ![c0_i32_9.toNat, v22.toNat]

def cc0_transform_12 (i : grid0.Coords) : Fin 2 → Nat :=
  let arg0 : BitVec 32 := BitVec.ofNat 32 (i 0).val
  let c64_i32 : BitVec 32 := 64#32
  let v0 : BitVec 1 := Scalar.cmpi .slt arg0 c64_i32
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c64_i32_3 : BitVec 32 := 64#32
  let v11 : BitVec 32 := Scalar.subi arg0 c64_i32_3
  let c8_i32 : BitVec 32 := 8#32
  let c0_i32_4 : BitVec 32 := 0#32
  let v12 : BitVec 1 := Scalar.cmpi .eq c8_i32 c0_i32_4
  let c1_i32_5 : BitVec 32 := 1#32
  let v13 : BitVec 32 := Scalar.select v12 c1_i32_5 c8_i32
  let v14 : BitVec 32 := Scalar.remsi v11 v13
  let c0_i32_6 : BitVec 32 := 0#32
  let v15 : BitVec 1 := Scalar.cmpi .ne v14 c0_i32_6
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let v19 : BitVec 1 := Scalar.andi v18 v15
  let v20 : BitVec 32 := Scalar.addi v14 v13
  let v21 : BitVec 32 := Scalar.select v19 v20 v14
  let v22 : BitVec 32 := Scalar.select v0 v10 v21
  let c0_i32_9 : BitVec 32 := 0#32
  let c0_i32_10 : BitVec 32 := 0#32
  ![c0_i32_9.toNat, v22.toNat]

def cc0_transform_13 (i : grid0.Coords) : Fin 2 → Nat :=
  let arg0 : BitVec 32 := BitVec.ofNat 32 (i 0).val
  let c64_i32 : BitVec 32 := 64#32
  let v0 : BitVec 1 := Scalar.cmpi .slt arg0 c64_i32
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c64_i32_3 : BitVec 32 := 64#32
  let v11 : BitVec 32 := Scalar.subi arg0 c64_i32_3
  let c8_i32 : BitVec 32 := 8#32
  let c0_i32_4 : BitVec 32 := 0#32
  let v12 : BitVec 1 := Scalar.cmpi .eq c8_i32 c0_i32_4
  let c1_i32_5 : BitVec 32 := 1#32
  let v13 : BitVec 32 := Scalar.select v12 c1_i32_5 c8_i32
  let v14 : BitVec 32 := Scalar.remsi v11 v13
  let c0_i32_6 : BitVec 32 := 0#32
  let v15 : BitVec 1 := Scalar.cmpi .ne v14 c0_i32_6
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let v19 : BitVec 1 := Scalar.andi v18 v15
  let v20 : BitVec 32 := Scalar.addi v14 v13
  let v21 : BitVec 32 := Scalar.select v19 v20 v14
  let v22 : BitVec 32 := Scalar.select v0 v10 v21
  let c0_i32_9 : BitVec 32 := 0#32
  let c0_i32_10 : BitVec 32 := 0#32
  ![v22.toNat, c0_i32_9.toNat]

def cc0_transform_14 (i : grid0.Coords) : Fin 2 → Nat :=
  let arg0 : BitVec 32 := BitVec.ofNat 32 (i 0).val
  let c64_i32 : BitVec 32 := 64#32
  let v0 : BitVec 1 := Scalar.cmpi .slt arg0 c64_i32
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c64_i32_3 : BitVec 32 := 64#32
  let v11 : BitVec 32 := Scalar.subi arg0 c64_i32_3
  let c8_i32 : BitVec 32 := 8#32
  let c0_i32_4 : BitVec 32 := 0#32
  let v12 : BitVec 1 := Scalar.cmpi .eq c8_i32 c0_i32_4
  let c1_i32_5 : BitVec 32 := 1#32
  let v13 : BitVec 32 := Scalar.select v12 c1_i32_5 c8_i32
  let v14 : BitVec 32 := Scalar.remsi v11 v13
  let c0_i32_6 : BitVec 32 := 0#32
  let v15 : BitVec 1 := Scalar.cmpi .ne v14 c0_i32_6
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let v19 : BitVec 1 := Scalar.andi v18 v15
  let v20 : BitVec 32 := Scalar.addi v14 v13
  let v21 : BitVec 32 := Scalar.select v19 v20 v14
  let v22 : BitVec 32 := Scalar.select v0 v10 v21
  let c0_i32_9 : BitVec 32 := 0#32
  let c0_i32_10 : BitVec 32 := 0#32
  ![v22.toNat, c0_i32_9.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ProjectReferenceIdeal.lean ====
abbrev S32768x2048 : Shape := ⟨2, ![32768, 2048]⟩
abbrev S8192x2048 : Shape := ⟨2, ![8192, 2048]⟩
abbrev S4x8x2048 : Shape := ⟨3, ![4, 8, 2048]⟩
abbrev S1x2048 : Shape := ⟨2, ![1, 2048]⟩
abbrev S1024x2048 : Shape := ⟨2, ![1024, 2048]⟩
abbrev S2048x256 : Shape := ⟨2, ![2048, 256]⟩
abbrev S256x2048 : Shape := ⟨2, ![256, 2048]⟩
abbrev S2048x1024 : Shape := ⟨2, ![2048, 1024]⟩
abbrev S128x1 : Shape := ⟨2, ![128, 1]⟩
abbrev S1x128 : Shape := ⟨2, ![1, 128]⟩
abbrev S128x16384 : Shape := ⟨2, ![128, 16384]⟩
abbrev S16384x128 : Shape := ⟨2, ![16384, 128]⟩
abbrev S40960x2048 : Shape := ⟨2, ![40960, 2048]⟩
abbrev S_ : Shape := ⟨0, ![]⟩
abbrev S40960 : Shape := ⟨1, ![40960]⟩
abbrev S40960x1 : Shape := ⟨2, ![40960, 1]⟩
abbrev S4x1x2048 : Shape := ⟨3, ![4, 1, 2048]⟩
abbrev S4x2048 : Shape := ⟨2, ![4, 2048]⟩
abbrev S2x2048 : Shape := ⟨2, ![2, 2048]⟩
abbrev S2x1x2048 : Shape := ⟨3, ![2, 1, 2048]⟩
abbrev S2x16384x2048 : Shape := ⟨3, ![2, 16384, 2048]⟩
abbrev S2x4096x2048 : Shape := ⟨3, ![2, 4096, 2048]⟩
abbrev S40960x1024 : Shape := ⟨2, ![40960, 1024]⟩
abbrev S40960x8x128 : Shape := ⟨3, ![40960, 8, 128]⟩
abbrev S1x1x128 : Shape := ⟨3, ![1, 1, 128]⟩
abbrev S40960x8 : Shape := ⟨2, ![40960, 8]⟩
abbrev S40960x8x1 : Shape := ⟨3, ![40960, 8, 1]⟩
abbrev S1x16384x128 : Shape := ⟨3, ![1, 16384, 128]⟩
abbrev S2x16384x128 : Shape := ⟨3, ![2, 16384, 128]⟩
abbrev S32768x128 : Shape := ⟨2, ![32768, 128]⟩
abbrev S4096x128 : Shape := ⟨2, ![4096, 128]⟩
abbrev S1x4096x128 : Shape := ⟨3, ![1, 4096, 128]⟩
abbrev S2x4096x128 : Shape := ⟨3, ![2, 4096, 128]⟩
abbrev S8192x128 : Shape := ⟨2, ![8192, 128]⟩
abbrev S40960x128 : Shape := ⟨2, ![40960, 128]⟩
abbrev S40960x8x64 : Shape := ⟨3, ![40960, 8, 64]⟩
abbrev S40960x1x128 : Shape := ⟨3, ![40960, 1, 128]⟩
abbrev S40960x256 : Shape := ⟨2, ![40960, 256]⟩
abbrev S40960x2x128 : Shape := ⟨3, ![40960, 2, 128]⟩
abbrev S40960x2 : Shape := ⟨2, ![40960, 2]⟩
abbrev S40960x2x1 : Shape := ⟨3, ![40960, 2, 1]⟩
abbrev S40960x2x64 : Shape := ⟨3, ![40960, 2, 64]⟩
abbrev S1024x40960 : Shape := ⟨2, ![1024, 40960]⟩
abbrev S256x40960 : Shape := ⟨2, ![256, 40960]⟩

abbrev nBuf : Space → Nat
  | .hbm => 167
  | .vmem => 0
  | .smem => 0
  | _ => 0

abbrev hbmTy0_0 (i : Nat) : BufTy := match i % 128 with
  | 0 => ⟨S32768x2048, .f32⟩
  | 1 => ⟨S8192x2048, .f32⟩
  | 2 => ⟨S4x8x2048, .f32⟩
  | 3 => ⟨S1x2048, .f32⟩
  | 4 => ⟨S1024x2048, .bf16⟩
  | 5 => ⟨S2048x256, .bf16⟩
  | 6 => ⟨S256x2048, .bf16⟩
  | 7 => ⟨S2048x1024, .bf16⟩
  | 8 => ⟨S2048x1024, .bf16⟩
  | 9 => ⟨S128x1, .f32⟩
  | 10 => ⟨S1x128, .f32⟩
  | 11 => ⟨S128x16384, .f32⟩
  | 12 => ⟨S128x16384, .f32⟩
  | 13 => ⟨S16384x128, .f32⟩
  | 14 => ⟨S16384x128, .f32⟩
  | 15 => ⟨S40960x2048, .f32⟩
  | 16 => ⟨S40960x2048, .f32⟩
  | 17 => ⟨S_, .f32⟩
  | 18 => ⟨S40960, .f32⟩
  | 19 => ⟨S40960x1, .f32⟩
  | 20 => ⟨S_, .f32⟩
  | 21 => ⟨S40960x1, .f32⟩
  | 22 => ⟨S40960x1, .f32⟩
  | 23 => ⟨S_, .f32⟩
  | 24 => ⟨S40960x1, .f32⟩
  | 25 => ⟨S40960x1, .f32⟩
  | 26 => ⟨S40960x1, .f32⟩
  | 27 => ⟨S40960x2048, .f32⟩
  | 28 => ⟨S40960x2048, .f32⟩
  | 29 => ⟨S40960x2048, .f32⟩
  | 30 => ⟨S40960x2048, .f32⟩
  | 31 => ⟨S4x1x2048, .f32⟩
  | 32 => ⟨S4x2048, .f32⟩
  | 33 => ⟨S2x2048, .f32⟩
  | 34 => ⟨S2x1x2048, .f32⟩
  | 35 => ⟨S2x16384x2048, .f32⟩
  | 36 => ⟨S32768x2048, .f32⟩
  | 37 => ⟨S2x2048, .f32⟩
  | 38 => ⟨S2x1x2048, .f32⟩
  | 39 => ⟨S2x4096x2048, .f32⟩
  | 40 => ⟨S8192x2048, .f32⟩
  | 41 => ⟨S40960x2048, .f32⟩
  | 42 => ⟨S_, .f32⟩
  | 43 => ⟨S40960x2048, .f32⟩
  | 44 => ⟨S40960x2048, .f32⟩
  | 45 => ⟨S40960x2048, .f32⟩
  | 46 => ⟨S4x1x2048, .f32⟩
  | 47 => ⟨S4x2048, .f32⟩
  | 48 => ⟨S2x2048, .f32⟩
  | 49 => ⟨S2x1x2048, .f32⟩
  | 50 => ⟨S2x16384x2048, .f32⟩
  | 51 => ⟨S32768x2048, .f32⟩
  | 52 => ⟨S2x2048, .f32⟩
  | 53 => ⟨S2x1x2048, .f32⟩
  | 54 => ⟨S2x4096x2048, .f32⟩
  | 55 => ⟨S8192x2048, .f32⟩
  | 56 => ⟨S40960x2048, .f32⟩
  | 57 => ⟨S40960x2048, .f32⟩
  | 58 => ⟨S1024x2048, .f32⟩
  | 59 => ⟨S2048x1024, .f32⟩
  | 60 => ⟨S40960x1024, .f32⟩
  | 61 => ⟨S40960x8x128, .f32⟩
  | 62 => ⟨S1x1x128, .f32⟩
  | 63 => ⟨S40960x8x128, .f32⟩
  | 64 => ⟨S_, .f32⟩
  | 65 => ⟨S40960x8, .f32⟩
  | 66 => ⟨S40960x8x1, .f32⟩
  | 67 => ⟨S_, .f32⟩
  | 68 => ⟨S40960x8x1, .f32⟩
  | 69 => ⟨S40960x8x1, .f32⟩
  | 70 => ⟨S_, .f32⟩
  | 71 => ⟨S40960x8x1, .f32⟩
  | 72 => ⟨S40960x8x1, .f32⟩
  | 73 => ⟨S40960x8x1, .f32⟩
  | 74 => ⟨S40960x8x128, .f32⟩
  | 75 => ⟨S40960x8x128, .f32⟩
  | 76 => ⟨S40960x8x128, .f32⟩
  | 77 => ⟨S40960x8x128, .f32⟩
  | 78 => ⟨S16384x128, .f32⟩
  | 79 => ⟨S1x16384x128, .f32⟩
  | 80 => ⟨S2x16384x128, .f32⟩
  | 81 => ⟨S32768x128, .f32⟩
  | 82 => ⟨S4096x128, .f32⟩
  | 83 => ⟨S1x4096x128, .f32⟩
  | 84 => ⟨S2x4096x128, .f32⟩
  | 85 => ⟨S8192x128, .f32⟩
  | 86 => ⟨S40960x128, .f32⟩
  | 87 => ⟨S16384x128, .f32⟩
  | 88 => ⟨S1x16384x128, .f32⟩
  | 89 => ⟨S2x16384x128, .f32⟩
  | 90 => ⟨S32768x128, .f32⟩
  | 91 => ⟨S4096x128, .f32⟩
  | 92 => ⟨S1x4096x128, .f32⟩
  | 93 => ⟨S2x4096x128, .f32⟩
  | 94 => ⟨S8192x128, .f32⟩
  | 95 => ⟨S40960x128, .f32⟩
  | 96 => ⟨S40960x8x64, .f32⟩
  | 97 => ⟨S40960x8x64, .f32⟩
  | 98 => ⟨S40960x8x128, .f32⟩
  | 99 => ⟨S40960x1x128, .f32⟩
  | 100 => ⟨S40960x8x128, .f32⟩
  | 101 => ⟨S40960x8x128, .f32⟩
  | 102 => ⟨S40960x1x128, .f32⟩
  | 103 => ⟨S40960x8x128, .f32⟩
  | 104 => ⟨S40960x8x128, .f32⟩
  | 105 => ⟨S40960x8x128, .f32⟩
  | 106 => ⟨S2048x256, .f32⟩
  | 107 => ⟨S40960x256, .f32⟩
  | 108 => ⟨S40960x2x128, .f32⟩
  | 109 => ⟨S1x1x128, .f32⟩
  | 110 => ⟨S40960x2x128, .f32⟩
  | 111 => ⟨S_, .f32⟩
  | 112 => ⟨S40960x2, .f32⟩
  | 113 => ⟨S40960x2x1, .f32⟩
  | 114 => ⟨S_, .f32⟩
  | 115 => ⟨S40960x2x1, .f32⟩
  | 116 => ⟨S40960x2x1, .f32⟩
  | 117 => ⟨S_, .f32⟩
  | 118 => ⟨S40960x2x1, .f32⟩
  | 119 => ⟨S40960x2x1, .f32⟩
  | 120 => ⟨S40960x2x1, .f32⟩
  | 121 => ⟨S40960x2x128, .f32⟩
  | 122 => ⟨S40960x2x128, .f32⟩
  | 123 => ⟨S40960x2x128, .f32⟩
  | 124 => ⟨S40960x2x128, .f32⟩
  | 125 => ⟨S1x16384x128, .f32⟩
  | 126 => ⟨S2x16384x128, .f32⟩
  | 127 => ⟨S32768x128, .f32⟩
  | _ => ⟨S32768x2048, .f32⟩

abbrev hbmTy0_1 (i : Nat) : BufTy := match i % 128 with
  | 0 => ⟨S4096x128, .f32⟩
  | 1 => ⟨S1x4096x128, .f32⟩
  | 2 => ⟨S2x4096x128, .f32⟩
  | 3 => ⟨S8192x128, .f32⟩
  | 4 => ⟨S40960x128, .f32⟩
  | 5 => ⟨S1x16384x128, .f32⟩
  | 6 => ⟨S2x16384x128, .f32⟩
  | 7 => ⟨S32768x128, .f32⟩
  | 8 => ⟨S4096x128, .f32⟩
  | 9 => ⟨S1x4096x128, .f32⟩
  | 10 => ⟨S2x4096x128, .f32⟩
  | 11 => ⟨S8192x128, .f32⟩
  | 12 => ⟨S40960x128, .f32⟩
  | 13 => ⟨S40960x2x64, .f32⟩
  | 14 => ⟨S40960x2x64, .f32⟩
  | 15 => ⟨S40960x2x128, .f32⟩
  | 16 => ⟨S40960x1x128, .f32⟩
  | 17 => ⟨S40960x2x128, .f32⟩
  | 18 => ⟨S40960x2x128, .f32⟩
  | 19 => ⟨S40960x1x128, .f32⟩
  | 20 => ⟨S40960x2x128, .f32⟩
  | 21 => ⟨S40960x2x128, .f32⟩
  | 22 => ⟨S40960x2x128, .f32⟩
  | 23 => ⟨S256x2048, .f32⟩
  | 24 => ⟨S2048x256, .f32⟩
  | 25 => ⟨S40960x256, .f32⟩
  | 26 => ⟨S2048x1024, .f32⟩
  | 27 => ⟨S40960x1024, .f32⟩
  | 28 => ⟨S2048x1024, .f32⟩
  | 29 => ⟨S40960x1024, .f32⟩
  | 30 => ⟨S40960x1024, .f32⟩
  | 31 => ⟨S1024x40960, .f32⟩
  | 32 => ⟨S1024x40960, .bf16⟩
  | 33 => ⟨S40960x256, .f32⟩
  | 34 => ⟨S40960x256, .bf16⟩
  | 35 => ⟨S256x40960, .f32⟩
  | 36 => ⟨S256x40960, .bf16⟩
  | 37 => ⟨S40960x1024, .bf16⟩
  | 38 => ⟨S40960x1024, .bf16⟩
  | _ => ⟨S32768x2048, .f32⟩

abbrev hbmTy (i : Nat) : BufTy := match i / 128 with
  | 0 => hbmTy0_0 i
  | 1 => hbmTy0_1 i
  | _ => ⟨S32768x2048, .f32⟩

abbrev bufTy : (tb : Table) → Fin (tcTables nBuf tb) → BufTy
  | .hbm, ⟨i, _⟩ => hbmTy i
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_3 : Ref sig .tc := ⟨.hbm, 64, rfl⟩
abbrev main_v45 : Ref sig .tc := ⟨.hbm, 65, rfl⟩
abbrev main_v46 : Ref sig .tc := ⟨.hbm, 66, rfl⟩
abbrev main_cst_4 : Ref sig .tc := ⟨.hbm, 67, rfl⟩
abbrev main_v47 : Ref sig .tc := ⟨.hbm, 68, rfl⟩
abbrev main_v48 : Ref sig .tc := ⟨.hbm, 69, rfl⟩
abbrev main_cst_5 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_6 : Ref sig .tc := ⟨.hbm, 111, rfl⟩
abbrev main_v89 : Ref sig .tc := ⟨.hbm, 112, rfl⟩
abbrev main_v90 : Ref sig .tc := ⟨.hbm, 113, rfl⟩
abbrev main_cst_7 : Ref sig .tc := ⟨.hbm, 114, rfl⟩
abbrev main_v91 : Ref sig .tc := ⟨.hbm, 115, rfl⟩
abbrev main_v92 : Ref sig .tc := ⟨.hbm, 116, rfl⟩
abbrev main_cst_8 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩

abbrev nD : Nat := 1
abbrev τ : Topo := Topo.v7x

variable {F : FTy → Type} [FloatOps F]
-- ==== Proof.Flash.Base.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

/-! The buffers the attention body is handed, under short names. -/

@[expose] public section

noncomputable section

namespace Cert.KernelIdeal.Flash

open Cert.KernelIdeal Cert.KernelIdeal.Gen
open Idealize.ShloMosaic
open Idealize.ShloMosaic.TcCoe

/-- The four schedule tables and the one-word table, whole. -/
abbrev tb0 : Memref sig .tc .smem S272 .i32 := Memref.whole main_c
abbrev tb1 : Memref sig .tc .smem S272 .i32 := Memref.whole main_c_0
abbrev tb2 : Memref sig .tc .smem S272 .i32 := Memref.whole main_c_1
abbrev tb3 : Memref sig .tc .smem S272 .i32 := Memref.whole main_c_2
abbrev tb4 : Memref sig .tc .smem S1 .i32 := Memref.whole main_v12

/-- The five scratch buffers, whole: queries, running maximum, running sum, accumulator, weights kept back. -/
abbrev scQ : Memref sig .tc .vmem S128x4096 .bf16 := Memref.whole cc0_scratch0
abbrev scM : Memref sig .tc .vmem S1x4096 .f32 := Memref.whole cc0_scratch1
abbrev scL : Memref sig .tc .vmem S1x4096 .f32 := Memref.whole cc0_scratch2
abbrev scA : Memref sig .tc .vmem S128x4096 .f32 := Memref.whole cc0_scratch3
abbrev scP : Memref sig .tc .vmem S1024x4096 .bf16 := Memref.whole cc0_scratch4

/-- The flag word the body reads at the grid coordinates `i`. -/
abbrev flagOf {F : FTy → Type} [FloatOps F] (T3 : S272.Idx → Elt F .i32) (i : grid0.Coords) : BitVec 32 :=
  View.readAt (Elt F) tb3.view (Rect.unit (s := S272) (k0_off1 i) S1.size (k0_off1_inb i)).toLoadRect T3
    (Shape.Idx.first (numel1_S1.symm ▸ Nat.one_pos))

/-- The word that chooses between the two ways of computing the weights. -/
abbrev safeOf {F : FTy → Type} [FloatOps F] (T4 : S1.Idx → Elt F .i32) : BitVec 32 :=
  View.readAt (Elt F) tb4.view (Rect.unit (s := S1) ![0] S1.size inb_S1_S1_0).toLoadRect T4
    (Shape.Idx.first (numel1_S1.symm ▸ Nat.one_pos))

end Cert.KernelIdeal.Flash

end
-- ==== Proof.Flash.Step.lean ====
module

public import proofs.«01_k».proof.Proof.Flash.Base

@[expose] public section

noncomputable section

namespace Cert.KernelIdeal.Flash

open Cert.KernelIdeal Cert.KernelIdeal.Gen
open Idealize.ShloMosaic
open Idealize.ShloMosaic.TcCoe
open Idealize.ShloMosaic.View (ld canon readAt_eq_ld)

variable {F : FTy → Type} [FloatOps F]

/-- What the five scratch buffers hold between two grid points. -/
structure St (F : FTy → Type) [FloatOps F] where
  /-- the four query heads side by side, one column per query -/
  qs : S128x4096.Idx → Elt F .bf16
  /-- what is taken off a score before it is raised -/
  m : S1x4096.Idx → Elt F .f32
  /-- the weights summed so far -/
  l : S1x4096.Idx → Elt F .f32
  /-- the weighted values summed so far -/
  acc : S128x4096.Idx → Elt F .f32
  /-- the weights of the second half of the last key block -/
  p : S1024x4096.Idx → Elt F .bf16

/-- The first and the second half of the key block's rows. -/
abbrev kLo (x1 : S2048x128.Idx → Elt F .bf16) : S1024x128.Idx → Elt F .bf16 :=
  ld x1 (Rect.unit (s := S2048x128) ![0, 0] S1024x128.size inb_S2048x128_S1024x128_0_0)
abbrev kHi (x1 : S2048x128.Idx → Elt F .bf16) : S1024x128.Idx → Elt F .bf16 :=
  ld x1 (Rect.unit (s := S2048x128) ![1024, 0] S1024x128.size inb_S2048x128_S1024x128_1024_0)
/-- The first and the second half of the value block's columns. -/
abbrev vLo (x2 : S128x2048.Idx → Elt F .bf16) : S128x1024.Idx → Elt F .bf16 :=
  ld x2 (Rect.unit (s := S128x2048) ![0, 0] S128x1024.size inb_S128x2048_S128x1024_0_0)
abbrev vHi (x2 : S128x2048.Idx → Elt F .bf16) : S128x1024.Idx → Elt F .bf16 :=
  ld x2 (Rect.unit (s := S128x2048) ![0, 1024] S128x1024.size inb_S128x2048_S128x1024_0_1024)
/-- The one word of the bound on the keys' square length. -/
abbrev kmOf (x4 : S8x128.Idx → Elt F .f32) : S1x1.Idx → Elt F .f32 :=
  ld x4 (Rect.unit (s := S8x128) ![0, 0] S1x1.size inb_S8x128_S1x1_0_0)

/-- The query block's four heads laid side by side. -/
def qsOf (x0 : S512x1024.Idx → Elt F .bf16) : S128x4096.Idx → Elt F .bf16 :=
  canon [⟨Rect.unit (s := S128x4096) ![0, 3072] S128x1024.size inb_S128x4096_S128x1024_0_3072,
      k0_pay23 (ld x0 (Rect.unit (s := S512x1024) ![384, 0] S128x1024.size inb_S512x1024_S128x1024_384_0))⟩,
    ⟨Rect.unit (s := S128x4096) ![0, 2048] S128x1024.size inb_S128x4096_S128x1024_0_2048,
      k0_pay22 (ld x0 (Rect.unit (s := S512x1024) ![256, 0] S128x1024.size inb_S512x1024_S128x1024_256_0))⟩,
    ⟨Rect.unit (s := S128x4096) ![0, 1024] S128x1024.size inb_S128x4096_S128x1024_0_1024,
      k0_pay21 (ld x0 (Rect.unit (s := S512x1024) ![128, 0] S128x1024.size inb_S512x1024_S128x1024_128_0))⟩,
    ⟨Rect.unit (s := S128x4096) ![0, 0] S128x1024.size inb_S128x4096_S128x1024_0_0,
      k0_pay20 (ld x0 (Rect.unit (s := S512x1024) ![0, 0] S128x1024.size inb_S512x1024_S128x1024_0_0))⟩]

/-- The output block: the weighted values over the weights, head by head. -/
def outOf (acc : S128x4096.Idx → Elt F .f32) (l : S1x4096.Idx → Elt F .f32) : S1024x512.Idx → Elt F .bf16 :=
  canon [⟨Rect.unit (s := S1024x512) ![0, 384] S1024x128.size inb_S1024x512_S1024x128_0_384, k0_pay16 acc l⟩,
    ⟨Rect.unit (s := S1024x512) ![0, 256] S1024x128.size inb_S1024x512_S1024x128_0_256, k0_pay15 acc l⟩,
    ⟨Rect.unit (s := S1024x512) ![0, 128] S1024x128.size inb_S1024x512_S1024x128_0_128, k0_pay14 acc l⟩,
    ⟨Rect.unit (s := S1024x512) ![0, 0] S1024x128.size inb_S1024x512_S1024x128_0_0, k0_pay13 acc l⟩]

/-- The state a run of key blocks starts from. -/
def St.init (sw : BitVec 32) (x0 : S512x1024.Idx → Elt F .bf16) (x4 : S8x128.Idx → Elt F .f32) : St F :=
  ⟨qsOf x0, k0_pay1 sw (qsOf x0) (kmOf x4), k0_pay17, k0_pay18, k0_pay19⟩

/-- One key block with the bound fixed: the second half's weights are kept back. -/
def St.fast (s : St F) (x1 : S2048x128.Idx → Elt F .bf16) (x2 : S128x2048.Idx → Elt F .bf16)
    (x3 : S128x1024.Idx → Elt F .bf16) : St F :=
  ⟨s.qs, s.m, k0_pay2 (k0_pay27 s.qs s.m (kLo x1) (kHi x1) s.l), k0_pay25 s.qs s.m (kLo x1) s.acc x3 s.p (vLo x2),
    k0_pay3 (k0_pay26 s.qs s.m (kHi x1))⟩

/-- The weights kept back are spent. -/
def St.flush (s : St F) (x2 : S128x2048.Idx → Elt F .bf16) : St F :=
  ⟨s.qs, s.m, s.l, k0_pay4 s.acc (vHi x2) s.p, s.p⟩

/-- One key block with the running maximum. -/
def St.online (s : St F) (x1 : S2048x128.Idx → Elt F .bf16) (x2 : S128x2048.Idx → Elt F .bf16) : St F :=
  ⟨s.qs, k0_pay11 x1 s.qs s.m, k0_pay9 x1 s.qs s.m s.l, k0_pay10 x1 s.qs s.m s.acc x2, s.p⟩

/-- A load of a whole buffer of known contents. -/
theorem readAt_full {κ : Kind} {sp : Space} {s : Shape} {e : EltTy} (v : View sig κ sp s e) (f : v.ty.Contents (Elt F))
    {off : Fin s.rank → ℕ} (h : ∀ a, off a = 0) (inb : ∀ a, off a + s.size a ≤ s.size a) :
    v.readAt (Elt F) (Rect.unit off s.size inb).toLoadRect f = v.read (Elt F) f := by
  rw [readAt_eq_ld]
  funext y
  refine congrArg (v.read (Elt F) f) (funext fun a => Fin.ext ?_)
  show off a + 1 * (y a).val = (y a).val
  rw [h a]; omega

/-- A load of a part of a block of known contents. -/
theorem readAt_rep {κ : Kind} {sp : Space} {s : Shape} {e : EltTy} (v : View sig κ sp s e) (x : s.Idx → Elt F e) (r : Rect s) :
    v.readAt (Elt F) r.toLoadRect (v.rep x) = ld x r := by
  rw [readAt_eq_ld, View.read_rep]

/-- A load of a whole block of known contents. -/
theorem readAt_rep_full {κ : Kind} {sp : Space} {s : Shape} {e : EltTy} (v : View sig κ sp s e) (x : s.Idx → Elt F e)
    {off : Fin s.rank → ℕ} (h : ∀ a, off a = 0) (inb : ∀ a, off a + s.size a ≤ s.size a) :
    v.readAt (Elt F) (Rect.unit off s.size inb).toLoadRect (v.rep x) = x := by
  rw [readAt_full v _ h, View.read_rep]

/-- What a store of a whole buffer leaves reads as what was stored. -/
theorem read_writes_full {κ : Kind} {sp : Space} {s : Shape} {e : EltTy} (v : View sig κ sp s e) (f : v.ty.Contents (Elt F))
    {off : Fin s.rank → ℕ} (h : ∀ a, off a = 0) (inb : ∀ a, off a + s.size a ≤ s.size a) (w : s.Idx → Elt F e)
    (L : List (View.Piece (Elt F) s e)) :
    v.read (Elt F) (v.writes (Elt F) f (⟨Rect.unit off s.size inb, w⟩ :: L)) = w := by
  funext y
  have hr := View.read_writes_cons_emb (v := v) (f := f) (Rect.unit off s.size inb) w L y
  have hy : (Rect.unit off s.size inb).emb y = y := by
    funext a
    refine Fin.ext ?_
    show off a + 1 * (y a).val = (y a).val
    rw [h a]; omega
  rwa [hy] at hr

/-- Four pieces written over anything read as the pieces do, when the four loads they hold are known. -/
theorem qs_canon {κ : Kind} {sp : Space} (v : View sig κ sp S512x1024 .bf16) (x0 : S512x1024.Idx → Elt F .bf16) :
    canon [(⟨Rect.unit (s := S128x4096) ![0, 3072] S128x1024.size inb_S128x4096_S128x1024_0_3072,
      k0_pay23 (v.readAt (Elt F) (Rect.unit (s := S512x1024) ![384, 0] S128x1024.size inb_S512x1024_S128x1024_384_0).toLoadRect (v.rep x0))⟩ : View.Piece (Elt F) S128x4096 .bf16),
    ⟨Rect.unit (s := S128x4096) ![0, 2048] S128x1024.size inb_S128x4096_S128x1024_0_2048,
      k0_pay22 (v.readAt (Elt F) (Rect.unit (s := S512x1024) ![256, 0] S128x1024.size inb_S512x1024_S128x1024_256_0).toLoadRect (v.rep x0))⟩,
    ⟨Rect.unit (s := S128x4096) ![0, 1024] S128x1024.size inb_S128x4096_S128x1024_0_1024,
      k0_pay21 (v.readAt (Elt F) (Rect.unit (s := S512x1024) ![128, 0] S128x1024.size inb_S512x1024_S128x1024_128_0).toLoadRect (v.rep x0))⟩,
    ⟨Rect.unit (s := S128x4096) ![0, 0] S128x1024.size inb_S128x4096_S128x1024_0_0,
      k0_pay20 (v.readAt (Elt F) (Rect.unit (s := S512x1024) ![0, 0] S128x1024.size inb_S512x1024_S128x1024_0_0).toLoadRect (v.rep x0))⟩] = qsOf x0 := by
  unfold qsOf
  rw [readAt_rep, readAt_rep, readAt_rep, readAt_rep]

/-- A load of a whole buffer after stores reads what the stores leave. -/
theorem readCov_full {κ : Kind} {sp : Space} {s : Shape} {e : EltTy} (v : View sig κ sp s e) (L : List (View.Piece (Elt F) s e))
    {off : Fin s.rank → ℕ} (h : ∀ a, off a = 0) (inb : ∀ a, off a + s.size a ≤ s.size a) :
    v.readCov L (Rect.unit off s.size inb).toLoadRect = canon L := by
  rw [View.readCov_eq_canon']
  funext y
  refine congrArg (canon L) (funext fun a => Fin.ext ?_)
  show off a + 1 * (y a).val = (y a).val
  rw [h a]; omega

/-- The last store of a whole buffer is what the stores leave. -/
theorem canon_full {s : Shape} {e : EltTy} (L : List (View.Piece (Elt F) s e))
    {off : Fin s.rank → ℕ} (h : ∀ a, off a = 0) (inb : ∀ a, off a + s.size a ≤ s.size a) (w : s.Idx → Elt F e) :
    canon (⟨Rect.unit off s.size inb, w⟩ :: L) = w := by
  funext y
  have hr := View.canon_cons_emb (Rect.unit off s.size inb) w L y
  have hy : (Rect.unit off s.size inb).emb y = y := by
    funext a
    refine Fin.ext ?_
    show off a + 1 * (y a).val = (y a).val
    rw [h a]; omega
  rwa [hy] at hr

theorem zero2 : ∀ a : Fin 2, (![0, 0] : Fin 2 → ℕ) a = 0 := by decide

end Cert.KernelIdeal.Flash

end
-- ==== Proof.Flash.Scr.lean ====
module

public import proofs.«01_k».proof.Proof.Flash.Step

@[expose] public section

noncomputable section

namespace Cert.KernelIdeal.Flash

open Cert.KernelIdeal Cert.KernelIdeal.Gen
open Idealize.ShloMosaic
open Idealize.ShloMosaic.TcCoe
open Idealize.ShloMosaic.View (ld canon)

variable {F : FTy → Type} [FloatOps F]

/-! What a list of stores leaves in a scratch buffer, and what a load of a whole scratch buffer reads. -/

theorem scQ_writes (L : List (View.Piece (Elt F) S128x4096 .bf16)) :
    scQ.view.writes (Elt F) scQ.view.junk L = canon L := View.read_writes_junk_eq_canon scQ.view L
theorem scM_writes (L : List (View.Piece (Elt F) S1x4096 .f32)) :
    scM.view.writes (Elt F) scM.view.junk L = canon L := View.read_writes_junk_eq_canon scM.view L
theorem scL_writes (L : List (View.Piece (Elt F) S1x4096 .f32)) :
    scL.view.writes (Elt F) scL.view.junk L = canon L := View.read_writes_junk_eq_canon scL.view L
theorem scA_writes (L : List (View.Piece (Elt F) S128x4096 .f32)) :
    scA.view.writes (Elt F) scA.view.junk L = canon L := View.read_writes_junk_eq_canon scA.view L
theorem scP_writes (L : List (View.Piece (Elt F) S1024x4096 .bf16)) :
    scP.view.writes (Elt F) scP.view.junk L = canon L := View.read_writes_junk_eq_canon scP.view L

theorem scQ_readAt (f : S128x4096.Idx → Elt F .bf16) (inb) :
    scQ.view.readAt (Elt F) (Rect.unit (s := S128x4096) ![0, 0] S128x4096.size inb).toLoadRect f = f := readAt_full scQ.view f zero2 inb
theorem scM_readAt (f : S1x4096.Idx → Elt F .f32) (inb) :
    scM.view.readAt (Elt F) (Rect.unit (s := S1x4096) ![0, 0] S1x4096.size inb).toLoadRect f = f := readAt_full scM.view f zero2 inb
theorem scL_readAt (f : S1x4096.Idx → Elt F .f32) (inb) :
    scL.view.readAt (Elt F) (Rect.unit (s := S1x4096) ![0, 0] S1x4096.size inb).toLoadRect f = f := readAt_full scL.view f zero2 inb
theorem scA_readAt (f : S128x4096.Idx → Elt F .f32) (inb) :
    scA.view.readAt (Elt F) (Rect.unit (s := S128x4096) ![0, 0] S128x4096.size inb).toLoadRect f = f := readAt_full scA.view f zero2 inb
theorem scP_readAt (f : S1024x4096.Idx → Elt F .bf16) (inb) :
    scP.view.readAt (Elt F) (Rect.unit (s := S1024x4096) ![0, 0] S1024x4096.size inb).toLoadRect f = f := readAt_full scP.view f zero2 inb

/-- The output's four stores, when what they divide is known. -/
theorem out_congr {a A : S128x4096.Idx → Elt F .f32} {l L : S1x4096.Idx → Elt F .f32} (ha : a = A) (hl : l = L) :
    canon [(⟨Rect.unit (s := S1024x512) ![0, 384] S1024x128.size inb_S1024x512_S1024x128_0_384, k0_pay16 a l⟩ : View.Piece (Elt F) S1024x512 .bf16),
      ⟨Rect.unit (s := S1024x512) ![0, 256] S1024x128.size inb_S1024x512_S1024x128_0_256, k0_pay15 a l⟩,
      ⟨Rect.unit (s := S1024x512) ![0, 128] S1024x128.size inb_S1024x512_S1024x128_0_128, k0_pay14 a l⟩,
      ⟨Rect.unit (s := S1024x512) ![0, 0] S1024x128.size inb_S1024x512_S1024x128_0_0, k0_pay13 a l⟩] = outOf A L := by
  rw [ha, hl]; rfl

section

variable {α β γ δ ε ζ η θ : Type}

/-! Equal arguments give equal values, for the payloads' arities. -/

theorem cg3 (f : α → β → γ → δ) {a a' b b' c c'} (h₁ : a = a') (h₂ : b = b') (h₃ : c = c') : f a b c = f a' b' c' := by rw [h₁, h₂, h₃]
theorem cg4 (f : α → β → γ → δ → ε) {a a' b b' c c' d d'} (h₁ : a = a') (h₂ : b = b') (h₃ : c = c') (h₄ : d = d') :
    f a b c d = f a' b' c' d' := by rw [h₁, h₂, h₃, h₄]
theorem cg5 (f : α → β → γ → δ → ε → ζ) {a a' b b' c c' d d' e e'} (h₁ : a = a') (h₂ : b = b') (h₃ : c = c') (h₄ : d = d') (h₅ : e = e') :
    f a b c d e = f a' b' c' d' e' := by rw [h₁, h₂, h₃, h₄, h₅]
theorem cg7 (f : α → β → γ → δ → ε → ζ → η → θ) {a a' b b' c c' d d' e e' g g' k k'} (h₁ : a = a') (h₂ : b = b') (h₃ : c = c')
    (h₄ : d = d') (h₅ : e = e') (h₆ : g = g') (h₇ : k = k') : f a b c d e g k = f a' b' c' d' e' g' k' := by
  rw [h₁, h₂, h₃, h₄, h₅, h₆, h₇]

end

end Cert.KernelIdeal.Flash

end
-- ==== Proof.Flash.Run.lean ====
module

public import proofs.«01_k».proof.Proof.Flash.Scr

@[expose] public section

set_option maxRecDepth 16384
set_option Elab.async false

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (ld canon)

variable {F : FTy → Type} [FloatOps F]

local notation "𝕄" => MT nD τ sig Unit (Elt F) ℕ (UR sig nD τ) ℕ

/-- The state after one grid point: its flag word and the choice word say which of the body's parts run. -/
def St.next (s : St F) (fw sw : BitVec 32) (x0 : S512x1024.Idx → Elt F .bf16) (x1 : S2048x128.Idx → Elt F .bf16)
    (x2 : S128x2048.Idx → Elt F .bf16) (x3 : S128x1024.Idx → Elt F .bf16) (x4 : S8x128.Idx → Elt F .f32) : St F :=
  let s' := if fw = 1#32 then St.init sw x0 x4 else s
  if sw = 0#32 then s'.online x1 x2
  else if fw = 2#32 then (s'.fast x1 x2 x3).flush x2 else s'.fast x1 x2 x3

/-- The output block after one grid point: written at the last point of a run of key blocks. -/
def outNext (y : S1024x512.Idx → Elt F .bf16) (fw : BitVec 32) (s' : St F) : S1024x512.Idx → Elt F .bf16 :=
  if fw = 2#32 then outOf s'.acc s'.l else y

/-! The body's five conditions, decided by the flag word `w` (0, 1 or 2) and the choice word `sw`. -/

/-- Whether the point is the first of its run of key blocks. -/
abbrev cFirst (w : BitVec 32) : BitVec 1 := Scalar.cmpi .ne (Scalar.extui (Scalar.cmpi .ne (Scalar.andi w 1#32) 0#32) : BitVec 32) 0#32
/-- Whether the bound is fixed. -/
abbrev cFast (sw : BitVec 32) : BitVec 1 := Scalar.cmpi .ne (Scalar.extui (Scalar.cmpi .ne sw 0#32) : BitVec 32) 0#32
/-- Whether the weights kept back are spent. -/
abbrev cFlush (w sw : BitVec 32) : BitVec 1 :=
  Scalar.cmpi .ne (Scalar.extui (Scalar.andi (Scalar.cmpi .ne sw 0#32) (Scalar.cmpi .ne (Scalar.andi w 2#32) 0#32)) : BitVec 32) 0#32
/-- Whether the maximum runs. -/
abbrev cOnline (sw : BitVec 32) : BitVec 1 := Scalar.cmpi .ne (Scalar.extui (Scalar.xori (Scalar.cmpi .ne sw 0#32) 1#1) : BitVec 32) 0#32

theorem ne_word {sw : BitVec 32} (h : sw ≠ 0#32) : Scalar.cmpi .ne sw 0#32 = 1#1 := by
  show BitVec.ofBool (sw != 0#32) = 1#1
  rw [bne_iff_ne.2 h]; rfl
theorem first_1 {w : BitVec 32} (h : w = 1#32) : cFirst w = 1#1 := by rw [h]; decide
theorem first_0 {w : BitVec 32} (h : w = 0#32) : ¬ cFirst w = 1#1 := by rw [h]; decide
theorem first_2 {w : BitVec 32} (h : w = 2#32) : ¬ cFirst w = 1#1 := by rw [h]; decide
theorem last_1 {w : BitVec 32} (h : w = 1#32) : ¬ k0_cond5 w = 1#1 := by rw [h]; decide
theorem last_0 {w : BitVec 32} (h : w = 0#32) : ¬ k0_cond5 w = 1#1 := by rw [h]; decide
theorem last_2 {w : BitVec 32} (h : w = 2#32) : k0_cond5 w = 1#1 := by rw [h]; decide
theorem fast_n {sw : BitVec 32} (h : sw ≠ 0#32) : cFast sw = 1#1 := by unfold cFast; rw [ne_word h]; decide
theorem fast_z {sw : BitVec 32} (h : sw = 0#32) : ¬ cFast sw = 1#1 := by rw [h]; decide
theorem online_n {sw : BitVec 32} (h : sw ≠ 0#32) : ¬ cOnline sw = 1#1 := by unfold cOnline; rw [ne_word h]; decide
theorem online_z {sw : BitVec 32} (h : sw = 0#32) : cOnline sw = 1#1 := by rw [h]; decide
theorem flush_1 {w sw : BitVec 32} (h : w = 1#32) (hs : sw ≠ 0#32) : ¬ cFlush w sw = 1#1 := by unfold cFlush; rw [h, ne_word hs]; decide
theorem flush_0 {w sw : BitVec 32} (h : w = 0#32) (hs : sw ≠ 0#32) : ¬ cFlush w sw = 1#1 := by unfold cFlush; rw [h, ne_word hs]; decide
theorem flush_2 {w sw : BitVec 32} (h : w = 2#32) (hs : sw ≠ 0#32) : cFlush w sw = 1#1 := by unfold cFlush; rw [h, ne_word hs]; decide
theorem flush_1z {w sw : BitVec 32} (h : w = 1#32) (hs : sw = 0#32) : ¬ cFlush w sw = 1#1 := by unfold cFlush; rw [h, hs]; decide
theorem flush_0z {w sw : BitVec 32} (h : w = 0#32) (hs : sw = 0#32) : ¬ cFlush w sw = 1#1 := by unfold cFlush; rw [h, hs]; decide
theorem flush_2z {w sw : BitVec 32} (h : w = 2#32) (hs : sw = 0#32) : ¬ cFlush w sw = 1#1 := by unfold cFlush; rw [h, hs]; decide

section

variable (c : Dev nD) (i : grid0.Coords)
  (a7 : Memref sig .tc .vmem S512x1024 .bf16) (h7 : a7.IsWhole) (a8 : Memref sig .tc .vmem S2048x128 .bf16) (h8 : a8.IsWhole)
  (a9 : Memref sig .tc .vmem S128x2048 .bf16) (h9 : a9.IsWhole) (a10 : Memref sig .tc .vmem S128x1024 .bf16) (h10 : a10.IsWhole)
  (a11 : Memref sig .tc .vmem S8x128 .f32) (h11 : a11.IsWhole) (a12 : Memref sig .tc .vmem S1024x512 .bf16) (h12 : a12.IsWhole)
  (T0 T1 T2 T3 : S272.Idx → Elt F .i32) (T4 : S1.Idx → Elt F .i32)
  (x0 : S512x1024.Idx → Elt F .bf16) (x1 : S2048x128.Idx → Elt F .bf16) (x2 : S128x2048.Idx → Elt F .bf16)
  (x3 : S128x1024.Idx → Elt F .bf16) (x4 : S8x128.Idx → Elt F .f32)

/-- What the body only reads: the five input blocks and its halves of the tables. -/
def inputs : sProp 𝕄 :=
  iprop((a7.view.loc (c : Thread nD τ) ↦[a7.view.set]{fullShare} a7.view.rep x0)
    ∗ (a8.view.loc (c : Thread nD τ) ↦[a8.view.set]{fullShare} a8.view.rep x1)
    ∗ (a9.view.loc (c : Thread nD τ) ↦[a9.view.set]{fullShare} a9.view.rep x2)
    ∗ (a10.view.loc (c : Thread nD τ) ↦[a10.view.set]{fullShare} a10.view.rep x3)
    ∗ (a11.view.loc (c : Thread nD τ) ↦[a11.view.set]{fullShare} a11.view.rep x4)
    ∗ (tb0.view.loc (c : Thread nD τ) ↦{fullShare.right} T0)
    ∗ (tb1.view.loc (c : Thread nD τ) ↦{fullShare.right} T1)
    ∗ (tb2.view.loc (c : Thread nD τ) ↦{fullShare.right} T2)
    ∗ (tb3.view.loc (c : Thread nD τ) ↦{fullShare.right} T3)
    ∗ (tb4.view.loc (c : Thread nD τ) ↦{fullShare.right} T4))

/-- The five scratch buffers at a state. -/
def scratch (s : St F) : sProp 𝕄 :=
  iprop((scQ.view.loc (c : Thread nD τ) ↦{fullShare} s.qs) ∗ (scM.view.loc (c : Thread nD τ) ↦{fullShare} s.m)
    ∗ (scL.view.loc (c : Thread nD τ) ↦{fullShare} s.l) ∗ (scA.view.loc (c : Thread nD τ) ↦{fullShare} s.acc)
    ∗ (scP.view.loc (c : Thread nD τ) ↦{fullShare} s.p))

/-- The body at grid coordinates `i`. -/
abbrev body : Prog (TpuEff nD τ sig (Elt F) Λ₀ .tc) PUnit :=
  cc0_flash i tb0 (Memref.isWhole_whole _) tb1 (Memref.isWhole_whole _) tb2 (Memref.isWhole_whole _) tb3 (Memref.isWhole_whole _) tb4 (Memref.isWhole_whole _) a7 h7 a8 h8 a9 h9 a10 h10 a11 h11 a12 h12 scQ (Memref.isWhole_whole _) scM (Memref.isWhole_whole _) scL (Memref.isWhole_whole _) scA (Memref.isWhole_whole _) scP (Memref.isWhole_whole _)

/-- Contents equal to others are as good. -/
theorem ptr_of_eq {l : Loc nD τ sig} {q : PosShare TreeShare} {f g : Buf (Elt F) l} (h : f = g) :
    ((l ↦{q} f) : sProp 𝕄) ⊢ (l ↦{q} g) := by rw [h]

/-- A buffer held by its own elements, which reads `y`, is owned at `y`. -/
theorem owns_of_read {sp : Space} {s : Shape} {e : EltTy} (a : Memref sig .tc sp s e) {f : a.view.ty.Contents (Elt F)}
    {y : s.Idx → Elt F e} (h : a.view.read (Elt F) f = y) :
    ((a.view.loc (c : Thread nD τ) ↦[a.view.set]{fullShare} f) : sProp 𝕄) ⊢ owns (c : Thread nD τ) a fullShare y := by
  unfold owns
  iintro H
  iexists f
  isplitr
  · ipureintro; exact h
  iexact H

set_option maxHeartbeats 16000000 in
/-- THE BODY at a grid point, whatever its flag word (0, 1 or 2) and the choice word: from the input blocks, the output
    block and the state, it leaves the inputs as they were, the state one step on and the output block written if the
    point is the last of its run. -/
theorem run_body (s : St F) (hf : flagOf T3 i = 1#32 ∨ flagOf T3 i = 0#32 ∨ flagOf T3 i = 2#32)
    (y : S1024x512.Idx → Elt F .bf16) (K : PUnit → sProp 𝕄) :
    iprop(inputs c a7 a8 a9 a10 a11 T0 T1 T2 T3 T4 x0 x1 x2 x3 x4 ∗ owns (c : Thread nD τ) a12 fullShare y ∗ scratch c s
          ∗ (iprop(inputs c a7 a8 a9 a10 a11 T0 T1 T2 T3 T4 x0 x1 x2 x3 x4
              ∗ owns (c : Thread nD τ) a12 fullShare (outNext y (flagOf T3 i) (s.next (flagOf T3 i) (safeOf T4) x0 x1 x2 x3 x4))
              ∗ scratch c (s.next (flagOf T3 i) (safeOf T4) x0 x1 x2 x3 x4)) -∗ K ⟨⟩))
      ⊢ wp frame (wpE (defs₀ (F := F)) Variants.none c none) Set.univ (body i a7 h7 a8 h8 a9 h9 a10 h10 a11 h11 a12 h12) K := by
  have hS0 : scQ.IsWhole := Memref.isWhole_whole _
  have hS1 : scM.IsWhole := Memref.isWhole_whole _
  have hS2 : scL.IsWhole := Memref.isWhole_whole _
  have hS3 : scA.IsWhole := Memref.isWhole_whole _
  have hS4 : scP.IsWhole := Memref.isWhole_whole _
  have hT0 : tb0.IsWhole := Memref.isWhole_whole _
  have hT1 : tb1.IsWhole := Memref.isWhole_whole _
  have hT2 : tb2.IsWhole := Memref.isWhole_whole _
  have hT3 : tb3.IsWhole := Memref.isWhole_whole _
  have hT4 : tb4.IsWhole := Memref.isWhole_whole _
  have key : ∀ s' : St F, s' = s.next (flagOf T3 i) (safeOf T4) x0 x1 x2 x3 x4 → ∀ y', y' = outNext y (flagOf T3 i) s' →
      iprop(inputs c a7 a8 a9 a10 a11 T0 T1 T2 T3 T4 x0 x1 x2 x3 x4 ∗ owns (c : Thread nD τ) a12 fullShare y ∗ scratch c s
          ∗ (iprop(inputs c a7 a8 a9 a10 a11 T0 T1 T2 T3 T4 x0 x1 x2 x3 x4
              ∗ owns (c : Thread nD τ) a12 fullShare y' ∗ scratch c s') -∗ K ⟨⟩))
      ⊢ wp frame (wpE (defs₀ (F := F)) Variants.none c none) Set.univ (body i a7 h7 a8 h8 a9 h9 a10 h10 a11 h11 a12 h12) K := by
    intro s' e' y' ey
    unfold St.next at e'
    unfold outNext at ey
    rcases hf with hf | hf | hf <;> by_cases hs : safeOf T4 = 0#32
    all_goals
      simp only [hf, hs, reduceIte, BitVec.reduceEq] at e' ey
      first | have hc0 := first_1 hf | have hc0 := first_0 hf | have hc0 := first_2 hf
      first | have hc1 := fast_n hs | have hc1 := fast_z hs
      first | have hc2 := flush_1 hf hs | have hc2 := flush_0 hf hs | have hc2 := flush_2 hf hs | have hc2 := flush_1z hf hs | have hc2 := flush_0z hf hs | have hc2 := flush_2z hf hs
      first | have hc3 := online_n hs | have hc3 := online_z hs
      first | have h5 := last_1 hf | have h5 := last_0 hf | have h5 := last_2 hf
      subst e' ey
      unfold owns inputs scratch body
      rw [cc0_flash_eq_skeleton]; unfold cc0_flash_skel
      iintro ⟨⟨H0, H1, H2, H3, H4, HT0, HT1, HT2, HT3, HT4⟩, ⟨%f5, %hf5, HO5⟩, ⟨HS0, HS1, HS2, HS3, HS4⟩, Hk⟩
      obtain rfl := h12.eq_unread hf5
      sl_exec! (disch := first | (guard_target = ¬(k0_cond5 _ = _); exact h5) | (guard_target = k0_cond5 _ = _; exact h5) | (clear hf hc0 hc2 h5 T3; first | exact hc1 | exact hc3) | (clear hs hc1 hc2 hc3 T4; exact hc0) | exact hc2)
      sl_step
      iapply Hk
      isplitl [H0 H1 H2 H3 H4 HT0 HT1 HT2 HT3 HT4]
      · isplitl [H0]; · iexact H0
        isplitl [H1]; · iexact H1
        isplitl [H2]; · iexact H2
        isplitl [H3]; · iexact H3
        isplitl [H4]; · iexact H4
        isplitl [HT0]; · iexact HT0
        isplitl [HT1]; · iexact HT1
        isplitl [HT2]; · iexact HT2
        isplitl [HT3]; · iexact HT3
        iexact HT4
      isplitl [HO5]
      · iexists _
        isplitr; swap
        · iexact HO5
        ipureintro
        first | exact h12.read_unread _ | rw [View.read_writes_junk_eq_canon]
        all_goals dsimp only [St.init, St.fast, St.flush, St.online]
        repeat' first
          | (guard_target = _ = 0#32; exact hs)
          | with_reducible rfl
          | (guard_target = canon (Val := Elt F) _ = qsOf (F := F) _; exact qs_canon _ _)
          | (guard_target = _ = qsOf (F := F) _; exact (readCov_full _ _ zero2 _).trans (qs_canon _ _))
          | (guard_target = _ = kLo (F := F) _; exact readAt_rep _ _ _)
          | (guard_target = _ = kHi (F := F) _; exact readAt_rep _ _ _)
          | (guard_target = _ = vLo (F := F) _; exact readAt_rep _ _ _)
          | (guard_target = _ = vHi (F := F) _; exact readAt_rep _ _ _)
          | (guard_target = _ = kmOf (F := F) _; exact readAt_rep _ _ _)
          | (guard_target = _ = x1; exact readAt_rep_full _ _ zero2 _)
          | (guard_target = _ = x2; exact readAt_rep_full _ _ zero2 _)
          | (guard_target = _ = x3; exact readAt_rep_full _ _ zero2 _)
          | (guard_target = _ = St.qs (F := F) _; exact scQ_readAt _ _)
          | (guard_target = _ = St.m (F := F) _; exact scM_readAt _ _)
          | (guard_target = _ = St.l (F := F) _; exact scL_readAt _ _)
          | (guard_target = _ = St.acc (F := F) _; exact scA_readAt _ _)
          | (guard_target = _ = St.p (F := F) _; exact scP_readAt _ _)
          | (guard_target = _ = safeOf (F := F) _; rfl)
          | (guard_target = k0_pay1 (F := F) _ _ _ = _; refine cg3 k0_pay1 ?_ ?_ ?_)
          | (guard_target = k0_pay2 (F := F) _ = _; refine congrArg k0_pay2 (cg5 k0_pay27 ?_ ?_ ?_ ?_ ?_))
          | (guard_target = k0_pay3 (F := F) _ = _; refine congrArg k0_pay3 (cg3 k0_pay26 ?_ ?_ ?_))
          | (guard_target = k0_pay4 (F := F) _ _ _ = _; refine cg3 k0_pay4 ?_ ?_ ?_)
          | (guard_target = k0_pay9 (F := F) _ _ _ _ = _; refine cg4 k0_pay9 ?_ ?_ ?_ ?_)
          | (guard_target = k0_pay10 (F := F) _ _ _ _ _ = _; refine cg5 k0_pay10 ?_ ?_ ?_ ?_ ?_)
          | (guard_target = k0_pay11 (F := F) _ _ _ = _; refine cg3 k0_pay11 ?_ ?_ ?_)
          | (guard_target = k0_pay25 (F := F) _ _ _ _ _ _ _ = _; refine cg7 k0_pay25 ?_ ?_ ?_ ?_ ?_ ?_ ?_)
          | (guard_target = canon (Val := Elt F) _ = outOf (F := F) _ _; refine out_congr ?_ ?_)
          | (guard_target = canon (Val := Elt F) _ = _; refine (canon_full _ zero2 _ _).trans ?_)
          | refine (readCov_full _ _ zero2 _).trans ?_
      dsimp only [St.init, St.fast, St.flush, St.online]
      isplitl [HS0]
      · iapply (ptr_of_eq _); swap
        · iexact HS0
        first
          | with_reducible rfl
          | (rw [scQ_writes]; exact qs_canon a7.view x0)
      isplitl [HS1]
      · iapply (ptr_of_eq _); swap
        · iexact HS1
        first | with_reducible rfl | rw [scM_writes]
        try (guard_target = _ = k0_pay11 (F := F) _ _ _; refine (canon_full _ zero2 _ _).trans (cg3 k0_pay11 ?_ ?_ ?_))
        repeat' first
          | (guard_target = _ = 0#32; exact hs)
          | with_reducible rfl
          | (guard_target = canon (Val := Elt F) _ = qsOf (F := F) _; exact qs_canon _ _)
          | (guard_target = _ = qsOf (F := F) _; exact (readCov_full _ _ zero2 _).trans (qs_canon _ _))
          | (guard_target = _ = kLo (F := F) _; exact readAt_rep _ _ _)
          | (guard_target = _ = kHi (F := F) _; exact readAt_rep _ _ _)
          | (guard_target = _ = vLo (F := F) _; exact readAt_rep _ _ _)
          | (guard_target = _ = vHi (F := F) _; exact readAt_rep _ _ _)
          | (guard_target = _ = kmOf (F := F) _; exact readAt_rep _ _ _)
          | (guard_target = _ = x1; exact readAt_rep_full _ _ zero2 _)
          | (guard_target = _ = x2; exact readAt_rep_full _ _ zero2 _)
          | (guard_target = _ = x3; exact readAt_rep_full _ _ zero2 _)
          | (guard_target = _ = St.qs (F := F) _; exact scQ_readAt _ _)
          | (guard_target = _ = St.m (F := F) _; exact scM_readAt _ _)
          | (guard_target = _ = St.l (F := F) _; exact scL_readAt _ _)
          | (guard_target = _ = St.acc (F := F) _; exact scA_readAt _ _)
          | (guard_target = _ = St.p (F := F) _; exact scP_readAt _ _)
          | (guard_target = _ = safeOf (F := F) _; rfl)
          | (guard_target = k0_pay1 (F := F) _ _ _ = _; refine cg3 k0_pay1 ?_ ?_ ?_)
          | (guard_target = k0_pay2 (F := F) _ = _; refine congrArg k0_pay2 (cg5 k0_pay27 ?_ ?_ ?_ ?_ ?_))
          | (guard_target = k0_pay3 (F := F) _ = _; refine congrArg k0_pay3 (cg3 k0_pay26 ?_ ?_ ?_))
          | (guard_target = k0_pay4 (F := F) _ _ _ = _; refine cg3 k0_pay4 ?_ ?_ ?_)
          | (guard_target = k0_pay9 (F := F) _ _ _ _ = _; refine cg4 k0_pay9 ?_ ?_ ?_ ?_)
          | (guard_target = k0_pay10 (F := F) _ _ _ _ _ = _; refine cg5 k0_pay10 ?_ ?_ ?_ ?_ ?_)
          | (guard_target = k0_pay25 (F := F) _ _ _ _ _ _ _ = _; refine cg7 k0_pay25 ?_ ?_ ?_ ?_ ?_ ?_ ?_)
          | (guard_target = canon (Val := Elt F) _ = outOf (F := F) _ _; refine out_congr ?_ ?_)
          | (guard_target = canon (Val := Elt F) _ = _; refine (canon_full _ zero2 _ _).trans ?_)
          | refine (readCov_full _ _ zero2 _).trans ?_
      isplitl [HS2]
      · iapply (ptr_of_eq _); swap
        · iexact HS2
        rw [scL_writes]
        repeat' first
          | (guard_target = _ = 0#32; exact hs)
          | with_reducible rfl
          | (guard_target = canon (Val := Elt F) _ = qsOf (F := F) _; exact qs_canon _ _)
          | (guard_target = _ = qsOf (F := F) _; exact (readCov_full _ _ zero2 _).trans (qs_canon _ _))
          | (guard_target = _ = kLo (F := F) _; exact readAt_rep _ _ _)
          | (guard_target = _ = kHi (F := F) _; exact readAt_rep _ _ _)
          | (guard_target = _ = vLo (F := F) _; exact readAt_rep _ _ _)
          | (guard_target = _ = vHi (F := F) _; exact readAt_rep _ _ _)
          | (guard_target = _ = kmOf (F := F) _; exact readAt_rep _ _ _)
          | (guard_target = _ = x1; exact readAt_rep_full _ _ zero2 _)
          | (guard_target = _ = x2; exact readAt_rep_full _ _ zero2 _)
          | (guard_target = _ = x3; exact readAt_rep_full _ _ zero2 _)
          | (guard_target = _ = St.qs (F := F) _; exact scQ_readAt _ _)
          | (guard_target = _ = St.m (F := F) _; exact scM_readAt _ _)
          | (guard_target = _ = St.l (F := F) _; exact scL_readAt _ _)
          | (guard_target = _ = St.acc (F := F) _; exact scA_readAt _ _)
          | (guard_target = _ = St.p (F := F) _; exact scP_readAt _ _)
          | (guard_target = _ = safeOf (F := F) _; rfl)
          | (guard_target = k0_pay1 (F := F) _ _ _ = _; refine cg3 k0_pay1 ?_ ?_ ?_)
          | (guard_target = k0_pay2 (F := F) _ = _; refine congrArg k0_pay2 (cg5 k0_pay27 ?_ ?_ ?_ ?_ ?_))
          | (guard_target = k0_pay3 (F := F) _ = _; refine congrArg k0_pay3 (cg3 k0_pay26 ?_ ?_ ?_))
          | (guard_target = k0_pay4 (F := F) _ _ _ = _; refine cg3 k0_pay4 ?_ ?_ ?_)
          | (guard_target = k0_pay9 (F := F) _ _ _ _ = _; refine cg4 k0_pay9 ?_ ?_ ?_ ?_)
          | (guard_target = k0_pay10 (F := F) _ _ _ _ _ = _; refine cg5 k0_pay10 ?_ ?_ ?_ ?_ ?_)
          | (guard_target = k0_pay11 (F := F) _ _ _ = _; refine cg3 k0_pay11 ?_ ?_ ?_)
          | (guard_target = k0_pay25 (F := F) _ _ _ _ _ _ _ = _; refine cg7 k0_pay25 ?_ ?_ ?_ ?_ ?_ ?_ ?_)
          | (guard_target = canon (Val := Elt F) _ = outOf (F := F) _ _; refine out_congr ?_ ?_)
          | (guard_target = canon (Val := Elt F) _ = _; refine (canon_full _ zero2 _ _).trans ?_)
          | refine (readCov_full _ _ zero2 _).trans ?_
      isplitl [HS3]
      · iapply (ptr_of_eq _); swap
        · iexact HS3
        rw [scA_writes]
        repeat' first
          | (guard_target = _ = 0#32; exact hs)
          | with_reducible rfl
          | (guard_target = canon (Val := Elt F) _ = qsOf (F := F) _; exact qs_canon _ _)
          | (guard_target = _ = qsOf (F := F) _; exact (readCov_full _ _ zero2 _).trans (qs_canon _ _))
          | (guard_target = _ = kLo (F := F) _; exact readAt_rep _ _ _)
          | (guard_target = _ = kHi (F := F) _; exact readAt_rep _ _ _)
          | (guard_target = _ = vLo (F := F) _; exact readAt_rep _ _ _)
          | (guard_target = _ = vHi (F := F) _; exact readAt_rep _ _ _)
          | (guard_target = _ = kmOf (F := F) _; exact readAt_rep _ _ _)
          | (guard_target = _ = x1; exact readAt_rep_full _ _ zero2 _)
          | (guard_target = _ = x2; exact readAt_rep_full _ _ zero2 _)
          | (guard_target = _ = x3; exact readAt_rep_full _ _ zero2 _)
          | (guard_target = _ = St.qs (F := F) _; exact scQ_readAt _ _)
          | (guard_target = _ = St.m (F := F) _; exact scM_readAt _ _)
          | (guard_target = _ = St.l (F := F) _; exact scL_readAt _ _)
          | (guard_target = _ = St.acc (F := F) _; exact scA_readAt _ _)
          | (guard_target = _ = St.p (F := F) _; exact scP_readAt _ _)
          | (guard_target = _ = safeOf (F := F) _; rfl)
          | (guard_target = k0_pay1 (F := F) _ _ _ = _; refine cg3 k0_pay1 ?_ ?_ ?_)
          | (guard_target = k0_pay2 (F := F) _ = _; refine congrArg k0_pay2 (cg5 k0_pay27 ?_ ?_ ?_ ?_ ?_))
          | (guard_target = k0_pay3 (F := F) _ = _; refine congrArg k0_pay3 (cg3 k0_pay26 ?_ ?_ ?_))
          | (guard_target = k0_pay4 (F := F) _ _ _ = _; refine cg3 k0_pay4 ?_ ?_ ?_)
          | (guard_target = k0_pay9 (F := F) _ _ _ _ = _; refine cg4 k0_pay9 ?_ ?_ ?_ ?_)
          | (guard_target = k0_pay10 (F := F) _ _ _ _ _ = _; refine cg5 k0_pay10 ?_ ?_ ?_ ?_ ?_)
          | (guard_target = k0_pay11 (F := F) _ _ _ = _; refine cg3 k0_pay11 ?_ ?_ ?_)
          | (guard_target = k0_pay25 (F := F) _ _ _ _ _ _ _ = _; refine cg7 k0_pay25 ?_ ?_ ?_ ?_ ?_ ?_ ?_)
          | (guard_target = canon (Val := Elt F) _ = outOf (F := F) _ _; refine out_congr ?_ ?_)
          | (guard_target = canon (Val := Elt F) _ = _; refine (canon_full _ zero2 _ _).trans ?_)
          | refine (readCov_full _ _ zero2 _).trans ?_
      iapply (ptr_of_eq _); swap
      · iexact HS4
      first | with_reducible rfl | rw [scP_writes]
      repeat' first
        | (guard_target = _ = 0#32; exact hs)
        | with_reducible rfl
        | (guard_target = _ = qsOf (F := F) _; exact (readCov_full _ _ zero2 _).trans (qs_canon _ _))
        | (guard_target = _ = kLo (F := F) _; exact readAt_rep _ _ _)
        | (guard_target = _ = kHi (F := F) _; exact readAt_rep _ _ _)
        | (guard_target = _ = vLo (F := F) _; exact readAt_rep _ _ _)
        | (guard_target = _ = vHi (F := F) _; exact readAt_rep _ _ _)
        | (guard_target = _ = kmOf (F := F) _; exact readAt_rep _ _ _)
        | (guard_target = _ = x1; exact readAt_rep_full _ _ zero2 _)
        | (guard_target = _ = x2; exact readAt_rep_full _ _ zero2 _)
        | (guard_target = _ = x3; exact readAt_rep_full _ _ zero2 _)
        | (guard_target = _ = St.qs (F := F) _; exact scQ_readAt _ _)
        | (guard_target = _ = St.m (F := F) _; exact scM_readAt _ _)
        | (guard_target = _ = St.l (F := F) _; exact scL_readAt _ _)
        | (guard_target = _ = St.acc (F := F) _; exact scA_readAt _ _)
        | (guard_target = _ = St.p (F := F) _; exact scP_readAt _ _)
        | (guard_target = _ = safeOf (F := F) _; rfl)
        | (guard_target = k0_pay1 (F := F) _ _ _ = _; refine cg3 k0_pay1 ?_ ?_ ?_)
        | (guard_target = k0_pay2 (F := F) _ = _; refine congrArg k0_pay2 (cg5 k0_pay27 ?_ ?_ ?_ ?_ ?_))
        | (guard_target = k0_pay3 (F := F) _ = _; refine congrArg k0_pay3 (cg3 k0_pay26 ?_ ?_ ?_))
        | (guard_target = k0_pay4 (F := F) _ _ _ = _; refine cg3 k0_pay4 ?_ ?_ ?_)
        | (guard_target = k0_pay9 (F := F) _ _ _ _ = _; refine cg4 k0_pay9 ?_ ?_ ?_ ?_)
        | (guard_target = k0_pay10 (F := F) _ _ _ _ _ = _; refine cg5 k0_pay10 ?_ ?_ ?_ ?_ ?_)
        | (guard_target = k0_pay11 (F := F) _ _ _ = _; refine cg3 k0_pay11 ?_ ?_ ?_)
        | (guard_target = k0_pay25 (F := F) _ _ _ _ _ _ _ = _; refine cg7 k0_pay25 ?_ ?_ ?_ ?_ ?_ ?_ ?_)
        | (guard_target = canon (Val := Elt F) _ = outOf (F := F) _ _; refine out_congr ?_ ?_)
        | (guard_target = canon (Val := Elt F) _ = _; refine (canon_full _ zero2 _ _).trans ?_)
        | refine (readCov_full _ _ zero2 _).trans ?_
  exact key _ rfl _ rfl

end

end Cert.KernelIdeal.Flash

end
-- ==== Proof.Flash.Sched.lean ====
module

public import proofs.«01_k».proof.Proof.Flash.Base

@[expose] public section

set_option maxRecDepth 16384
set_option Elab.async false

noncomputable section

namespace Cert.KernelIdeal.Flash

open Cert.KernelIdeal Cert.KernelIdeal.Gen
open Idealize.ShloMosaic
open Idealize.ShloMosaic.TcCoe

variable {F : FTy → Type} [FloatOps F]

/-! The schedule: 272 steps for each of the two key heads, read from four constant tables. -/

/-- The element of a table that a point reads is the one of the point's step. -/
theorem row_val : ∀ i : grid0.Coords, (S272.rowMajor ((Rect.unit (s := S272) (k0_off1 i) S1.size (k0_off1_inb i)).emb
    (Shape.Idx.first (numel1_S1.symm ▸ Nat.one_pos)))).val = (i 1).val := by decide +kernel
theorem row_idx (i : grid0.Coords) : S272.rowMajor ((Rect.unit (s := S272) (k0_off1 i) S1.size (k0_off1_inb i)).emb
    (Shape.Idx.first (numel1_S1.symm ▸ Nat.one_pos))) = i 1 := Fin.ext (row_val i)

/-- The key head as the index maps compute it. -/
theorem head_word : ∀ j : Fin 2, (BitVec.ofNat 32 j.val).toNat = j.val := by decide

/-- Every table entry is in range. -/
theorem tab_range : ∀ s : Fin 272, (lit0 s).toNat < 40 ∧ (lit1 s).toNat < 20 ∧ (lit2 s).toNat < 40
    ∧ (lit3 s = 1#32 ∨ lit3 s = 0#32 ∨ lit3 s = 2#32) := by decide +kernel

/-- The tables: the four constants and the word the host computed. -/
def pfw (T4 : S1.Idx → BitVec 32) : pre0.Contents (Elt F) := fun
  | ⟨0, _⟩ => fun i => lit0 (S272.rowMajor i)
  | ⟨1, _⟩ => fun i => lit1 (S272.rowMajor i)
  | ⟨2, _⟩ => fun i => lit2 (S272.rowMajor i)
  | ⟨3, _⟩ => fun i => lit3 (S272.rowMajor i)
  | ⟨4, _⟩ => T4
  | ⟨_ + 5, h⟩ => absurd h (by simp)

variable (T4 : S1.Idx → BitVec 32)

theorem transform_0 (i : grid0.Coords) :
    cc0_transform_0 (F := F) k0_off1_inb numel1_S1 (pfw T4) i = ![(i 0).val, (lit0 (i 1)).toNat] := by
  rw [← row_idx i, ← head_word (i 0)]; rfl
theorem transform_1 (i : grid0.Coords) :
    cc0_transform_1 (F := F) k0_off1_inb numel1_S1 (pfw T4) i = ![(lit1 (i 1)).toNat, (i 0).val] := by
  rw [← row_idx i, ← head_word (i 0)]; rfl
theorem transform_2 (i : grid0.Coords) :
    cc0_transform_2 (F := F) k0_off1_inb numel1_S1 (pfw T4) i = ![(i 0).val, (lit1 (i 1)).toNat] := by
  rw [← row_idx i, ← head_word (i 0)]; rfl
theorem transform_3 (i : grid0.Coords) :
    cc0_transform_3 (F := F) k0_off1_inb numel1_S1 (pfw T4) i = ![(i 0).val, (lit2 (i 1)).toNat] := by
  rw [← row_idx i, ← head_word (i 0)]; rfl
theorem transform_5 (i : grid0.Coords) :
    cc0_transform_5 (F := F) k0_off1_inb numel1_S1 (pfw T4) i = ![(lit0 (i 1)).toNat, (i 0).val] := by
  rw [← row_idx i, ← head_word (i 0)]; rfl

/-- A block whose two indices are in range is inside its array. -/
theorem inb2 {x y a b A B : ℕ} (hx : (x + 1) * a ≤ A) (hy : (y + 1) * b ≤ B) :
    ∀ j : Fin 2, ((![x, y] : Fin 2 → ℕ) j + 1) * (![a, b] : Fin 2 → ℕ) j ≤ (![A, B] : Fin 2 → ℕ) j := by
  intro j; fin_cases j
  · exact hx
  · exact hy

/-- Every block of every window is inside its array, whatever the choice word. -/
theorem ok_pfw : ok0 (F := F) (pfw T4) := by
  have h2 : ∀ i : grid0.Coords, (i 0).val < 2 := fun i => (i 0).isLt
  refine ⟨fun i => ⟨?_, .inr (Affine.block_words_dvd (s := S1024x40960) (p := EltTy.packing .bf16) (by decide) (by decide))⟩,
    fun i => ⟨?_, .inr (Affine.block_words_dvd (s := S40960x256) (p := EltTy.packing .bf16) (by decide) (by decide))⟩,
    fun i => ⟨?_, .inr (Affine.block_words_dvd (s := S256x40960) (p := EltTy.packing .bf16) (by decide) (by decide))⟩,
    fun i => ⟨?_, .inr (Affine.block_words_dvd (s := S256x40960) (p := EltTy.packing .bf16) (by decide) (by decide))⟩,
    fun i => ⟨?_, .inr (Affine.block_words_dvd (s := S40960x1024) (p := EltTy.packing .bf16) (by decide) (by decide))⟩⟩
  · rw [transform_0]; have := (tab_range (i 1)).1; exact inb2 (by have := h2 i; omega) (by omega)
  · rw [transform_1]; have := (tab_range (i 1)).2.1; exact inb2 (by omega) (by have := h2 i; omega)
  · rw [transform_2]; have := (tab_range (i 1)).2.1; exact inb2 (by have := h2 i; omega) (by omega)
  · rw [transform_3]; have := (tab_range (i 1)).2.2.1; exact inb2 (by have := h2 i; omega) (by omega)
  · rw [transform_5]; have := (tab_range (i 1)).1; exact inb2 (by omega) (by have := h2 i; omega)

/-- The tables as the pipeline takes them, and the pipeline at them. -/
def adm : (pcfg0 (F := F)).Adm := ⟨pfw T4, ok_pfw T4⟩
abbrev cfgA : Pipeline.Cfg sig Λ₀ := cfg0 (F := F) (adm T4)

/-- A point's coordinates, and its step. -/
abbrev crd (t : Fin grid0.N) : grid0.Coords := grid0.coords t
abbrev stp (t : Fin grid0.N) : Fin 272 := grid0.coords t 1

/-- The flag word a point reads is its step's. -/
theorem flag_eq (i : grid0.Coords) : flagOf (F := F) (pfw T4 3) i = lit3 (i 1) := by
  rw [← row_idx i]; rfl

/-- Coordinates of a point: its head and its step. -/
theorem crd_val : ∀ t : Fin grid0.N, (grid0.coords t 0).val = t.val / 272 ∧ (grid0.coords t 1).val = t.val % 272 := by decide +kernel

/-- The output block moves exactly after the last step of a run of key blocks. -/
theorem moves_last : ∀ t : Fin grid0.N, (decide (t.val + 1 = grid0.N)
      || decide (∃ h : t.val + 1 < grid0.N, ∃ a, (![(lit0 (stp ⟨t.val + 1, h⟩)).toNat, (crd ⟨t.val + 1, h⟩ 0).val] : Fin 2 → ℕ) a
        ≠ (![(lit0 (stp t)).toNat, (crd t 0).val] : Fin 2 → ℕ) a))
    = decide (lit3 (stp t) = 2#32) := by decide +kernel

theorem index_5 (t : Fin grid0.N) : ((cfgA (F := F) T4).win (5 : Fin 6)).index t = ![(lit0 (stp t)).toNat, (crd t 0).val] :=
  transform_5 T4 (crd t)

/-- Write-backs of an output, from its block indices. -/
theorem flush_of_index {G : Pipeline.Grid} (w : Pipeline.Window sig G) (ho : w.isOut = true) (f : Fin G.N → Fin w.shape.rank → ℕ)
    (hf : ∀ t, w.index t = f t) (t : Fin G.N) :
    w.flush t = (decide (t.val + 1 = G.N) || decide (∃ h : t.val + 1 < G.N, ∃ a, f ⟨t.val + 1, h⟩ a ≠ f t a)) := by
  obtain rfl : w.index = f := funext hf
  rw [Pipeline.Window.flush_eq_flushF]
  unfold Pipeline.Window.flushF
  rw [ho, Bool.true_and]

/-- The write-backs of the output are after those steps. -/
theorem flush_5 (t : Fin grid0.N) : ((cfgA (F := F) T4).win (5 : Fin 6)).flush t = decide (lit3 (stp t) = 2#32) := by
  exact (flush_of_index _ rfl _ (index_5 (F := F) T4) t).trans (moves_last t)

/-- The body stores the output at those steps only. -/
theorem idle_5 (t : Fin grid0.N) : (cfgA (F := F) T4).idle (5 : Fin 6) ((cfgA (F := F) T4).grid.coords t) = !decide (lit3 (stp t) = 2#32) := by
  have h : (pfw (F := F) T4).atD 3 (k0_off1 (crd t)) = lit3 (stp t) := by
    have hb : ∀ a : Fin (pre0.ref 3).ty.shape.rank, k0_off1 (crd t) a + 1 ≤ (pre0.ref 3).ty.shape.size a := fun | ⟨0, _⟩ => k0_off1_inb (crd t) (0 : Fin 1)
    show dite _ _ _ = _
    rw [dif_pos hb]
    exact flag_eq (F := F) T4 (crd t)
  show (!(k0_cond5 ((pfw (F := F) T4).atD 3 (k0_off1 (crd t))) == 1#1)) = _
  rw [h]
  rcases (tab_range (stp t)).2.2.2 with h | h | h <;> rw [h] <;> decide

/-- So nothing is ever kept in the output's buffer from one step to the next. -/
theorem fresh_5 (n : ℕ) (hn : n ≤ grid0.N) : (cfgA (F := F) T4).fresh (5 : Fin 6) n = true := by
  induction n with
  | zero => exact Pipeline.Cfg.fresh_zero _ _
  | succ n ih =>
    refine (Pipeline.Cfg.fresh_succ (cfgA (F := F) T4) 5 n hn).trans ?_
    rw [ih (Nat.le_of_succ_le hn)]
    have h1 := flush_5 (F := F) T4 ⟨n, hn⟩
    have h2 := idle_5 (F := F) T4 ⟨n, hn⟩
    refine (congrArg₂ (fun a b => a || (b && true)) h1 h2).trans ?_
    cases decide (lit3 (stp ⟨n, hn⟩) = 2#32) <;> rfl

end Cert.KernelIdeal.Flash

end
-- ==== Proof.Flash.Data.lean ====
module

public import proofs.«01_k».proof.Proof.Flash.Run
public import proofs.«01_k».proof.Proof.Flash.Sched
public import proofs.«01_k».proof.Proof.Gen.KernelIdeal.Launch
public import Idealize.ShloMosaic.Lib.Pipeline.Frame
public import Idealize.ShloMosaic.Lib.Pipeline.FrameBody
public import Idealize.ShloMosaic.Lib.Pipeline.TableIdle

@[expose] public section

set_option maxRecDepth 16384
set_option Elab.async false

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Nothing is read of the state before at a point whose flag is 1. -/
theorem next_first (s s' : St F) (sw : BitVec 32) (x0 : S512x1024.Idx → Elt F .bf16) (x1 : S2048x128.Idx → Elt F .bf16)
    (x2 : S128x2048.Idx → Elt F .bf16) (x3 : S128x1024.Idx → Elt F .bf16) (x4 : S8x128.Idx → Elt F .f32) :
    s.next 1#32 sw x0 x1 x2 x3 x4 = s'.next 1#32 sw x0 x1 x2 x3 x4 := by
  unfold St.next; simp only [if_true]

/-! The pipeline's data, from the buffers `V` as the pipeline finds them and the choice word `T4`. -/

variable (V : (c : Dev nD) → (b : Ref sig .tc) → Buf (Elt F) ((c.tc : Thread nD τ).loc b)) (T4 : S1.Idx → BitVec 32)

/-- The block of input window `w` at a point. -/
def iblk (c : Dev nD) (w : Fin 6) (t : Fin grid0.N) : ((cfgA (F := F) T4).win w).block.Idx → Elt F ((cfgA (F := F) T4).win w).elt :=
  (((cfgA (F := F) T4).win w).blk t).view.read (Elt F) (V c (Pipeline.arrRef spec0 w))

/-- The state of the scratch buffers before each point. -/
def traj (c : Dev nD) : ℕ → St F
  | 0 => St.init 0#32 (iblk V T4 c 0 ⟨0, by decide⟩) (iblk V T4 c 4 ⟨0, by decide⟩)
  | n + 1 => if h : n < grid0.N then
      (traj c n).next (lit3 (stp ⟨n, h⟩)) (safeOf (F := F) T4) (iblk V T4 c 0 ⟨n, h⟩) (iblk V T4 c 1 ⟨n, h⟩)
        (iblk V T4 c 2 ⟨n, h⟩) (iblk V T4 c 3 ⟨n, h⟩) (iblk V T4 c 4 ⟨n, h⟩)
    else traj c n

theorem traj_succ (c : Dev nD) (t : Fin grid0.N) : traj V T4 c (t.val + 1)
    = (traj V T4 c t.val).next (lit3 (stp t)) (safeOf (F := F) T4) (iblk V T4 c 0 t) (iblk V T4 c 1 t)
        (iblk V T4 c 2 t) (iblk V T4 c 3 t) (iblk V T4 c 4 t) := by
  rw [traj, dif_pos t.isLt]

/-- The output block, should it be written at this point. -/
@[irreducible] def outBlk (c : Dev nD) (t : Fin grid0.N) : ((cfgA (F := F) T4).win 5).block.Idx → Elt F ((cfgA (F := F) T4).win 5).elt :=
  outOf (traj V T4 c (t.val + 1)).acc (traj V T4 c (t.val + 1)).l

/-- The tables, as the body holds them. -/
def tables (c : Dev nD) : sProp 𝕄 :=
  iprop((tb0.view.loc (c : Thread nD τ) ↦{fullShare.right} pfw (F := F) T4 0)
    ∗ (tb1.view.loc (c : Thread nD τ) ↦{fullShare.right} pfw (F := F) T4 1)
    ∗ (tb2.view.loc (c : Thread nD τ) ↦{fullShare.right} pfw (F := F) T4 2)
    ∗ (tb3.view.loc (c : Thread nD τ) ↦{fullShare.right} pfw (F := F) T4 3)
    ∗ (tb4.view.loc (c : Thread nD τ) ↦{fullShare.right} pfw (F := F) T4 4))

/-- The invariant before point `n`: past the first, the scratch buffers hold the trajectory. -/
def Phi (c : Dev nD) (n : ℕ) : sProp 𝕄 :=
  iprop((∃ s : St F, ⌜n ≠ 0 → s = traj V T4 c n⌝ ∗ scratch c s) ∗ tables T4 c ∗ ∃ r, prngReg c r)

/-- The proof data of the pipeline on core `c`. -/
def dats (_ : Fin 1) (c : Dev nD) : Dat τ (Elt F) Unit ℕ (UR sig nD τ) ℕ (cfgA (F := F) T4) c where
  A w := V c (Pipeline.arrRef spec0 w)
  after w t := match w with
    | ⟨0, _⟩ => iblk V T4 c (0 : Fin 6) t
    | ⟨1, _⟩ => iblk V T4 c (1 : Fin 6) t
    | ⟨2, _⟩ => iblk V T4 c (2 : Fin 6) t
    | ⟨3, _⟩ => iblk V T4 c (3 : Fin 6) t
    | ⟨4, _⟩ => iblk V T4 c (4 : Fin 6) t
    | ⟨5, _⟩ => outBlk V T4 c t
  Φ t := Phi V T4 c t.val
  q w := Pipeline.shareOf spec0 w
  owed _ := 0

theorem after_0 (c : Dev nD) (t : Fin grid0.N) : (dats V T4 0 c).after (0 : Fin 6) t = iblk V T4 c (0 : Fin 6) t := rfl
theorem after_1 (c : Dev nD) (t : Fin grid0.N) : (dats V T4 0 c).after (1 : Fin 6) t = iblk V T4 c (1 : Fin 6) t := rfl
theorem after_2 (c : Dev nD) (t : Fin grid0.N) : (dats V T4 0 c).after (2 : Fin 6) t = iblk V T4 c (2 : Fin 6) t := rfl
theorem after_3 (c : Dev nD) (t : Fin grid0.N) : (dats V T4 0 c).after (3 : Fin 6) t = iblk V T4 c (3 : Fin 6) t := rfl
theorem after_4 (c : Dev nD) (t : Fin grid0.N) : (dats V T4 0 c).after (4 : Fin 6) t = iblk V T4 c (4 : Fin 6) t := rfl
theorem after_5 (c : Dev nD) (t : Fin grid0.N) : (dats V T4 0 c).after (5 : Fin 6) t = outBlk V T4 c t := rfl

/-- An input window's buffer holds its block when the body runs. -/
theorem before_0 (c : Dev nD) (t : Fin grid0.N) (d) : (dats V T4 0 c).before (0 : Fin 6) t d = iblk V T4 c (0 : Fin 6) t :=
  ((dats V T4 0 c).before_in_eq_fetched (0 : Fin 6) rfl (fun _ => rfl) (fun _ _ _ => rfl) (fun t => by rw [after_0]; unfold Dat.blockOf iblk; rfl) t d).trans
    (by unfold Dat.fetched Dat.blockOf iblk; rfl)
theorem before_1 (c : Dev nD) (t : Fin grid0.N) (d) : (dats V T4 0 c).before (1 : Fin 6) t d = iblk V T4 c (1 : Fin 6) t :=
  ((dats V T4 0 c).before_in_eq_fetched (1 : Fin 6) rfl (fun _ => rfl) (fun _ _ _ => rfl) (fun t => by rw [after_1]; unfold Dat.blockOf iblk; rfl) t d).trans
    (by unfold Dat.fetched Dat.blockOf iblk; rfl)
theorem before_2 (c : Dev nD) (t : Fin grid0.N) (d) : (dats V T4 0 c).before (2 : Fin 6) t d = iblk V T4 c (2 : Fin 6) t :=
  ((dats V T4 0 c).before_in_eq_fetched (2 : Fin 6) rfl (fun _ => rfl) (fun _ _ _ => rfl) (fun t => by rw [after_2]; unfold Dat.blockOf iblk; rfl) t d).trans
    (by unfold Dat.fetched Dat.blockOf iblk; rfl)
theorem before_3 (c : Dev nD) (t : Fin grid0.N) (d) : (dats V T4 0 c).before (3 : Fin 6) t d = iblk V T4 c (3 : Fin 6) t :=
  ((dats V T4 0 c).before_in_eq_fetched (3 : Fin 6) rfl (fun _ => rfl) (fun _ _ _ => rfl) (fun t => by rw [after_3]; unfold Dat.blockOf iblk; rfl) t d).trans
    (by unfold Dat.fetched Dat.blockOf iblk; rfl)
theorem before_4 (c : Dev nD) (t : Fin grid0.N) (d) : (dats V T4 0 c).before (4 : Fin 6) t d = iblk V T4 c (4 : Fin 6) t :=
  ((dats V T4 0 c).before_in_eq_fetched (4 : Fin 6) rfl (fun _ => rfl) (fun _ _ _ => rfl) (fun t => by rw [after_4]; unfold Dat.blockOf iblk; rfl) t d).trans
    (by unfold Dat.fetched Dat.blockOf iblk; rfl)
/-- The output window's buffer holds anything when the body runs: it is written only where it is sent back. -/
theorem before_5 (c : Dev nD) (t : Fin grid0.N) (d) : (dats V T4 0 c).before (5 : Fin 6) t d = d := by
  have hf : ∀ t : Fin grid0.N, (cfgA (F := F) T4).fresh (5 : Fin 6) t.val = true := fun t => fresh_5 T4 t.val (le_of_lt t.isLt)
  rw [(dats V T4 0 c).before_out_traj (5 : Fin 6) rfl (fun _ _ => rfl)
    (fun t _ _ h => absurd ((hf t).symm.trans h) (by decide)) t.val t rfl d]
  rw [hf t, if_pos rfl]

/-- The staging buffer of each window at a point. -/
abbrev ms_0 (t : Fin grid0.N) : Memref sig .tc .vmem S512x1024 .bf16 := spec0_0.stage ((cfgA (F := F) T4).slots t (0 : Fin 6))
abbrev ms_1 (t : Fin grid0.N) : Memref sig .tc .vmem S2048x128 .bf16 := spec0_1.stage ((cfgA (F := F) T4).slots t (1 : Fin 6))
abbrev ms_2 (t : Fin grid0.N) : Memref sig .tc .vmem S128x2048 .bf16 := spec0_2.stage ((cfgA (F := F) T4).slots t (2 : Fin 6))
abbrev ms_3 (t : Fin grid0.N) : Memref sig .tc .vmem S128x1024 .bf16 := spec0_3.stage ((cfgA (F := F) T4).slots t (3 : Fin 6))
abbrev ms_4 (t : Fin grid0.N) : Memref sig .tc .vmem S8x128 .f32 := spec0_4.stage ((cfgA (F := F) T4).slots t (4 : Fin 6))
abbrev ms_5 (t : Fin grid0.N) : Memref sig .tc .vmem S1024x512 .bf16 := spec0_5.stage ((cfgA (F := F) T4).slots t (5 : Fin 6))
theorem hs_0 (t : Fin grid0.N) : (ms_0 (F := F) T4 t).IsWhole := hstage0_0 (((cfgA (F := F) T4).slots t 0).cast nbuf0_0)
theorem hs_1 (t : Fin grid0.N) : (ms_1 (F := F) T4 t).IsWhole := hstage0_1 (((cfgA (F := F) T4).slots t 1).cast nbuf0_1)
theorem hs_2 (t : Fin grid0.N) : (ms_2 (F := F) T4 t).IsWhole := hstage0_2 (((cfgA (F := F) T4).slots t 2).cast nbuf0_2)
theorem hs_3 (t : Fin grid0.N) : (ms_3 (F := F) T4 t).IsWhole := hstage0_3 (((cfgA (F := F) T4).slots t 3).cast nbuf0_3)
theorem hs_4 (t : Fin grid0.N) : (ms_4 (F := F) T4 t).IsWhole := hstage0_4 (((cfgA (F := F) T4).slots t 4).cast nbuf0_4)
theorem hs_5 (t : Fin grid0.N) : (ms_5 (F := F) T4 t).IsWhole := hstage0_5 (((cfgA (F := F) T4).slots t 5).cast nbuf0_5)

/-- The body at point `t` on its staging buffers. -/
abbrev bodyAt (t : Fin grid0.N) : Prog (TpuEff nD τ sig (Elt F) Λ₀ .tc) PUnit :=
  body (crd t) (ms_0 (F := F) T4 t) (hs_0 T4 t) (ms_1 (F := F) T4 t) (hs_1 T4 t) (ms_2 (F := F) T4 t) (hs_2 T4 t)
    (ms_3 (F := F) T4 t) (hs_3 T4 t) (ms_4 (F := F) T4 t) (hs_4 T4 t) (ms_5 (F := F) T4 t) (hs_5 T4 t)

/-- The state before a point serves as well as the trajectory's: at point 0 the flag is 1. -/
theorem next_of_phi (c : Dev nD) (t : Fin grid0.N) (s : St F) (h : t.val ≠ 0 → s = traj V T4 c t.val) :
    s.next (lit3 (stp t)) (safeOf (F := F) T4) (iblk V T4 c 0 t) (iblk V T4 c 1 t)
        (iblk V T4 c 2 t) (iblk V T4 c 3 t) (iblk V T4 c 4 t) = traj V T4 c (t.val + 1) := by
  rw [traj_succ]
  by_cases ht : t.val = 0
  · have h1 : lit3 (stp t) = 1#32 := by
      have : stp t = 0 := Fin.ext (by rw [(crd_val t).2, ht]; rfl)
      rw [this]; rfl
    rw [h1]; exact next_first _ _ _ _ _ _ _ _
  · rw [h ht]

set_option maxHeartbeats 4000000 in
/-- The body at a point: the inputs hold their blocks, the scratch buffers move one step along the trajectory, and the
    output block is written where it is sent back. -/
theorem sound_body (c : Dev nD) (t : Fin grid0.N) :
    iprop((dats V T4 0 c).Φ t.castSucc ∗ (dats V T4 0 c).owesAt () t.castSucc
        ∗ (∃ d, owns (c : Thread nD τ) (ms_0 (F := F) T4 t) fullShare ((dats V T4 0 c).before (0 : Fin 6) t d))
        ∗ (∃ d, owns (c : Thread nD τ) (ms_1 (F := F) T4 t) fullShare ((dats V T4 0 c).before (1 : Fin 6) t d))
        ∗ (∃ d, owns (c : Thread nD τ) (ms_2 (F := F) T4 t) fullShare ((dats V T4 0 c).before (2 : Fin 6) t d))
        ∗ (∃ d, owns (c : Thread nD τ) (ms_3 (F := F) T4 t) fullShare ((dats V T4 0 c).before (3 : Fin 6) t d))
        ∗ (∃ d, owns (c : Thread nD τ) (ms_4 (F := F) T4 t) fullShare ((dats V T4 0 c).before (4 : Fin 6) t d))
        ∗ (∃ d, owns (c : Thread nD τ) (ms_5 (F := F) T4 t) fullShare ((dats V T4 0 c).before (5 : Fin 6) t d)))
      ⊢ wp frame (wpE (defs₀ (F := F)) Variants.none c none) Set.univ (bodyAt T4 t) fun _ =>
          iprop((dats V T4 0 c).Φ t.succ ∗ (dats V T4 0 c).owesAt () t.succ
            ∗ bigSep Finset.univ fun w : Fin (cfgA (F := F) T4).W =>
                match (cfgA (F := F) T4).idle w ((cfgA (F := F) T4).grid.coords t) with
                | true =>
                  match ((cfgA (F := F) T4).win w).flush t with
                  | false => iprop(∃ d, owns (c : Thread nD τ) (((cfgA (F := F) T4).win w).stage ((cfgA (F := F) T4).slots t w)) fullShare ((dats V T4 0 c).before w t d))
                  | true => owns (c : Thread nD τ) (((cfgA (F := F) T4).win w).stage ((cfgA (F := F) T4).slots t w)) fullShare ((dats V T4 0 c).after w t)
                | false => owns (c : Thread nD τ) (((cfgA (F := F) T4).win w).stage ((cfgA (F := F) T4).slots t w)) fullShare ((dats V T4 0 c).after w t)) := by
  have hfl : flagOf (F := F) (pfw T4 3) (crd t) = lit3 (stp t) := flag_eq T4 (crd t)
  have hf := (tab_range (stp t)).2.2.2
  rw [← hfl] at hf
  have hrun := run_body (F := F) c (crd t) (ms_0 (F := F) T4 t) (hs_0 T4 t) (ms_1 (F := F) T4 t) (hs_1 T4 t) (ms_2 (F := F) T4 t) (hs_2 T4 t)
    (ms_3 (F := F) T4 t) (hs_3 T4 t) (ms_4 (F := F) T4 t) (hs_4 T4 t) (ms_5 (F := F) T4 t) (hs_5 T4 t)
    (pfw T4 0) (pfw T4 1) (pfw T4 2) (pfw T4 3) (pfw T4 4) (iblk V T4 c 0 t) (iblk V T4 c 1 t) (iblk V T4 c 2 t) (iblk V T4 c 3 t) (iblk V T4 c 4 t)
  rw [bigSep_W0]
  rewrite [idle_5 T4 t]
  simp only [before_0, before_1, before_2, before_3, before_4, before_5, after_0, after_1, after_2, after_3, after_4, after_5, flush_5 T4 t]
  rewrite [show (dats V T4 0 c).Φ t.succ = Phi V T4 c (t.val + 1) from rfl, show (dats V T4 0 c).Φ t.castSucc = Phi V T4 c t.val from rfl,
    show (dats V T4 0 c).owesAt () t.succ = (dats V T4 0 c).owesAt () t.castSucc from rfl]
  have hlast : ∀ (y : S1024x512.Idx → Elt F .bf16) (s' : St F), s' = traj V T4 c (t.val + 1) →
      (owns (c : Thread nD τ) (ms_5 (F := F) T4 t) fullShare (outNext y (lit3 (stp t)) s') : sProp 𝕄)
      ⊢ (match !decide (lit3 (stp t) = 2#32) with
                | true =>
                  match decide (lit3 (stp t) = 2#32) with
                  | false => iprop(∃ d, owns (c : Thread nD τ) (ms_5 (F := F) T4 t) fullShare d)
                  | true => owns (c : Thread nD τ) (ms_5 (F := F) T4 t) fullShare (outBlk V T4 c t)
                | false => owns (c : Thread nD τ) (ms_5 (F := F) T4 t) fullShare (outBlk V T4 c t)) := by
    intro y s' e
    subst e
    by_cases h2 : lit3 (stp t) = 2#32
    · simp only [h2, decide_true, Bool.not_true, outNext, if_true, outBlk]; exact .rfl
    · simp only [h2, decide_false, Bool.not_false, outNext, if_false]
      iintro H; iexists y; iexact H
  unfold Phi tables
  iintro ⟨⟨⟨%s, %hs, HS⟩, ⟨HT0, HT1, HT2, HT3, HT4⟩, HR⟩, Ho, ⟨%d0, H0⟩, ⟨%d1, H1⟩, ⟨%d2, H2⟩, ⟨%d3, H3⟩, ⟨%d4, H4⟩, ⟨%d5, H5⟩⟩
  have hnext := next_of_phi V T4 c t s hs
  iapply (hrun s hf d5)
  rewrite [hfl, show safeOf (F := F) (pfw (F := F) T4 4) = safeOf (F := F) T4 from rfl]
  unfold inputs
  isplitl [H0 H1 H2 H3 H4 HT0 HT1 HT2 HT3 HT4]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [HT2]; · iexact HT2
    isplitl [HT3]; · iexact HT3
    iexact HT4
  isplitl [H5]; · iexact H5
  isplitl [HS]; · iexact HS
  rewrite [hnext]
  iintro ⟨⟨H0, H1, H2, H3, H4, HT0, HT1, HT2, HT3, HT4⟩, H5, HS⟩
  isplitl [HS HT0 HT1 HT2 HT3 HT4 HR]
  · isplitl [HS]
    · iexists _; isplitr; swap
      · iexact HS
      · ipureintro; intro _; rfl
    isplitr [HR]
    · isplitl [HT0]; · iexact HT0
      isplitl [HT1]; · iexact HT1
      isplitl [HT2]; · iexact HT2
      isplitl [HT3]; · iexact HT3
      iexact HT4
    iexact HR
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  iapply (hlast d5 _ rfl); iexact H5

/-- The library's body obligation, at every point. -/
theorem body_obligation (c : Dev nD) : BodyObligation (dats V T4 0 c) (defs₀ (F := F)) Variants.none () Set.univ := fun t => by
  rw [bigSep_W0]
  exact sound_body V T4 c t

end Cert.KernelIdeal.Flash

end
-- ==== Proof.Flash.Launch.lean ====
module

public import proofs.«01_k».proof.Proof.Flash.Data
public import Idealize.ShloMosaic.Lib.StableHlo.RunRead

@[expose] public section

set_option maxRecDepth 16384
set_option Elab.async false

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (g : Dev nD → PrngReg)

/-- The buffers as the host's operations leave them, which is how the pipeline finds them. -/
def hostV (c : Dev nD) (b : Ref sig .tc) : Buf (Elt F) ((c.tc : Thread nD τ).loc b) :=
  StableHlo.after hostOps0 (fun b => m (c, b)) b

/-- What the host's operations write, in order. -/
def written : List (Ref sig .tc) :=
  [main_c, main_c_0, main_c_1, main_c_2, main_v0, main_cst, main_v1, main_cst_3, main_v2, main_cst_4, main_v3, main_v4, main_cst_5,
    main_v5, main_cst_6, main_v6, main_v7, main_v8, main_cst_7, main_v9, main_cst_8, main_v10, main_v11, main_v12, main_v13]

/-- A buffer that none of them writes is as it was. -/
theorem hostV_unwritten (c : Dev nD) (b : Ref sig .tc) (hb : b ∉ written) : hostV m c b = m ((c.tc : Thread nD τ).loc b) :=
  StableHlo.after_unwritten (ops := hostOps0) written rfl hb _

theorem hostV_c (c : Dev nD) : hostV m c main_c = fun i => lit0 (S272.rowMajor i) :=
  (StableHlo.after_last_write (ops := hostOps0) (i := 0) (written.drop 1) rfl rfl (by decide) _).trans (StableHlo.nullary_result' ..)
theorem hostV_c_0 (c : Dev nD) : hostV m c main_c_0 = fun i => lit1 (S272.rowMajor i) :=
  (StableHlo.after_last_write (ops := hostOps0) (i := 1) (written.drop 2) rfl rfl (by decide) _).trans (StableHlo.nullary_result' ..)
theorem hostV_c_1 (c : Dev nD) : hostV m c main_c_1 = fun i => lit2 (S272.rowMajor i) :=
  (StableHlo.after_last_write (ops := hostOps0) (i := 2) (written.drop 3) rfl rfl (by decide) _).trans (StableHlo.nullary_result' ..)
theorem hostV_c_2 (c : Dev nD) : hostV m c main_c_2 = fun i => lit3 (S272.rowMajor i) :=
  (StableHlo.after_last_write (ops := hostOps0) (i := 3) (written.drop 4) rfl rfl (by decide) _).trans (StableHlo.nullary_result' ..)

/-- The choice word. -/
def choice : S1.Idx → BitVec 32 := hostV m 0 main_v12

/-- The tables the pipeline runs at are those the host wrote. -/
theorem hostV_pre (c : Dev nD) (k : Fin 5) : hostV m c (pre0.ref k) = pfw (F := F) (choice m) k := by
  have hc : c = 0 := Subsingleton.elim _ _
  subst hc
  fin_cases k
  · exact hostV_c m 0
  · exact hostV_c_0 m 0
  · exact hostV_c_1 m 0
  · exact hostV_c_2 m 0
  · rfl

/-- The tables as the launch hands them to the body, one by one. -/
theorem tables_of_prefHeld (T4 : S1.Idx → BitVec 32) (c : Dev nD) :
    (Pipeline.prefHeld (Ix := Unit) (Name := ℕ) (U := UR sig nD τ) (Lvl := ℕ) pre0 c (fun _ => fullShare.right) (pfw (F := F) T4) : sProp 𝕄)
      = tables T4 c := by
  unfold Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

variable (V : (c : Dev nD) → (b : Ref sig .tc) → Buf (Elt F) ((c.tc : Thread nD τ).loc b)) (T4 : S1.Idx → BitVec 32)

/-- The invariant at the first point, from the scratch buffers at anything; -/
theorem phi_first (c : Dev nD) :
    iprop(Pipeline.ΦA (U := UR sig nD τ) (Val := Elt F) spec0 c ∗ Pipeline.ΦT (U := UR sig nD τ) pre0 (pfw (F := F) T4) c) ⊢ (dats V T4 0 c).Φ 0 := by
  rw [show (dats V T4 0 c).Φ 0 = Phi V T4 c 0 from rfl]
  unfold Pipeline.ΦA Pipeline.ΦT Phi scratch
  rw [tables_of_prefHeld, scopedRest0_eq]
  iintro ⟨⟨⟨⟨%a0, H0⟩, ⟨%a1, H1⟩, ⟨%a2, H2⟩, ⟨%a3, H3⟩, ⟨%a4, H4⟩⟩, HR⟩, HT⟩
  isplitl [H0 H1 H2 H3 H4]
  · iexists ⟨a0, a1, a2, a3, a4⟩
    isplitr
    · ipureintro; intro h; exact absurd rfl h
    isplitl [H0]; · iexact H0
    isplitl [H1]; · iexact H1
    isplitl [H2]; · iexact H2
    isplitl [H3]; · iexact H3
    iexact H4
  isplitl [HT]; · iexact HT
  iexact HR

/-- at the last it gives them back. -/
theorem phi_last (c : Dev nD) :
    (dats V T4 0 c).Φ (Fin.last grid0.N) ⊢ Pipeline.ΦA (U := UR sig nD τ) (Val := Elt F) spec0 c := by
  rw [show (dats V T4 0 c).Φ (Fin.last grid0.N) = Phi V T4 c grid0.N from rfl]
  unfold Pipeline.ΦA Phi scratch
  rw [scopedRest0_eq]
  iintro ⟨⟨%s, -, H0, H1, H2, H3, H4⟩, -, HR⟩
  isplitr [HR]
  · isplitl [H0]; · iexists _; iexact H0
    isplitl [H1]; · iexists _; iexact H1
    isplitl [H2]; · iexists _; iexact H2
    isplitl [H3]; · iexists _; iexact H3
    iexists _; iexact H4
  iexact HR

/-- What every final state is: each window's array at the contents the pipeline's blocks make, every other buffer as the host
    left it, every counter at zero. -/
def Final (r : PUnit × MemSt nD τ sig (Elt F)) : Prop :=
  (∀ c : Dev nD, (∀ w : Fin 6, r.2.mem ((spec0 w).arr.view.loc (c.tc : Thread nD τ)) = (dats (hostV m) (choice m) 0 c).arrAt w grid0.N)
    ∧ ∀ b ∈ Pipeline.restRefs sig spec0, r.2.mem ((c.tc : Thread nD τ).loc b) = hostV m c b)
  ∧ r.2.sem = fun _ => 0

set_option backward.isDefEq.respectTransparency.types false in
set_option maxHeartbeats 4000000 in
/-- Every weakly fair execution of the whole program ends, nothing faults, and ends so. -/
theorem run_main : θ_run (defs (F := F)) (onTc (τ := τ) (main (F := F))) ⟨m, fun _ => 0, g⟩ (Final m) :=
  Pipeline.θ_run_frameP_track_shared (pcfgs (F := F)) (fun _ => adm (choice m)) (dats (hostV m) (choice m)) 0 launch₀0 defs₀ Variants.none m g main
    (hbody := fun c => (body_obligation (hostV m) (choice m) c).loose)
    (hq := fun _ _ _ => rfl) (howed := fun _ _ => rfl) (V := hostV m)
    (hmain := Pipeline.hmainP_prefix pcfgs 0 defs₀ Variants.none m main hostOps0 hostOps0_sub (StableHlo.forall_fresh_of_map rfl) main_chain)
    (hA := fun _ _ => rfl)
    (hpf := hostV_pre m)
    (hin := phi_first (hostV m) (choice m))
    (hout := phi_last (hostV m) (choice m))
    (Q' := Final m)
    (hQ' := fun _ h => h)

end Cert.KernelIdeal.Flash

end
-- ==== Proof.Flash.Frame.lean ====
module

public import proofs.«01_k».proof.Proof.Flash.Launch

@[expose] public section

set_option maxRecDepth 16384
set_option Elab.async false

noncomputable section

namespace Cert.KernelIdeal.Flash

open Cert.KernelIdeal Cert.KernelIdeal.Gen
open Idealize.ShloMosaic
open Idealize.ShloMosaic.TcCoe
open Idealize.SL.Sem
open Idealize.ShloMosaic.Pipeline (Dat)

variable {F : FTy → Type} [FloatOps F]
variable (m : (ℓ : Loc nD τ sig) → Buf (Elt F) ℓ) (g : Dev nD → PrngReg)

/-- An input window's array ends as the program found it. -/
theorem array_kept (r : PUnit × MemSt nD τ sig (Elt F)) (h : Final m r) (c : Dev nD) (w : Fin 6) (hw : (spec0 w).isOut = false)
    (hb : Pipeline.arrRef spec0 w ∉ written) :
    r.2.mem ((spec0 w).arr.view.loc (c.tc : Thread nD τ)) = m ((c.tc : Thread nD τ).loc (Pipeline.arrRef spec0 w)) :=
  ((h.1 c).1 w).trans (((dats (hostV m) (choice m) 0 c).arrAt_in w hw _).trans (hostV_unwritten m c _ hb))

/-- A final state has every argument unchanged. -/
theorem args_kept (r : PUnit × MemSt nD τ sig (Elt F)) (h : Final m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨array_kept m r h c 0 rfl (by decide), array_kept m r h c 1 rfl (by decide), array_kept m r h c 2 rfl (by decide),
    ((h.1 c).2 main_arg3 (Pipeline.mem_restRefs_of _ rfl (by decide))).trans (hostV_unwritten m c _ (by decide)),
    ((h.1 c).2 main_arg4 (Pipeline.mem_restRefs_of _ rfl (by decide))).trans (hostV_unwritten m c _ (by decide))⟩

/-- Every execution ends with the arguments unchanged and every counter at zero. -/
theorem frame_all : θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨args_kept m r h, h.2⟩) (run_main m g)

end Cert.KernelIdeal.Flash

end
-- ==== Proof.Flash.Frames.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Flash.Frame
public import Idealize.ShloMosaic.Lib.Pipeline.Regions

@[expose] public section

set_option maxRecDepth 16384

noncomputable section

namespace Cert.Proof

open Idealize.ShloMosaic Idealize.ShloMosaic.TcCoe Idealize.SL.Sem

/-- The frame of the idealized kernel. -/
theorem frame_pi : Cert.quiescent_KernelIdeal := fun m g _ => Cert.KernelIdeal.Flash.frame_all (F := Ideal) m g

/-- The frame of the idealized kernel's text, read on the machine's own floats. -/
def QuiescentBits : Prop :=
  ∀ (m : (ℓ : Loc Cert.KernelIdeal.nD Cert.KernelIdeal.τ Cert.KernelIdeal.sig) → Buf (Elt Bits) ℓ) (g : Dev Cert.KernelIdeal.nD → PrngReg),
    True → θ_run (Cert.KernelIdeal.defs (F := Bits)) (onTc (τ := Cert.KernelIdeal.τ) (Cert.KernelIdeal.main (F := Bits)))
      ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0) ∧
      r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) ∧
      r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) ∧
      r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) ∧
      r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) ∧
      r.2.sem = fun _ => 0)

/-- That text's frame on the machine's floats. -/
theorem frame_bits : QuiescentBits := fun m g _ => Cert.KernelIdeal.Flash.frame_all (F := Bits) m g

/-- The two texts are the same. -/
theorem same_text : Cert.quiescent_Kernel = QuiescentBits := by chain_rfl

/-- The frame of the printed kernel: its text is the idealized kernel's, read on the machine's floats. -/
theorem frame_p : Cert.quiescent_Kernel := same_text.mpr frame_bits

/-- The frame of the reference. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Flash.Weights.lean ====
module

public import Idealize.ShloMosaic.PureOps.Ideal
public import Mathlib.Data.EReal.Operations
public import Mathlib.Data.EReal.Inv
public import Mathlib.Analysis.SpecialFunctions.Pow.Real
public import Mathlib.Algebra.BigOperators.Fin

@[expose] public section

noncomputable section

namespace Cert.KernelIdeal.Flash

open Idealize.ShloMosaic

/-- The weight of a score: two to its power, as an extended real. -/
def wt (x : ℝ) : EReal := (((2 : ℝ) ^ x : ℝ) : EReal)

theorem pow_pos2 (x : ℝ) : (0 : ℝ) < (2 : ℝ) ^ x := Real.rpow_pos_of_pos two_pos x

theorem exp2_sub (x r : ℝ) : Ideal.exp2 ((x : EReal) - (r : EReal)) = wt (x - r) := by
  rw [← EReal.coe_sub]; rfl

/-- −∞ less a real is −∞, whose weight is zero. -/
theorem exp2_bot_sub (r : ℝ) : Ideal.exp2 ((⊥ : EReal) - (r : EReal)) = 0 := by
  rw [EReal.bot_sub]; rfl

theorem wt_mul (a b : ℝ) : wt a * wt b = wt (a + b) := by
  unfold wt
  rw [← EReal.coe_mul, ← Real.rpow_add two_pos]

/-- A nonnegative real factor goes into a sum of extended reals. -/
theorem coe_mul_sum (c : ℝ) (hc : 0 ≤ c) (f : ℕ → EReal) (n : ℕ) :
    (c : EReal) * ∑ s ∈ Finset.range n, f s = ∑ s ∈ Finset.range n, (c : EReal) * f s := by
  induction n with
  | zero => simp
  | succ n ih =>
    rw [Finset.sum_range_succ, Finset.sum_range_succ,
      EReal.left_distrib_of_nonneg_of_ne_top (EReal.coe_nonneg.mpr hc) (EReal.coe_ne_top c), ih]

theorem coe_sum_range (f : ℕ → ℝ) (n : ℕ) :
    ((∑ s ∈ Finset.range n, f s : ℝ) : EReal) = ∑ s ∈ Finset.range n, (f s : EReal) := by
  induction n with
  | zero => simp
  | succ n ih => rw [Finset.sum_range_succ, Finset.sum_range_succ, EReal.coe_add, ih]

/-- The weights of the first `n` keys, `r` taken off every score. -/
def S0 (sc : ℕ → ℝ) (r : ℝ) (n : ℕ) : EReal := ∑ s ∈ Finset.range n, wt (sc s - r)
/-- The weighted values of the first `n` keys, `r` taken off every score. -/
def S1 (sc : ℕ → ℝ) (v : ℕ → EReal) (r : ℝ) (n : ℕ) : EReal := ∑ s ∈ Finset.range n, wt (sc s - r) * v s

theorem S0_zero (sc : ℕ → ℝ) (r : ℝ) : S0 sc r 0 = 0 := by simp [S0]
theorem S1_zero (sc : ℕ → ℝ) (v : ℕ → EReal) (r : ℝ) : S1 sc v r 0 = 0 := by simp [S1]

theorem S0_add (sc : ℕ → ℝ) (r : ℝ) (n b : ℕ) : S0 sc r (n + b) = S0 sc r n + ∑ y : Fin b, wt (sc (n + y) - r) := by
  unfold S0
  rw [Finset.sum_range_add, Finset.sum_range (n := b)]

theorem S1_add (sc : ℕ → ℝ) (v : ℕ → EReal) (r : ℝ) (n b : ℕ) :
    S1 sc v r (n + b) = S1 sc v r n + ∑ y : Fin b, v (n + y) * wt (sc (n + y) - r) := by
  unfold S1
  rw [Finset.sum_range_add, Finset.sum_range (n := b)]
  exact congrArg _ (Finset.sum_congr rfl fun y _ => mul_comm _ _)

/-- Another real taken off: every weight is multiplied by the same factor. -/
theorem S0_shift (sc : ℕ → ℝ) (r r' : ℝ) (n : ℕ) : wt (r - r') * S0 sc r n = S0 sc r' n := by
  unfold S0
  rw [show wt (r - r') = (((2 : ℝ) ^ (r - r') : ℝ) : EReal) from rfl, coe_mul_sum _ (pow_pos2 _).le]
  refine Finset.sum_congr rfl fun s _ => ?_
  change wt (r - r') * wt (sc s - r) = _
  rw [wt_mul]; congr 1; ring

theorem S1_shift (sc : ℕ → ℝ) (v : ℕ → EReal) (r r' : ℝ) (n : ℕ) : wt (r - r') * S1 sc v r n = S1 sc v r' n := by
  unfold S1
  rw [show wt (r - r') = (((2 : ℝ) ^ (r - r') : ℝ) : EReal) from rfl, coe_mul_sum _ (pow_pos2 _).le]
  refine Finset.sum_congr rfl fun s _ => ?_
  change wt (r - r') * (wt (sc s - r) * v s) = _
  rw [← mul_assoc, wt_mul]; congr 2; ring

/-- What a column holds after its first `n` keys: for a real `M` taken off every score, the weights' sum `L` and the
weighted values' sum `A`; before the first key `M` may also be −∞. -/
def Inv (sc : ℕ → ℝ) (v : ℕ → EReal) (n : ℕ) (M L A : EReal) : Prop :=
  (n = 0 ∧ M = ⊥ ∧ L = 0 ∧ A = 0) ∨ ∃ r : ℝ, M = r ∧ L = S0 sc r n ∧ A = S1 sc v r n

/-- A block of keys with the running maximum: both sums are rescaled and the block's share is added. -/
theorem Inv.online {sc : ℕ → ℝ} {v : ℕ → EReal} {n : ℕ} {M L A : EReal} (h : Inv sc v n M L A) (b : ℕ) (r' : ℝ) :
    Inv sc v (n + b) (r' : EReal)
      (Ideal.exp2 (M - (r' : EReal)) * L + ∑ y : Fin b, Ideal.exp2 ((sc (n + y) : EReal) - (r' : EReal)))
      (Ideal.exp2 (M - (r' : EReal)) * A + ∑ y : Fin b, v (n + y) * Ideal.exp2 ((sc (n + y) : EReal) - (r' : EReal))) := by
  refine .inr ⟨r', rfl, ?_, ?_⟩
  · rw [S0_add]
    simp only [exp2_sub]
    refine congrArg (· + _) ?_
    rcases h with ⟨rfl, rfl, rfl, rfl⟩ | ⟨r, rfl, rfl, rfl⟩
    · rw [mul_zero, S0_zero]
    · rw [exp2_sub, S0_shift]
  · rw [S1_add]
    simp only [exp2_sub]
    refine congrArg (· + _) ?_
    rcases h with ⟨rfl, rfl, rfl, rfl⟩ | ⟨r, rfl, rfl, rfl⟩
    · rw [mul_zero, S1_zero]
    · rw [exp2_sub, S1_shift]

/-- What a column holds with the bound fixed: the last half block's weights `P` are kept and not yet spent on `A`. -/
def InvF (sc : ℕ → ℝ) (v : ℕ → EReal) (n : ℕ) (M L A : EReal) (P : Fin 1024 → EReal) : Prop :=
  ∃ r : ℝ, M = r ∧ L = S0 sc r n ∧ ((n = 0 ∧ A = 0 ∧ ∀ y, P y = 0)
    ∨ ∃ n₀, n = n₀ + 1024 ∧ A = S1 sc v r n₀ ∧ ∀ y : Fin 1024, P y = wt (sc (n₀ + y) - r))

/-- Spending the kept weights completes the weighted values. -/
theorem InvF.spend {sc : ℕ → ℝ} {v : ℕ → EReal} {n : ℕ} {A : EReal} {P : Fin 1024 → EReal} {r : ℝ}
    (h : (n = 0 ∧ A = 0 ∧ ∀ y, P y = 0) ∨ ∃ n₀, n = n₀ + 1024 ∧ A = S1 sc v r n₀ ∧ ∀ y : Fin 1024, P y = wt (sc (n₀ + y) - r))
    (vp : Fin 1024 → EReal) (hv : n ≠ 0 → ∀ y : Fin 1024, vp y = v (n - 1024 + y)) :
    A + ∑ y : Fin 1024, vp y * P y = S1 sc v r n := by
  rcases h with ⟨rfl, rfl, hP⟩ | ⟨n₀, rfl, rfl, hP⟩
  · rw [S1_zero, zero_add]
    exact Finset.sum_eq_zero fun y _ => by rw [hP, mul_zero]
  · rw [S1_add]
    refine congrArg _ (Finset.sum_congr rfl fun y _ => ?_)
    rw [hv (by omega), hP, Nat.add_sub_cancel]

/-- A block of keys with the bound fixed. -/
theorem InvF.fast {sc : ℕ → ℝ} {v : ℕ → EReal} {n : ℕ} {M L A : EReal} {P : Fin 1024 → EReal} (h : InvF sc v n M L A P)
    (vp : Fin 1024 → EReal) (hv : n ≠ 0 → ∀ y : Fin 1024, vp y = v (n - 1024 + y)) :
    InvF sc v (n + 2048) M
      (L + ((∑ y : Fin 1024, Ideal.exp2 ((sc (n + y) : EReal) - M)) + ∑ y : Fin 1024, Ideal.exp2 ((sc (n + 1024 + y) : EReal) - M)))
      ((A + ∑ y : Fin 1024, vp y * P y) + ∑ y : Fin 1024, v (n + y) * Ideal.exp2 ((sc (n + y) : EReal) - M))
      (fun y => Ideal.exp2 ((sc (n + 1024 + y) : EReal) - M)) := by
  obtain ⟨r, rfl, rfl, hA⟩ := h
  refine ⟨r, rfl, ?_, .inr ⟨n + 1024, rfl, ?_, fun y => exp2_sub _ _⟩⟩
  · rw [show n + 2048 = (n + 1024) + 1024 from rfl, S0_add, S0_add, add_assoc]
    simp only [exp2_sub]
  · rw [InvF.spend hA vp hv, S1_add]
    simp only [exp2_sub]

/-- The last block's kept weights spent. -/
theorem InvF.flush {sc : ℕ → ℝ} {v : ℕ → EReal} {n : ℕ} {M L A : EReal} {P : Fin 1024 → EReal} (h : InvF sc v n M L A P)
    (vp : Fin 1024 → EReal) (hv : n ≠ 0 → ∀ y : Fin 1024, vp y = v (n - 1024 + y)) :
    Inv sc v n M L (A + ∑ y : Fin 1024, vp y * P y) := by
  obtain ⟨r, rfl, rfl, hA⟩ := h
  exact .inr ⟨r, rfl, rfl, InvF.spend hA vp hv⟩

/-- Attention of one query over `n` keys: the values weighted by two to the scores, over the weights' sum. -/
def attend (sc : ℕ → ℝ) (v : ℕ → EReal) (n : ℕ) : EReal :=
  ∑ s ∈ Finset.range n, (((2 : ℝ) ^ sc s / ∑ u ∈ Finset.range n, (2 : ℝ) ^ sc u : ℝ) : EReal) * v s

/-- The weights' sum is a positive real. -/
theorem S0_coe (sc : ℕ → ℝ) (r : ℝ) (n : ℕ) : S0 sc r n = ((∑ s ∈ Finset.range n, (2 : ℝ) ^ (sc s - r) : ℝ) : EReal) := by
  rw [coe_sum_range]; rfl

theorem sum_pos2 (f : ℕ → ℝ) {n : ℕ} (hn : 0 < n) : 0 < ∑ s ∈ Finset.range n, (2 : ℝ) ^ f s :=
  Finset.sum_pos (fun _ _ => pow_pos2 _) ⟨0, Finset.mem_range.mpr hn⟩

/-- Dividing by a positive real. -/
theorem div_pos_coe (x : EReal) {l : ℝ} (hl : 0 < l) : Ideal.div x (l : EReal) = ((l⁻¹ : ℝ) : EReal) * x := by
  unfold Ideal.div
  rw [if_neg (by exact_mod_cast hl.ne'), EReal.coe_inv, mul_comm]

/-- A weight over the weights' sum does not depend on what is taken off. -/
theorem ratio (sc : ℕ → ℝ) (r : ℝ) {n : ℕ} (hn : 0 < n) (s : ℕ) :
    (∑ u ∈ Finset.range n, (2 : ℝ) ^ (sc u - r))⁻¹ * (2 : ℝ) ^ (sc s - r)
      = (2 : ℝ) ^ sc s / ∑ u ∈ Finset.range n, (2 : ℝ) ^ sc u := by
  have h : ∀ u, (2 : ℝ) ^ (sc u - r) = (2 : ℝ) ^ sc u / (2 : ℝ) ^ r := fun u => Real.rpow_sub two_pos _ _
  simp only [h]
  rw [← Finset.sum_div]
  have h1 := (pow_pos2 r).ne'
  have h2 := (sum_pos2 sc hn).ne'
  field_simp

/-- The quotient of the two sums is the attention. -/
theorem Inv.out {sc : ℕ → ℝ} {v : ℕ → EReal} {n : ℕ} {M L A : EReal} (hn : 0 < n) (h : Inv sc v n M L A) :
    Ideal.div A L = attend sc v n := by
  rcases h with ⟨rfl, -⟩ | ⟨r, rfl, rfl, rfl⟩
  · omega
  rw [S0_coe, div_pos_coe _ (sum_pos2 _ hn)]
  unfold S1 attend
  rw [coe_mul_sum _ (inv_nonneg.mpr (sum_pos2 _ hn).le)]
  refine Finset.sum_congr rfl fun s _ => ?_
  rw [← mul_assoc]
  unfold wt
  rw [← EReal.coe_mul, ratio sc r hn]

/-- The values weighted by normalised weights are the attention. -/
theorem attend_eq {sc : ℕ → ℝ} {v : ℕ → EReal} {n : ℕ} (hn : 0 < n) (r : ℝ) :
    ∑ s : Fin n, v s * Ideal.div (wt (sc s - r)) (∑ u : Fin n, wt (sc u - r)) = attend sc v n := by
  have hL : ∑ u : Fin n, wt (sc u - r) = S0 sc r n := by
    unfold S0; rw [Finset.sum_range]
  rw [hL, S0_coe]
  unfold attend
  rw [Finset.sum_range (n := n) (f := fun s => (((2 : ℝ) ^ sc s / ∑ u ∈ Finset.range n, (2 : ℝ) ^ sc u : ℝ) : EReal) * v s)]
  refine Finset.sum_congr rfl fun s _ => ?_
  rw [div_pos_coe _ (sum_pos2 _ hn), mul_comm]
  unfold wt
  rw [← EReal.coe_mul, ratio sc r hn]

/-- The greatest of finitely many reals, at least one, is a real. -/
theorem fold_max_real {ι : Type} (S : Finset ι) (hS : S.Nonempty) (f : ι → EReal) (hf : ∀ i ∈ S, ∃ r : ℝ, f i = r) :
    ∃ r : ℝ, S.fold max ⊥ f = r := by
  have h1 : S.fold max ⊥ f < ⊤ := (Finset.fold_max_lt _).mpr ⟨bot_lt_top, fun i hi => by
    obtain ⟨r, h⟩ := hf i hi; rw [h]; exact EReal.coe_lt_top r⟩
  obtain ⟨i, hi⟩ := hS
  obtain ⟨r, h⟩ := hf i hi
  have h2 : (r : EReal) ≤ S.fold max ⊥ f := (Finset.le_fold_max _).mpr (.inr ⟨i, hi, h.ge⟩)
  have h3 : S.fold max ⊥ f ≠ ⊥ := fun e => by rw [e] at h2; exact absurd h2 (not_le.mpr (EReal.bot_lt_coe r))
  exact ⟨_, (EReal.coe_toReal h1.ne h3).symm⟩

/-- The greater of a real and of −∞ or a real is a real. -/
theorem max_real {a b : EReal} (ha : a = ⊥ ∨ ∃ r : ℝ, a = r) (hb : ∃ r : ℝ, b = r) : ∃ r : ℝ, max a b = r := by
  obtain ⟨r, rfl⟩ := hb
  rcases ha with rfl | ⟨s, rfl⟩
  · exact ⟨r, max_eq_right bot_le⟩
  · rcases max_choice (s : EReal) (r : EReal) with h | h
    · exact ⟨s, h⟩
    · exact ⟨r, h⟩

/-- A sum of reals is a real. -/
theorem sum_real {ι : Type} (S : Finset ι) (f : ι → EReal) (hf : ∀ i ∈ S, ∃ r : ℝ, f i = r) : ∃ r : ℝ, ∑ i ∈ S, f i = r := by
  classical
  induction S using Finset.induction_on with
  | empty => exact ⟨0, by simp⟩
  | insert a S ha ih =>
    obtain ⟨r, h⟩ := ih fun i hi => hf i (Finset.mem_insert_of_mem hi)
    obtain ⟨s, h'⟩ := hf a (Finset.mem_insert_self a S)
    exact ⟨s + r, by rw [Finset.sum_insert ha, h, h', EReal.coe_add]⟩

theorem mul_real {a b : EReal} (ha : ∃ r : ℝ, a = r) (hb : ∃ r : ℝ, b = r) : ∃ r : ℝ, a * b = r := by
  obtain ⟨r, rfl⟩ := ha; obtain ⟨s, rfl⟩ := hb; exact ⟨r * s, (EReal.coe_mul r s).symm⟩

end Cert.KernelIdeal.Flash

end
-- ==== Proof.Flash.Pays.lean ====
module

public import proofs.«01_k».proof.Proof.Flash.Step
public import proofs.«01_k».proof.Proof.Flash.Weights
public import Idealize.ShloMosaic.Lib.Pointwise

@[expose] public section

set_option maxRecDepth 16384

noncomputable section

namespace Cert.KernelIdeal.Flash

open Cert.KernelIdeal Cert.KernelIdeal.Gen
open Idealize.ShloMosaic
open Idealize.ShloMosaic.View (ld canon)

/-- An array of extended reals. -/
local notation "Arr" s => Shape.Idx s → EReal

/-- A bound on a column's scores, when the fixed-bound path is taken, and −∞ otherwise. -/
theorem pay1_at (sw : BitVec 32) (q : Arr S128x4096) (km : Arr S1x1) (c : Fin 4096) :
    k0_pay1 (F := Ideal) sw q km (ix2 0 c) = Scalar.select (Scalar.cmpi .ne sw 0#32)
      (Ideal.sqrt ((∑ d : Fin 128, q (ix2 d c) * q (ix2 d c)) * km (ix2 0 0)) * Ideal.ofBits .f32 0x3F8147AE#32)
      (Ideal.ofBits .f32 0xFF800000#32) := by
  pointwise [k0_pay1]

/-- The scores of a key block. -/
theorem pay5_at (k : Arr S2048x128) (q : Arr S128x4096) (y : Fin 2048) (c : Fin 4096) :
    k0_pay5 (F := Ideal) k q (ix2 y c) = ∑ d : Fin 128, k (ix2 y d) * q (ix2 d c) := by
  pointwise [k0_pay5]

/-- The greatest of no scores is −∞. -/
theorem ofBits_neg_inf : Ideal.ofBits .f32 0xFF800000#32 = ⊥ := by
  simp [Ideal.ofBits, Ideal.ieee]

/-- The running maximum over any row of maxima. -/
theorem max_at (m : Arr S1x4096) (x : Arr S4096) (c : Fin 4096) :
    maximumf (F := Ideal) (φ := .f32) m (shapeCast S1x4096 x shapeCasts_S4096_S1x4096) (ix2 0 c) = max (m (ix2 0 c)) (x (ix1 c)) := by
  pointwise

/-- After a key block of real scores the running maximum is real. -/
theorem pay6_real (k : Arr S2048x128) (q : Arr S128x4096) (m : Arr S1x4096) (c : Fin 4096)
    (hm : m (ix2 0 c) = ⊥ ∨ ∃ r : ℝ, m (ix2 0 c) = r) (hk : ∀ y, ∃ r : ℝ, k0_pay5 (F := Ideal) k q y = r) :
    ∃ r : ℝ, k0_pay6 (F := Ideal) k q m (ix2 0 c) = r := by
  unfold k0_pay6
  rw [max_at]
  refine max_real hm ?_
  obtain ⟨r, hr⟩ := fold_max_real (Finset.univ : Finset (Fin 2048)) ⟨⟨0, by decide⟩, Finset.mem_univ _⟩
    ((k0_pay5 (F := Ideal) k q : Arr S2048x4096) ∘ reduces_S2048x4096_S4096.lift (ix1 c)) fun y _ => hk _
  refine ⟨r, (Ideal.multiReduction_maximumf_single (φ := .f32) (k0_pay5 (F := Ideal) k q) _ reduces_S2048x4096_S4096 (.inl rfl) rfl (ix1 c)).trans ?_⟩
  exact (congrArg (fun z : EReal => Finset.fold max z _ _) ofBits_neg_inf).trans hr

theorem pay7_at (k : Arr S2048x128) (q : Arr S128x4096) (m : Arr S1x4096) (c : Fin 4096) :
    k0_pay7 (F := Ideal) k q m (ix2 0 c) = Ideal.exp2 (m (ix2 0 c) - k0_pay6 (F := Ideal) k q m (ix2 0 c)) := by
  pointwise [k0_pay7]
  rfl

theorem pay8_at (k : Arr S2048x128) (q : Arr S128x4096) (m : Arr S1x4096) (y : Fin 2048) (c : Fin 4096) :
    k0_pay8 (F := Ideal) k q m (ix2 y c)
      = Ideal.exp2 (k0_pay5 (F := Ideal) k q (ix2 y c) - k0_pay6 (F := Ideal) k q m (ix2 0 c)) := by
  pointwise [k0_pay8]
  rfl

theorem pay9_at (k : Arr S2048x128) (q : Arr S128x4096) (m l : Arr S1x4096) (c : Fin 4096) :
    k0_pay9 (F := Ideal) k q m l (ix2 0 c)
      = k0_pay7 (F := Ideal) k q m (ix2 0 c) * l (ix2 0 c) + ∑ y : Fin 2048, k0_pay8 (F := Ideal) k q m (ix2 y c) := by
  pointwise [k0_pay9]

theorem pay10_at (k : Arr S2048x128) (q : Arr S128x4096) (m : Arr S1x4096) (acc : Arr S128x4096) (v : Arr S128x2048)
    (d : Fin 128) (c : Fin 4096) :
    k0_pay10 (F := Ideal) k q m acc v (ix2 d c)
      = k0_pay7 (F := Ideal) k q m (ix2 0 c) * acc (ix2 d c) + ∑ y : Fin 2048, v (ix2 d y) * k0_pay8 (F := Ideal) k q m (ix2 y c) := by
  pointwise [k0_pay10]

theorem pay11_at (k : Arr S2048x128) (q : Arr S128x4096) (m : Arr S1x4096) (c : Fin 4096) :
    k0_pay11 (F := Ideal) k q m (ix2 0 c) = k0_pay6 (F := Ideal) k q m (ix2 0 c) := by
  pointwise [k0_pay11]

theorem pay12_at (acc : Arr S128x4096) (l : Arr S1x4096) (d : Fin 128) (c : Fin 4096) :
    k0_pay12 (F := Ideal) acc l (ix2 d c) = Ideal.div (acc (ix2 d c)) (l (ix2 0 c)) := by
  pointwise [k0_pay12]

theorem pay13_at (acc : Arr S128x4096) (l : Arr S1x4096) (j : Fin 1024) (d : Fin 128) :
    k0_pay13 (F := Ideal) acc l (ix2 j d) = k0_pay12 (F := Ideal) acc l (ix2 d ⟨j.val, by omega⟩) := by
  pointwise [k0_pay13]

theorem pay14_at (acc : Arr S128x4096) (l : Arr S1x4096) (j : Fin 1024) (d : Fin 128) :
    k0_pay14 (F := Ideal) acc l (ix2 j d) = k0_pay12 (F := Ideal) acc l (ix2 d ⟨1024 + j.val, by omega⟩) := by
  pointwise [k0_pay14]

theorem pay15_at (acc : Arr S128x4096) (l : Arr S1x4096) (j : Fin 1024) (d : Fin 128) :
    k0_pay15 (F := Ideal) acc l (ix2 j d) = k0_pay12 (F := Ideal) acc l (ix2 d ⟨2048 + j.val, by omega⟩) := by
  pointwise [k0_pay15]

theorem pay16_at (acc : Arr S128x4096) (l : Arr S1x4096) (j : Fin 1024) (d : Fin 128) :
    k0_pay16 (F := Ideal) acc l (ix2 j d) = k0_pay12 (F := Ideal) acc l (ix2 d ⟨3072 + j.val, by omega⟩) := by
  pointwise [k0_pay16]

theorem pay17_at (c : Fin 4096) : k0_pay17 (F := Ideal) (ix2 0 c) = 0 := by pointwise [k0_pay17]
theorem pay18_at (d : Fin 128) (c : Fin 4096) : k0_pay18 (F := Ideal) (ix2 d c) = 0 := by pointwise [k0_pay18]
theorem pay19_at (y : Fin 1024) (c : Fin 4096) : k0_pay19 (F := Ideal) (ix2 y c) = 0 := by pointwise [k0_pay19]
theorem pay20_eq (x : Arr S128x1024) (d : Fin 128) (j : Fin 1024) : k0_pay20 (F := Ideal) x (ix2 d j) = x (ix2 d j) := by
  pointwise [k0_pay20]
theorem pay21_eq (x : Arr S128x1024) (d : Fin 128) (j : Fin 1024) : k0_pay21 (F := Ideal) x (ix2 d j) = x (ix2 d j) := by
  pointwise [k0_pay21]
theorem pay22_eq (x : Arr S128x1024) (d : Fin 128) (j : Fin 1024) : k0_pay22 (F := Ideal) x (ix2 d j) = x (ix2 d j) := by
  pointwise [k0_pay22]
theorem pay23_eq (x : Arr S128x1024) (d : Fin 128) (j : Fin 1024) : k0_pay23 (F := Ideal) x (ix2 d j) = x (ix2 d j) := by
  pointwise [k0_pay23]

theorem pay24_at (q : Arr S128x4096) (m : Arr S1x4096) (k : Arr S1024x128) (y : Fin 1024) (c : Fin 4096) :
    k0_pay24 (F := Ideal) q m k (ix2 y c) = Ideal.exp2 ((∑ d : Fin 128, k (ix2 y d) * q (ix2 d c)) - m (ix2 0 c)) := by
  pointwise [k0_pay24]
  rfl

theorem pay26_at (q : Arr S128x4096) (m : Arr S1x4096) (k : Arr S1024x128) (y : Fin 1024) (c : Fin 4096) :
    k0_pay26 (F := Ideal) q m k (ix2 y c) = Ideal.exp2 ((∑ d : Fin 128, k (ix2 y d) * q (ix2 d c)) - m (ix2 0 c)) := by
  pointwise [k0_pay26]
  rfl

theorem pay27_at (q : Arr S128x4096) (m : Arr S1x4096) (k k' : Arr S1024x128) (l : Arr S1x4096) (c : Fin 4096) :
    k0_pay2 (F := Ideal) (k0_pay27 (F := Ideal) q m k k' l) (ix2 0 c)
      = l (ix2 0 c) + ((∑ y : Fin 1024, k0_pay24 (F := Ideal) q m k (ix2 y c)) + ∑ y : Fin 1024, k0_pay26 (F := Ideal) q m k' (ix2 y c)) := by
  pointwise [k0_pay2, k0_pay27]

theorem pay25_at (q : Arr S128x4096) (m : Arr S1x4096) (k : Arr S1024x128) (acc : Arr S128x4096) (vp : Arr S128x1024)
    (p : Arr S1024x4096) (v : Arr S128x1024) (d : Fin 128) (c : Fin 4096) :
    k0_pay25 (F := Ideal) q m k acc vp p v (ix2 d c)
      = (acc (ix2 d c) + ∑ y : Fin 1024, vp (ix2 d y) * p (ix2 y c))
        + ∑ y : Fin 1024, v (ix2 d y) * k0_pay24 (F := Ideal) q m k (ix2 y c) := by
  pointwise [k0_pay25]

theorem pay3_at (p : Arr S1024x4096) (y : Fin 1024) (c : Fin 4096) : k0_pay3 (F := Ideal) p (ix2 y c) = p (ix2 y c) := by
  pointwise [k0_pay3]

theorem pay4_at (acc : Arr S128x4096) (v : Arr S128x1024) (p : Arr S1024x4096) (d : Fin 128) (c : Fin 4096) :
    k0_pay4 (F := Ideal) acc v p (ix2 d c) = acc (ix2 d c) + ∑ y : Fin 1024, v (ix2 d y) * p (ix2 y c) := by
  pointwise [k0_pay4]

theorem kLo_at (x : Arr S2048x128) (y : Fin 1024) (d : Fin 128) : kLo (F := Ideal) x (ix2 y d) = x (ix2 ⟨y.val, by omega⟩ d) := by
  pointwise [kLo]
theorem kHi_at (x : Arr S2048x128) (y : Fin 1024) (d : Fin 128) : kHi (F := Ideal) x (ix2 y d) = x (ix2 ⟨1024 + y.val, by omega⟩ d) := by
  pointwise [kHi]
theorem vLo_at (x : Arr S128x2048) (d : Fin 128) (y : Fin 1024) : vLo (F := Ideal) x (ix2 d y) = x (ix2 d ⟨y.val, by omega⟩) := by
  pointwise [vLo]
theorem vHi_at (x : Arr S128x2048) (d : Fin 128) (y : Fin 1024) : vHi (F := Ideal) x (ix2 d y) = x (ix2 d ⟨1024 + y.val, by omega⟩) := by
  pointwise [vHi]
theorem kmOf_at (x : Arr S8x128) : kmOf (F := Ideal) x (ix2 0 0) = x (ix2 0 0) := by
  pointwise [kmOf]

end Cert.KernelIdeal.Flash

end
-- ==== Proof.Flash.Reads.lean ====
module

public import proofs.«01_k».proof.Proof.Flash.Pays
public import Idealize.ShloMosaic.Lib.Pipeline.Value

@[expose] public section

set_option maxRecDepth 16384

noncomputable section

namespace Cert.KernelIdeal.Flash

open Cert.KernelIdeal Cert.KernelIdeal.Gen
open Idealize.ShloMosaic
open Idealize.ShloMosaic.View (ld canon)

/-! Arrays of two axes read at numbers. -/

/-- The element at row `i` and column `j`, and zero outside the array. -/
def at2 {a b : ℕ} (x : (⟨2, ![a, b]⟩ : Shape).Idx → EReal) (i j : ℕ) : EReal :=
  if h : i < a ∧ j < b then x (ix2 ⟨i, h.1⟩ ⟨j, h.2⟩) else 0

theorem at2_ix {a b : ℕ} (x : (⟨2, ![a, b]⟩ : Shape).Idx → EReal) (i : Fin a) (j : Fin b) : x (ix2 i j) = at2 x i.val j.val := by
  unfold at2; rw [dif_pos ⟨i.isLt, j.isLt⟩]

theorem at2_idx {a b : ℕ} (x : (⟨2, ![a, b]⟩ : Shape).Idx → EReal) (y : (⟨2, ![a, b]⟩ : Shape).Idx) {i j : ℕ}
    (hi : (y 0).val = i) (hj : (y 1).val = j) : x y = at2 x i j := by
  subst hi hj
  rw [eq_ix2 y]; exact at2_ix x (y 0) (y 1)

/-- An element of the query columns, from the query block. -/
def qsG (x0 : S512x1024.Idx → EReal) (y : S128x4096.Idx) : EReal := at2 x0 (128 * ((y 1).val / 1024) + (y 0).val) ((y 1).val % 1024)

theorem qs_piece (x0 : S512x1024.Idx → EReal) {a b : ℕ} (inb : ∀ i, (![a, 0] : Fin 2 → ℕ) i + S128x1024.size i ≤ S512x1024.size i)
    (inb' : ∀ i, (![0, b] : Fin 2 → ℕ) i + S128x1024.size i ≤ S128x4096.size i) (ha : a = 128 * (b / 1024)) (hb : b % 1024 = 0)
    (d : Fin 128) (j : Fin 1024) :
    ld (Val := Elt Ideal) (e' := .bf16) x0 (Rect.unit (s := S512x1024) ![a, 0] S128x1024.size inb) (ix2 d j)
      = qsG x0 ((Rect.unit (s := S128x4096) ![0, b] S128x1024.size inb').emb (ix2 d j)) := by
  refine at2_idx x0 _ ?_ ?_
  · show a + 1 * d.val = 128 * ((b + 1 * j.val) / 1024) + (0 + 1 * d.val)
    omega
  · show 0 + 1 * j.val = (b + 1 * j.val) % 1024
    omega

/-- The query columns: head `c / 1024` of query `c % 1024`. -/
theorem qsOf_at (x0 : S512x1024.Idx → EReal) (d : Fin 128) (c : Fin 4096) :
    qsOf (F := Ideal) x0 (ix2 d c) = at2 x0 (128 * (c.val / 1024) + d.val) (c.val % 1024) := by
  unfold qsOf
  refine (View.canon_apply_of_pieces (Val := Elt Ideal) (e := .bf16) (qsG x0) _ ?_ (ix2 d c) ?_).trans rfl
  · intro p hp y
    simp only [List.mem_cons, List.not_mem_nil, or_false] at hp
    rcases hp with rfl | rfl | rfl | rfl
    all_goals
      obtain ⟨y0, y1, rfl⟩ : ∃ (a : Fin 128) (b : Fin 1024), y = ix2 a b := ⟨y 0, y 1, eq_ix2 y⟩
    · exact (pay23_eq _ y0 y1).trans (qs_piece x0 inb_S512x1024_S128x1024_384_0 inb_S128x4096_S128x1024_0_3072 rfl rfl y0 y1)
    · exact (pay22_eq _ y0 y1).trans (qs_piece x0 inb_S512x1024_S128x1024_256_0 inb_S128x4096_S128x1024_0_2048 rfl rfl y0 y1)
    · exact (pay21_eq _ y0 y1).trans (qs_piece x0 inb_S512x1024_S128x1024_128_0 inb_S128x4096_S128x1024_0_1024 rfl rfl y0 y1)
    · exact (pay20_eq _ y0 y1).trans (qs_piece x0 inb_S512x1024_S128x1024_0_0 inb_S128x4096_S128x1024_0_0 rfl rfl y0 y1)
  · simp only [List.mem_cons, List.not_mem_nil, or_false, exists_eq_or_imp, exists_eq_left]
    have hd := d.isLt
    have hc := c.isLt
    simp only [Rect.mem_set_unit]
    rcases (by omega : c.val / 1024 = 3 ∨ c.val / 1024 = 2 ∨ c.val / 1024 = 1 ∨ c.val / 1024 = 0) with h | h | h | h
    · refine .inl fun a => ?_
      fin_cases a
      · exact ⟨Nat.zero_le _, by show d.val < 0 + 128; omega⟩
      · exact ⟨by show 3072 ≤ c.val; omega, by show c.val < 3072 + 1024; omega⟩
    · refine .inr (.inl fun a => ?_)
      fin_cases a
      · exact ⟨Nat.zero_le _, by show d.val < 0 + 128; omega⟩
      · exact ⟨by show 2048 ≤ c.val; omega, by show c.val < 2048 + 1024; omega⟩
    · refine .inr (.inr (.inl fun a => ?_))
      fin_cases a
      · exact ⟨Nat.zero_le _, by show d.val < 0 + 128; omega⟩
      · exact ⟨by show 1024 ≤ c.val; omega, by show c.val < 1024 + 1024; omega⟩
    · refine .inr (.inr (.inr fun a => ?_))
      fin_cases a
      · exact ⟨Nat.zero_le _, by show d.val < 0 + 128; omega⟩
      · exact ⟨by show 0 ≤ c.val; omega, by show c.val < 0 + 1024; omega⟩

/-- An element of the output block, from the sums. -/
def outG (acc : S128x4096.Idx → EReal) (l : S1x4096.Idx → EReal) (y : S1024x512.Idx) : EReal :=
  Ideal.div (at2 acc ((y 1).val % 128) (1024 * ((y 1).val / 128) + (y 0).val)) (at2 l 0 (1024 * ((y 1).val / 128) + (y 0).val))

theorem out_piece (acc : S128x4096.Idx → EReal) (l : S1x4096.Idx → EReal) {b : ℕ}
    (inb' : ∀ i, (![0, b] : Fin 2 → ℕ) i + S1024x128.size i ≤ S1024x512.size i) (hb : b % 128 = 0)
    (d : Fin 128) (j : Fin 1024) (c : Fin 4096) (hc : c.val = 8 * b + j.val) :
    k0_pay12 (F := Ideal) acc l (ix2 d c) = outG acc l ((Rect.unit (s := S1024x512) ![0, b] S1024x128.size inb').emb (ix2 j d)) := by
  have h0 : d.val = (b + 1 * d.val) % 128 := by have := d.isLt; omega
  have h1 : c.val = 1024 * ((b + 1 * d.val) / 128) + (0 + 1 * j.val) := by have := d.isLt; omega
  rw [pay12_at, at2_ix acc, at2_ix l, h0, h1]
  rfl

/-- The output block: query `j`, head `n / 128` and dimension `n % 128`. -/
theorem outOf_at (acc : S128x4096.Idx → EReal) (l : S1x4096.Idx → EReal) (j : Fin 1024) (n : Fin 512) :
    outOf (F := Ideal) acc l (ix2 j n)
      = Ideal.div (at2 acc (n.val % 128) (1024 * (n.val / 128) + j.val)) (at2 l 0 (1024 * (n.val / 128) + j.val)) := by
  unfold outOf
  refine (View.canon_apply_of_pieces (Val := Elt Ideal) (e := .bf16) (outG acc l) _ ?_ (ix2 j n) ?_).trans rfl
  · intro p hp y
    simp only [List.mem_cons, List.not_mem_nil, or_false] at hp
    rcases hp with rfl | rfl | rfl | rfl
    all_goals
      obtain ⟨y0, y1, rfl⟩ : ∃ (a : Fin 1024) (b : Fin 128), y = ix2 a b := ⟨y 0, y 1, eq_ix2 y⟩
    · exact (pay16_at acc l y0 y1).trans (out_piece acc l inb_S1024x512_S1024x128_0_384 rfl y1 y0 _ rfl)
    · exact (pay15_at acc l y0 y1).trans (out_piece acc l inb_S1024x512_S1024x128_0_256 rfl y1 y0 _ rfl)
    · exact (pay14_at acc l y0 y1).trans (out_piece acc l inb_S1024x512_S1024x128_0_128 rfl y1 y0 _ rfl)
    · exact (pay13_at acc l y0 y1).trans (out_piece acc l inb_S1024x512_S1024x128_0_0 rfl y1 y0 _ (Nat.zero_add _).symm)
  · simp only [List.mem_cons, List.not_mem_nil, or_false, exists_eq_or_imp, exists_eq_left]
    have hj := j.isLt
    have hn := n.isLt
    simp only [Rect.mem_set_unit]
    rcases (by omega : n.val / 128 = 3 ∨ n.val / 128 = 2 ∨ n.val / 128 = 1 ∨ n.val / 128 = 0) with h | h | h | h
    · refine .inl fun a => ?_
      fin_cases a
      · exact ⟨Nat.zero_le _, by show j.val < 0 + 1024; omega⟩
      · exact ⟨by show 384 ≤ n.val; omega, by show n.val < 384 + 128; omega⟩
    · refine .inr (.inl fun a => ?_)
      fin_cases a
      · exact ⟨Nat.zero_le _, by show j.val < 0 + 1024; omega⟩
      · exact ⟨by show 256 ≤ n.val; omega, by show n.val < 256 + 128; omega⟩
    · refine .inr (.inr (.inl fun a => ?_))
      fin_cases a
      · exact ⟨Nat.zero_le _, by show j.val < 0 + 1024; omega⟩
      · exact ⟨by show 128 ≤ n.val; omega, by show n.val < 128 + 128; omega⟩
    · refine .inr (.inr (.inr fun a => ?_))
      fin_cases a
      · exact ⟨Nat.zero_le _, by show j.val < 0 + 1024; omega⟩
      · exact ⟨by show 0 ≤ n.val; omega, by show n.val < 0 + 128; omega⟩

end Cert.KernelIdeal.Flash

end
-- ==== Proof.Flash.Steps.lean ====
module

public import proofs.«01_k».proof.Proof.Flash.Pays
public import proofs.«01_k».proof.Proof.Flash.Run

@[expose] public section

set_option maxRecDepth 16384

noncomputable section

namespace Cert.KernelIdeal.Flash

open Cert.KernelIdeal Cert.KernelIdeal.Gen
open Idealize.ShloMosaic

/-! One grid point, column by column: `q0` the query columns, `sc c` the scores of column `c`, `v d` the values of
dimension `d`, by the position of the key within its batch. -/

variable (q0 : S128x4096.Idx → EReal) (sc : Fin 4096 → ℕ → ℝ) (v : Fin 128 → ℕ → EReal)

/-- Every column holds the sums over its first `n` keys. -/
def Done (s : St Ideal) (n : ℕ) : Prop := ∀ (c : Fin 4096) (d : Fin 128),
  Inv (sc c) (v d) n (s.m (ix2 0 c)) (s.l (ix2 0 c)) (s.acc (ix2 d c))

/-- The same with the last half block's weights kept back. -/
def Kept (s : St Ideal) (n : ℕ) : Prop := ∀ (c : Fin 4096) (d : Fin 128),
  InvF (sc c) (v d) n (s.m (ix2 0 c)) (s.l (ix2 0 c)) (s.acc (ix2 d c)) (fun y => s.p (ix2 y c))

variable {q0 sc v}
variable {x1 : S2048x128.Idx → EReal} {x2 : S128x2048.Idx → EReal} {x3 : S128x1024.Idx → EReal} {s : St Ideal} {n : ℕ}

/-- A key block with the running maximum. -/
theorem Done.online (h : Done sc v s n) (hq : s.qs = q0)
    (hk : ∀ (y : Fin 2048) (c : Fin 4096), ∑ d : Fin 128, x1 (ix2 y d) * q0 (ix2 d c) = (sc c (n + y) : EReal))
    (hv : ∀ (d : Fin 128) (y : Fin 2048), x2 (ix2 d y) = v d (n + y)) : Done sc v (s.online x1 x2) (n + 2048) := by
  intro c d
  have h5 : ∀ (y : Fin 2048), k0_pay5 (F := Ideal) x1 s.qs (ix2 y c) = (sc c (n + y) : EReal) := fun y => by
    rw [pay5_at, hq, hk]
  have hm : s.m (ix2 0 c) = ⊥ ∨ ∃ r : ℝ, s.m (ix2 0 c) = r := by
    rcases h c d with ⟨-, h, -⟩ | ⟨r, h, -⟩
    · exact .inl h
    · exact .inr ⟨r, h⟩
  obtain ⟨r', hr⟩ := pay6_real x1 s.qs s.m c hm fun y => by
    obtain ⟨y0, y1, rfl⟩ : ∃ (a : Fin 2048) (b : Fin 4096), y = ix2 a b := ⟨y 0, y 1, eq_ix2 y⟩
    exact ⟨_, by rw [pay5_at, hq, hk]⟩
  have hI := (h c d).online 2048 r'
  show Inv (sc c) (v d) (n + 2048) (k0_pay11 (F := Ideal) x1 s.qs s.m (ix2 0 c)) (k0_pay9 (F := Ideal) x1 s.qs s.m s.l (ix2 0 c))
    (k0_pay10 (F := Ideal) x1 s.qs s.m s.acc x2 (ix2 d c))
  rw [pay11_at, pay9_at, pay10_at]
  simp only [pay8_at, pay7_at, h5, hr, hv]
  exact hI

/-- A key block with the bound fixed. -/
theorem Kept.fast (h : Kept sc v s n) (hq : s.qs = q0)
    (hk : ∀ (y : Fin 2048) (c : Fin 4096), ∑ d : Fin 128, x1 (ix2 y d) * q0 (ix2 d c) = (sc c (n + y) : EReal))
    (hv : ∀ (d : Fin 128) (y : Fin 2048), x2 (ix2 d y) = v d (n + y))
    (hp : n ≠ 0 → ∀ (d : Fin 128) (y : Fin 1024), x3 (ix2 d y) = v d (n - 1024 + y)) : Kept sc v (s.fast x1 x2 x3) (n + 2048) := by
  intro c d
  have hlo : ∀ (y : Fin 1024), ∑ e : Fin 128, kLo (F := Ideal) x1 (ix2 y e) * s.qs (ix2 e c) = (sc c (n + y) : EReal) := fun y => by
    refine (Finset.sum_congr rfl fun e _ => ?_).trans (hk ⟨y.val, by omega⟩ c)
    rw [kLo_at, hq]
  have hhi : ∀ (y : Fin 1024), ∑ e : Fin 128, kHi (F := Ideal) x1 (ix2 y e) * s.qs (ix2 e c) = (sc c (n + 1024 + y) : EReal) := fun y => by
    rw [Nat.add_assoc]
    refine (Finset.sum_congr rfl fun e _ => ?_).trans (hk ⟨1024 + y.val, by omega⟩ c)
    rw [kHi_at, hq]
  have hvl : ∀ (y : Fin 1024), vLo (F := Ideal) x2 (ix2 d y) = v d (n + y) := fun y => by
    rw [vLo_at, hv]
  have hI := (h c d).fast (fun y => x3 (ix2 d y)) fun h0 y => hp h0 d y
  show InvF (sc c) (v d) (n + 2048) (s.m (ix2 0 c)) (k0_pay2 (F := Ideal) (k0_pay27 (F := Ideal) s.qs s.m (kLo x1) (kHi x1) s.l) (ix2 0 c))
    (k0_pay25 (F := Ideal) s.qs s.m (kLo x1) s.acc x3 s.p (vLo x2) (ix2 d c))
    (fun y => k0_pay3 (F := Ideal) (k0_pay26 (F := Ideal) s.qs s.m (kHi x1)) (ix2 y c))
  rw [pay27_at, pay25_at]
  simp only [pay3_at, pay24_at, pay26_at, hlo, hhi, hvl]
  exact hI

/-- The kept weights spent. -/
theorem Kept.flush (h : Kept sc v s (n + 2048)) (hv : ∀ (d : Fin 128) (y : Fin 2048), x2 (ix2 d y) = v d (n + y)) :
    Done sc v (s.flush x2) (n + 2048) := by
  intro c d
  have hI := (h c d).flush (fun y => vHi (F := Ideal) x2 (ix2 d y)) fun _ y => by
    rw [vHi_at, hv]
    refine congrArg (v d) ?_
    show n + (1024 + y.val) = n + 2048 - 1024 + y.val
    omega
  show Inv (sc c) (v d) (n + 2048) (s.m (ix2 0 c)) (s.l (ix2 0 c)) (k0_pay4 (F := Ideal) s.acc (vHi x2) s.p (ix2 d c))
  rw [pay4_at]
  exact hI

/-- A sum of squares of reals is a real, and not negative. -/
theorem sq_real {ι : Type} [Fintype ι] (f : ι → EReal) (hf : ∀ i, ∃ r : ℝ, f i = r) : ∃ r : ℝ, 0 ≤ r ∧ ∑ i, f i * f i = r := by
  choose g hg using hf
  refine ⟨∑ i, g i * g i, Finset.sum_nonneg fun i _ => mul_self_nonneg _, ?_⟩
  simp only [hg, ← EReal.coe_mul]
  classical
  induction (Finset.univ : Finset ι) using Finset.induction_on with
  | empty => simp
  | insert a S ha ih => rw [Finset.sum_insert ha, Finset.sum_insert ha, ih, EReal.coe_add]

/-- The root of a real that is not negative. -/
theorem sqrt_coe {r : ℝ} (h : 0 ≤ r) : Ideal.sqrt (r : EReal) = (Real.sqrt r : EReal) := by
  show (if r < 0 then (⊥ : EReal) else _) = _
  rw [if_neg h.not_gt]

/-- The slack on the bound is a real. -/
theorem ofBits_slack : ∃ r : ℝ, Ideal.ofBits .f32 0x3F8147AE#32 = r := by
  show ∃ r : ℝ, Ideal.ieee 8 23 0x3F8147AE#32 = r
  unfold Ideal.ieee
  dsimp only
  rw [if_neg (by decide), if_neg (by decide)]
  exact ⟨_, rfl⟩

/-- Where a run of key blocks starts, with the running maximum. -/
theorem init_done (x0 : S512x1024.Idx → EReal) (x4 : S8x128.Idx → EReal) : Done sc v (St.init (F := Ideal) 0#32 x0 x4) 0 := by
  intro c d
  refine .inl ⟨rfl, ?_, pay17_at c, pay18_at d c⟩
  show k0_pay1 (F := Ideal) 0#32 (qsOf x0) (kmOf x4) (ix2 0 c) = ⊥
  rw [pay1_at, ofBits_neg_inf]
  rfl

/-- Where it starts with the bound fixed: the bound is real. -/
theorem init_kept (sw : BitVec 32) (hsw : sw ≠ 0#32) (x0 : S512x1024.Idx → EReal) (x4 : S8x128.Idx → EReal)
    (hq : ∀ i, ∃ r : ℝ, qsOf (F := Ideal) x0 i = r) (hkm : ∃ r : ℝ, 0 ≤ r ∧ x4 (ix2 0 0) = r) :
    Kept sc v (St.init (F := Ideal) sw x0 x4) 0 := by
  intro c d
  have hm : ∃ r : ℝ, k0_pay1 (F := Ideal) sw (qsOf x0) (kmOf x4) (ix2 0 c) = r := by
    rw [pay1_at, kmOf_at]
    have hb : Scalar.cmpi CmpIPredicate.ne sw 0#32 = 1#1 := by
      show BitVec.ofBool (sw != 0#32) = 1#1
      rw [bne_iff_ne.mpr hsw]; rfl
    rw [hb]
    obtain ⟨b, hb0, hb⟩ := hkm
    obtain ⟨a, ha0, ha⟩ := sq_real (fun d : Fin 128 => qsOf (F := Ideal) x0 (ix2 d c)) fun d => hq _
    obtain ⟨w, hw⟩ := ofBits_slack
    refine ⟨Real.sqrt (a * b) * w, ?_⟩
    show Ideal.sqrt _ * Ideal.ofBits .f32 0x3F8147AE#32 = _
    rw [ha, hb, hw, ← EReal.coe_mul, sqrt_coe (mul_nonneg ha0 hb0), EReal.coe_mul]
  obtain ⟨r, hr⟩ := hm
  refine ⟨r, hr, ?_, .inl ⟨rfl, pay18_at d c, fun y => pay19_at y c⟩⟩
  rw [S0_zero]; exact pay17_at c

end Cert.KernelIdeal.Flash

end
-- ==== Proof.Flash.Blocks.lean ====
module

public import proofs.«01_k».proof.Proof.Flash.Reads
public import proofs.«01_k».proof.Proof.Flash.Steps
public import proofs.«01_k».proof.Proof.Flash.Data

@[expose] public section

set_option maxRecDepth 16384
set_option Elab.async false

noncomputable section

namespace Cert.KernelIdeal.Flash

open Cert.KernelIdeal Cert.KernelIdeal.Gen
open Idealize.ShloMosaic
open Idealize.ShloMosaic.TcCoe

variable (V : (c : Dev nD) → (b : Ref sig .tc) → Buf (Elt Ideal) ((c.tc : Thread nD τ).loc b)) (T4 : Cert.KernelIdeal.S1.Idx → BitVec 32)

/-! The block indices, and the blocks of the inputs at an index. -/

theorem index_0 (t : Fin grid0.N) : ((cfgA (F := Ideal) T4).win (0 : Fin 6)).index t = ![(crd t 0).val, (lit0 (stp t)).toNat] :=
  transform_0 T4 (crd t)
theorem index_1 (t : Fin grid0.N) : ((cfgA (F := Ideal) T4).win (1 : Fin 6)).index t = ![(lit1 (stp t)).toNat, (crd t 0).val] :=
  transform_1 T4 (crd t)
theorem index_2 (t : Fin grid0.N) : ((cfgA (F := Ideal) T4).win (2 : Fin 6)).index t = ![(crd t 0).val, (lit1 (stp t)).toNat] :=
  transform_2 T4 (crd t)
theorem index_3 (t : Fin grid0.N) : ((cfgA (F := Ideal) T4).win (3 : Fin 6)).index t = ![(crd t 0).val, (lit2 (stp t)).toNat] :=
  transform_3 T4 (crd t)

variable (c : Dev nD) (t : Fin grid0.N)

theorem iblk_0 (d : Fin 512) (j : Fin 1024) : iblk V T4 c 0 t (ix2 d j)
    = at2 (a := 1024) (b := 40960) (V c main_arg0) ((crd t 0).val * 512 + d.val) ((lit0 (stp t)).toNat * 1024 + j.val) := by
  refine at2_idx (a := 1024) (b := 40960) (V c main_arg0) _ ?_ ?_
  · refine (Pipeline.Window.rect_emb_val ((cfgA (F := Ideal) T4).win (0 : Fin 6)) t (ix2 d j) (0 : Fin 2)).trans ?_
    rw [index_0]; rfl
  · refine (Pipeline.Window.rect_emb_val ((cfgA (F := Ideal) T4).win (0 : Fin 6)) t (ix2 d j) (1 : Fin 2)).trans ?_
    rw [index_0]; rfl

theorem iblk_1 (y : Fin 2048) (d : Fin 128) : iblk V T4 c 1 t (ix2 y d)
    = at2 (a := 40960) (b := 256) (V c main_arg1) ((lit1 (stp t)).toNat * 2048 + y.val) ((crd t 0).val * 128 + d.val) := by
  refine at2_idx (a := 40960) (b := 256) (V c main_arg1) _ ?_ ?_
  · refine (Pipeline.Window.rect_emb_val ((cfgA (F := Ideal) T4).win (1 : Fin 6)) t (ix2 y d) (0 : Fin 2)).trans ?_
    rw [index_1]; rfl
  · refine (Pipeline.Window.rect_emb_val ((cfgA (F := Ideal) T4).win (1 : Fin 6)) t (ix2 y d) (1 : Fin 2)).trans ?_
    rw [index_1]; rfl

theorem iblk_2 (d : Fin 128) (y : Fin 2048) : iblk V T4 c 2 t (ix2 d y)
    = at2 (a := 256) (b := 40960) (V c main_arg2) ((crd t 0).val * 128 + d.val) ((lit1 (stp t)).toNat * 2048 + y.val) := by
  refine at2_idx (a := 256) (b := 40960) (V c main_arg2) _ ?_ ?_
  · refine (Pipeline.Window.rect_emb_val ((cfgA (F := Ideal) T4).win (2 : Fin 6)) t (ix2 d y) (0 : Fin 2)).trans ?_
    rw [index_2]; rfl
  · refine (Pipeline.Window.rect_emb_val ((cfgA (F := Ideal) T4).win (2 : Fin 6)) t (ix2 d y) (1 : Fin 2)).trans ?_
    rw [index_2]; rfl

theorem iblk_3 (d : Fin 128) (y : Fin 1024) : iblk V T4 c 3 t (ix2 d y)
    = at2 (a := 256) (b := 40960) (V c main_arg2) ((crd t 0).val * 128 + d.val) ((lit2 (stp t)).toNat * 1024 + y.val) := by
  refine at2_idx (a := 256) (b := 40960) (V c main_arg2) _ ?_ ?_
  · refine (Pipeline.Window.rect_emb_val ((cfgA (F := Ideal) T4).win (3 : Fin 6)) t (ix2 d y) (0 : Fin 2)).trans ?_
    rw [index_3]; rfl
  · refine (Pipeline.Window.rect_emb_val ((cfgA (F := Ideal) T4).win (3 : Fin 6)) t (ix2 d y) (1 : Fin 2)).trans ?_
    rw [index_3]; rfl

/-- The bound on the keys' square length is in every element of its array. -/
theorem iblk_4 (r : EReal) (h : ∀ i : S8x128.Idx, V c main_v13 i = r) (i : S8x128.Idx) : iblk V T4 c 4 t i = r := h _

end Cert.KernelIdeal.Flash

end
-- ==== Proof.Flash.Traj.lean ====
module

public import proofs.«01_k».proof.Proof.Flash.Blocks

@[expose] public section

set_option maxRecDepth 16384
set_option Elab.async false

noncomputable section

namespace Cert.KernelIdeal.Flash

open Cert.KernelIdeal Cert.KernelIdeal.Gen
open Idealize.ShloMosaic
open Idealize.ShloMosaic.TcCoe

/-! The schedule in closed form: of step `s`, which key block of its run it is, how many the run has, where its batch
starts, and its block of queries. -/

def kiOf (s : ℕ) : ℕ := if s < 256 then s % 8 else s % 2
def nkOf (s : ℕ) : ℕ := if s < 256 then 8 else 2
def baseOf (s : ℕ) : ℕ := if s < 256 then s / 128 * 16384 else 32768 + (s - 256) / 8 * 4096
def qaOf (s : ℕ) : ℕ := if s < 256 then s / 8 else 32 + (s - 256) / 2

/-- The four tables hold that schedule. -/
theorem sched : ∀ s : Fin 272, (lit0 s).toNat = qaOf s.val ∧ (lit1 s).toNat * 2048 = baseOf s.val + 2048 * kiOf s.val
    ∧ (kiOf s.val ≠ 0 → (lit2 s).toNat * 1024 = baseOf s.val + (2048 * kiOf s.val - 1024))
    ∧ (lit3 s = 1#32 ↔ kiOf s.val = 0) ∧ (lit3 s = 2#32 ↔ kiOf s.val + 1 = nkOf s.val) := by decide +kernel

/-- Within a run the step before has the same queries and keys. -/
theorem sched_prev {t : ℕ} (ht : t < 544) (h : kiOf (t % 272) ≠ 0) : t ≠ 0 ∧ (t - 1) / 272 = t / 272
    ∧ kiOf ((t - 1) % 272) + 1 = kiOf (t % 272) ∧ nkOf ((t - 1) % 272) = nkOf (t % 272)
    ∧ baseOf ((t - 1) % 272) = baseOf (t % 272) ∧ qaOf ((t - 1) % 272) = qaOf (t % 272) ∧ kiOf (t % 272) < nkOf (t % 272) := by
  unfold kiOf nkOf baseOf qaOf at *
  split_ifs at * <;> omega

/-- The queries a run starts with. -/
theorem init_qs {F : FTy → Type} [FloatOps F] (sw : BitVec 32) (x0 : S512x1024.Idx → Elt F .bf16) (x4 : S8x128.Idx → Elt F .f32) :
    (St.init sw x0 x4).qs = qsOf x0 := by simp only [St.init]

/-! One step of a run, whichever path the choice word takes. -/

section Step

variable (q0 : S128x4096.Idx → EReal) (sc : Fin 4096 → ℕ → ℝ) (v : Fin 128 → ℕ → EReal) (sw : BitVec 32)

/-- After `n` keys of a run: the queries are `q0`, and every column holds its sums. -/
def Good (s : St Ideal) (n : ℕ) (last : Prop) : Prop :=
  s.qs = q0 ∧ (sw = 0#32 ∨ last → Done sc v s n) ∧ (sw ≠ 0#32 → ¬ last → Kept sc v s n)

variable {q0 sc v sw}

/-- Before the first key block. -/
theorem init_good {x0 : S512x1024.Idx → EReal} {x4 : S8x128.Idx → EReal} (hq : qsOf (F := Ideal) x0 = q0)
    (hr : ∀ i, ∃ r : ℝ, q0 i = r) (hkm : ∃ r : ℝ, 0 ≤ r ∧ x4 (ix2 0 0) = r) : Good q0 sc v sw (St.init (F := Ideal) sw x0 x4) 0 False := by
  unfold Good
  rw [init_qs (F := Ideal) sw x0 x4]
  refine ⟨hq, fun h => ?_, fun h _ => init_kept sw h x0 x4 (fun i => by rw [hq]; exact hr i) hkm⟩
  rw [h.resolve_right id]
  exact init_done x0 x4

/-- After one. -/
theorem next_good {s : St Ideal} {n : ℕ} {fw : BitVec 32} {x0 : S512x1024.Idx → EReal} {x1 : S2048x128.Idx → EReal}
    {x2 : S128x2048.Idx → EReal} {x3 : S128x1024.Idx → EReal} {x4 : S8x128.Idx → EReal}
    (hstart : fw = 1#32 → n = 0) (hq : qsOf (F := Ideal) x0 = q0) (hr : ∀ i, ∃ r : ℝ, q0 i = r)
    (hkm : ∃ r : ℝ, 0 ≤ r ∧ x4 (ix2 0 0) = r) (hprev : fw ≠ 1#32 → Good q0 sc v sw s n False)
    (hk : ∀ (y : Fin 2048) (c : Fin 4096), ∑ d : Fin 128, x1 (ix2 y d) * q0 (ix2 d c) = (sc c (n + y) : EReal))
    (hv : ∀ (d : Fin 128) (y : Fin 2048), x2 (ix2 d y) = v d (n + y))
    (hp : n ≠ 0 → ∀ (d : Fin 128) (y : Fin 1024), x3 (ix2 d y) = v d (n - 1024 + y)) :
    Good q0 sc v sw (s.next fw sw x0 x1 x2 x3 x4) (n + 2048) (fw = 2#32) := by
  obtain ⟨s', hs', G⟩ : ∃ s', (if fw = 1#32 then St.init (F := Ideal) sw x0 x4 else s) = s' ∧ Good q0 sc v sw s' n False := by
    by_cases h1 : fw = 1#32
    · refine ⟨St.init (F := Ideal) sw x0 x4, if_pos h1, ?_⟩
      rw [hstart h1]
      exact init_good hq hr hkm
    · exact ⟨s, if_neg h1, hprev h1⟩
  obtain ⟨G1, G2, G3⟩ := G
  unfold St.next
  simp only [hs']
  by_cases h0 : sw = 0#32
  · rw [if_pos h0]
    exact ⟨G1, fun _ => (G2 (.inl h0)).online G1 hk hv, fun h => absurd h0 h⟩
  · rw [if_neg h0]
    have K := (G3 h0 id).fast G1 hk hv hp
    by_cases h2 : fw = 2#32
    · rw [if_pos h2]
      exact ⟨G1, fun _ => K.flush hv, fun _ h => absurd h2 h⟩
    · rw [if_neg h2]
      exact ⟨G1, fun h => absurd (h.resolve_left h0) h2, fun _ _ => K⟩

end Step

/-! The queries, scores and values of a run, by its key head, its block of queries and its batch's first row. -/

variable (Q : S1024x40960.Idx → EReal) (K : S40960x256.Idx → EReal) (W : S256x40960.Idx → EReal)

/-- The score of query column `col` of head `hd` (of eight) and key row `row`. -/
def score (hd col row : ℕ) : EReal :=
  ∑ d : Fin 128, at2 K row (hd / 4 * 128 + d.val) * at2 Q (hd * 128 + d.val) col

variable {Q K} in
theorem score_real (hQ : ∀ i, ∃ r : ℝ, Q i = r) (hK : ∀ i, ∃ r : ℝ, K i = r) (hd col row : ℕ) :
    (((score Q K hd col row).toReal : ℝ) : EReal) = score Q K hd col row := by
  have ha : ∀ {a b : ℕ} (x : (⟨2, ![a, b]⟩ : Shape).Idx → EReal) (_ : ∀ i, ∃ r : ℝ, x i = r) (i j : ℕ), ∃ r : ℝ, at2 x i j = r := by
    intro a b x hx i j
    unfold at2
    split
    · exact hx _
    · exact ⟨0, rfl⟩
  obtain ⟨r, hr⟩ := sum_real Finset.univ (fun d : Fin 128 => at2 K row (hd / 4 * 128 + d.val) * at2 Q (hd * 128 + d.val) col)
    fun d _ => mul_real (ha K hK _ _) (ha Q hQ _ _)
  show (((∑ d : Fin 128, at2 K row (hd / 4 * 128 + d.val) * at2 Q (hd * 128 + d.val) col).toReal : ℝ) : EReal)
    = ∑ d : Fin 128, at2 K row (hd / 4 * 128 + d.val) * at2 Q (hd * 128 + d.val) col
  rw [hr, EReal.toReal_coe]

def runQ (h qa : ℕ) (y : S128x4096.Idx) : EReal :=
  at2 Q ((h * 4 + (y 1).val / 1024) * 128 + (y 0).val) (qa * 1024 + (y 1).val % 1024)
def runS (h qa base : ℕ) (c : Fin 4096) (n : ℕ) : ℝ :=
  (score Q K (h * 4 + c.val / 1024) (qa * 1024 + c.val % 1024) (base + n)).toReal
def runV (h base : ℕ) (d : Fin 128) (n : ℕ) : EReal := at2 W (h * 128 + d.val) (base + n)

variable (V : (c : Dev nD) → (b : Ref sig .tc) → Buf (Elt Ideal) ((c.tc : Thread nD τ).loc b)) (T4 : Cert.KernelIdeal.S1.Idx → BitVec 32)
variable (c : Dev nD)

/-- After every point the columns hold the sums of the keys their run has met. -/
theorem traj_good (hQ : ∀ i, ∃ r : ℝ, Q i = r) (hK : ∀ i, ∃ r : ℝ, K i = r) (e0 : V c main_arg0 = Q) (e1 : V c main_arg1 = K)
    (e2 : V c main_arg2 = W) (r : ℝ) (hr : 0 ≤ r) (e4 : ∀ i : S8x128.Idx, V c main_v13 i = (r : EReal)) (t : ℕ) (ht : t < grid0.N) :
    Good (runQ Q (t / 272) (qaOf (t % 272))) (runS Q K (t / 272) (qaOf (t % 272)) (baseOf (t % 272)))
      (runV W (t / 272) (baseOf (t % 272))) (safeOf (F := Ideal) T4) (traj V T4 c (t + 1))
      (2048 * kiOf (t % 272) + 2048) (kiOf (t % 272) + 1 = nkOf (t % 272)) := by
  induction t using Nat.strong_induction_on with
  | _ t ih =>
  obtain ⟨ch, cs⟩ := crd_val ⟨t, ht⟩
  obtain ⟨l0, l1, l2, f1, f2⟩ := sched (stp ⟨t, ht⟩)
  rw [show (stp ⟨t, ht⟩).val = t % 272 from cs] at l0 l1 l2 f1 f2
  have hq : qsOf (F := Ideal) (iblk V T4 c 0 ⟨t, ht⟩) = runQ Q (t / 272) (qaOf (t % 272)) := by
    funext y
    obtain ⟨d, j, rfl⟩ : ∃ (a : Fin 128) (b : Fin 4096), y = ix2 a b := ⟨y 0, y 1, eq_ix2 y⟩
    rw [qsOf_at]
    have hb : (128 * (j.val / 1024) + d.val) < 512 ∧ j.val % 1024 < 1024 := by omega
    refine (at2_ix (iblk V T4 c 0 ⟨t, ht⟩) ⟨_, hb.1⟩ ⟨_, hb.2⟩).symm.trans ?_
    rw [iblk_0, e0, ch, l0]
    exact congrArg₂ (at2 Q) (by show t / 272 * 512 + (128 * (j.val / 1024) + d.val) = (t / 272 * 4 + j.val / 1024) * 128 + d.val; omega) rfl
  have hG := next_good (q0 := runQ Q (t / 272) (qaOf (t % 272))) (sc := runS Q K (t / 272) (qaOf (t % 272)) (baseOf (t % 272)))
    (v := runV W (t / 272) (baseOf (t % 272))) (sw := safeOf (F := Ideal) T4) (s := traj V T4 c t) (n := 2048 * kiOf (t % 272))
    (fw := lit3 (stp ⟨t, ht⟩)) (x0 := iblk V T4 c 0 ⟨t, ht⟩) (x1 := iblk V T4 c 1 ⟨t, ht⟩) (x2 := iblk V T4 c 2 ⟨t, ht⟩)
    (x3 := iblk V T4 c 3 ⟨t, ht⟩) (x4 := iblk V T4 c 4 ⟨t, ht⟩)
    (fun h => by rw [f1.1 h]) hq (fun y => by
      unfold runQ at2
      split
      · exact hQ _
      · exact ⟨0, rfl⟩) ⟨r, hr, iblk_4 V T4 c _ _ e4 _⟩
    (fun h => by
      have hk0 : kiOf (t % 272) ≠ 0 := fun h0 => h (f1.2 h0)
      obtain ⟨h0, h1, h2, h3, h4, h5, h6⟩ := sched_prev ht hk0
      have I := ih (t - 1) (by omega) (by omega)
      rw [show t - 1 + 1 = t by omega, h1, h3, h4, h5, show 2048 * kiOf ((t - 1) % 272) + 2048 = 2048 * kiOf (t % 272) by omega] at I
      refine ⟨I.1, fun h => I.2.1 (.inl (h.resolve_right id)), fun h _ => I.2.2 h (by omega)⟩)
    (fun y j => by
      refine Eq.trans ?_ (score_real hQ hK _ _ _).symm
      refine Finset.sum_congr rfl fun d _ => ?_
      rw [iblk_1, e1, ch, l1]
      refine congrArg₂ (· * ·) (congrArg₂ (at2 K) (by omega) ?_) rfl
      show t / 272 * 128 + d.val = (t / 272 * 4 + j.val / 1024) / 4 * 128 + d.val
      omega)
    (fun d y => by
      rw [iblk_2, e2, ch, l1]
      exact congrArg (at2 W _) (by omega))
    (fun hn d y => by
      rw [iblk_3, e2, ch, l2 (by omega)]
      exact congrArg (at2 W _) (by omega))
  have e := traj_succ V T4 c ⟨t, ht⟩
  rw [← e] at hG
  exact ⟨hG.1, fun h => hG.2.1 (h.imp_right f2.2), fun h h' => hG.2.2 h fun h'' => h' (f2.1 h'')⟩

/-- After the last key block of a run: what goes to the output block. -/
theorem outBlk_at (hQ : ∀ i, ∃ r : ℝ, Q i = r) (hK : ∀ i, ∃ r : ℝ, K i = r) (e0 : V c main_arg0 = Q) (e1 : V c main_arg1 = K)
    (e2 : V c main_arg2 = W) (r : ℝ) (hr : 0 ≤ r) (e4 : ∀ i : S8x128.Idx, V c main_v13 i = (r : EReal)) (t : Fin grid0.N)
    (hl : lit3 (stp t) = 2#32) (j : Fin 1024) (n : Fin 512) :
    outBlk V T4 c t (ix2 j n) = attend (fun s => (score Q K (t.val / 272 * 4 + n.val / 128) (qaOf (t.val % 272) * 1024 + j.val)
        (baseOf (t.val % 272) + s)).toReal)
      (fun s => at2 W (t.val / 272 * 128 + n.val % 128) (baseOf (t.val % 272) + s)) (2048 * nkOf (t.val % 272)) := by
  obtain ⟨ch, cs⟩ := crd_val t
  have hk : kiOf (t.val % 272) + 1 = nkOf (t.val % 272) := by rw [← cs]; exact (sched (stp t)).2.2.2.2.1 hl
  have G := ((traj_good Q K W V T4 c hQ hK e0 e1 e2 r hr e4 t.val t.isLt).2.1 (.inr hk)) ⟨1024 * (n.val / 128) + j.val, by omega⟩
    ⟨n.val % 128, by omega⟩
  rw [show 2048 * kiOf (t.val % 272) + 2048 = 2048 * nkOf (t.val % 272) by omega] at G
  have O := G.out (by omega)
  unfold outBlk
  rw [outOf_at]
  refine Eq.trans ?_ (O.trans ?_)
  · exact (congrArg₂ Ideal.div (at2_ix (traj V T4 c (t.val + 1)).acc ⟨n.val % 128, by omega⟩ ⟨1024 * (n.val / 128) + j.val, by omega⟩)
      (at2_ix (traj V T4 c (t.val + 1)).l 0 ⟨1024 * (n.val / 128) + j.val, by omega⟩)).symm
  · have a1 : (1024 * (n.val / 128) + j.val) / 1024 = n.val / 128 := by omega
    have a2 : (1024 * (n.val / 128) + j.val) % 1024 = j.val := by omega
    unfold runS runV
    simp only [a1, a2]

end Cert.KernelIdeal.Flash

end
-- ==== Proof.Flash.Array.lean ====
module

public import proofs.«01_k».proof.Proof.Flash.Traj
public import proofs.«01_k».proof.Proof.Flash.Launch
public import Idealize.ShloMosaic.Lib.Pipeline.Value

@[expose] public section

set_option maxRecDepth 16384
set_option Elab.async false

noncomputable section

namespace Cert.KernelIdeal.Flash

open Cert.KernelIdeal Cert.KernelIdeal.Gen
open Idealize.ShloMosaic
open Idealize.ShloMosaic.TcCoe

/-! The result array. -/

/-- Where the batch of row `i` starts, and how many rows it has. -/
def rowBase (i : ℕ) : ℕ := if i < 32768 then i / 16384 * 16384 else 32768 + (i - 32768) / 4096 * 4096
def rowLen (i : ℕ) : ℕ := if i < 32768 then 16384 else 4096

section Att

variable (Q : S1024x40960.Idx → EReal) (K : S40960x256.Idx → EReal) (W : S256x40960.Idx → EReal)

/-- The attention of row `i` and column `j`: the values of the row's batch weighted by the scores to the base two. -/
def att (i j : ℕ) : EReal :=
  attend (fun s => (score Q K (j / 128) i (rowBase i + s)).toReal)
    (fun s => at2 W (j / 128 / 4 * 128 + j % 128) (rowBase i + s)) (rowLen i)

def attArr (y : S40960x1024.Idx) : EReal := att Q K W (y 0).val (y 1).val

end Att

/-- The row of a run's query: its batch is the run's. -/
theorem sched_row {s j : ℕ} (hs : s < 272) (hj : j < 1024) :
    rowBase (qaOf s * 1024 + j) = baseOf s ∧ rowLen (qaOf s * 1024 + j) = 2048 * nkOf s := by
  unfold rowBase rowLen qaOf baseOf nkOf
  split_ifs <;> omega

/-- Every block of rows and every key head has a last step. -/
theorem sched_cover {i j : ℕ} (hi : i < 40960) (hj : j < 1024) : ∃ t : ℕ, t < 544 ∧ kiOf (t % 272) + 1 = nkOf (t % 272)
    ∧ qaOf (t % 272) = i / 1024 ∧ t / 272 = j / 512 := by
  by_cases h : i < 32768
  · refine ⟨j / 512 * 272 + (i / 1024 * 8 + 7), ?_⟩
    have e : (j / 512 * 272 + (i / 1024 * 8 + 7)) % 272 = i / 1024 * 8 + 7 := by omega
    rw [e]
    unfold kiOf nkOf qaOf
    have : i / 1024 * 8 + 7 < 256 := by omega
    simp only [this, if_true]
    omega
  · refine ⟨j / 512 * 272 + (256 + (i / 1024 - 32) * 2 + 1), ?_⟩
    have e : (j / 512 * 272 + (256 + (i / 1024 - 32) * 2 + 1)) % 272 = 256 + (i / 1024 - 32) * 2 + 1 := by omega
    rw [e]
    unfold kiOf nkOf qaOf
    have : ¬ 256 + (i / 1024 - 32) * 2 + 1 < 256 := by omega
    simp only [this, if_false]
    omega

variable (Q : S1024x40960.Idx → EReal) (K : S40960x256.Idx → EReal) (W : S256x40960.Idx → EReal)
variable (V : (c : Dev nD) → (b : Ref sig .tc) → Buf (Elt Ideal) ((c.tc : Thread nD τ).loc b)) (T4 : Cert.KernelIdeal.S1.Idx → BitVec 32)
variable (c : Dev nD)

/-- Where an index of an output block lies in the result. -/
theorem emb_5 (t : Fin grid0.N) (j : Fin 1024) (n : Fin 512) :
    ((((cfgA (F := Ideal) T4).win (5 : Fin 6)).rect t).emb (ix2 j n) (0 : Fin 2)).val = (lit0 (stp t)).toNat * 1024 + j.val
    ∧ ((((cfgA (F := Ideal) T4).win (5 : Fin 6)).rect t).emb (ix2 j n) (1 : Fin 2)).val = (crd t 0).val * 512 + n.val := by
  constructor
  · refine (Pipeline.Window.rect_emb_val ((cfgA (F := Ideal) T4).win (5 : Fin 6)) t (ix2 j n) (0 : Fin 2)).trans ?_
    rw [index_5]; rfl
  · refine (Pipeline.Window.rect_emb_val ((cfgA (F := Ideal) T4).win (5 : Fin 6)) t (ix2 j n) (1 : Fin 2)).trans ?_
    rw [index_5]; rfl

/-- A block that is written back holds the attention of its rows and columns. -/
theorem flushed_5 (hQ : ∀ i, ∃ r : ℝ, Q i = r) (hK : ∀ i, ∃ r : ℝ, K i = r) (e0 : V c main_arg0 = Q) (e1 : V c main_arg1 = K)
    (e2 : V c main_arg2 = W) (r : ℝ) (hr : 0 ≤ r) (e4 : ∀ i : S8x128.Idx, V c main_v13 i = (r : EReal)) (t : Fin grid0.N)
    (hf : ((cfgA (F := Ideal) T4).win (5 : Fin 6)).flush t = true) :
    (dats V T4 0 c).flushed (5 : Fin 6) t = (((cfgA (F := Ideal) T4).win (5 : Fin 6)).blk t).view.read (Elt Ideal) (attArr Q K W) := by
  have hl : lit3 (stp t) = 2#32 := of_decide_eq_true ((flush_5 T4 t).symm.trans hf)
  obtain ⟨ch, cs⟩ := crd_val t
  funext y
  obtain ⟨j, n, rfl⟩ : ∃ (a : Fin 1024) (b : Fin 512), y = ix2 a b := ⟨y 0, y 1, eq_ix2 y⟩
  show outBlk V T4 c t (ix2 j n) = att Q K W ((((cfgA (F := Ideal) T4).win (5 : Fin 6)).rect t).emb (ix2 j n) (0 : Fin 2)).val
    ((((cfgA (F := Ideal) T4).win (5 : Fin 6)).rect t).emb (ix2 j n) (1 : Fin 2)).val
  rw [(emb_5 T4 t j n).1, (emb_5 T4 t j n).2, outBlk_at Q K W V T4 c hQ hK e0 e1 e2 r hr e4 t hl j n]
  have l0 := (sched (stp t)).1
  rw [show (stp t).val = t.val % 272 from cs] at l0
  rw [l0, ch]
  obtain ⟨b1, b2⟩ := sched_row (s := t.val % 272) (j := j.val) (by omega) j.isLt
  unfold att
  rw [b1, b2]
  have a1 : (t.val / 272 * 512 + n.val) / 128 = t.val / 272 * 4 + n.val / 128 := by omega
  have a2 : (t.val / 272 * 4 + n.val / 128) / 4 = t.val / 272 := by omega
  have a3 : (t.val / 272 * 512 + n.val) % 128 = n.val % 128 := by omega
  rw [a1, a2, a3]

/-- The blocks written back cover the result. -/
theorem cover_5 (i : S40960x1024.Idx) : ∃ t : Fin grid0.N, ((cfgA (F := Ideal) T4).win (5 : Fin 6)).flush t = true
    ∧ i ∈ (((cfgA (F := Ideal) T4).win (5 : Fin 6)).blk t).view.set := by
  have h0 : (i 0).val < 40960 := (i 0).isLt
  have h1 : (i 1).val < 1024 := (i 1).isLt
  obtain ⟨t, ht, hk, hq, hh⟩ := sched_cover h0 h1
  obtain ⟨ch, cs⟩ := crd_val ⟨t, ht⟩
  obtain ⟨l0, -, -, -, f2⟩ := sched (stp ⟨t, ht⟩)
  rw [show (stp ⟨t, ht⟩).val = t % 272 from cs] at l0 f2
  refine ⟨⟨t, ht⟩, (flush_5 T4 ⟨t, ht⟩).trans (decide_eq_true (f2.2 hk)), ?_⟩
  have e := emb_5 T4 ⟨t, ht⟩ ⟨(i 0).val % 1024, by omega⟩ ⟨(i 1).val % 512, by omega⟩
  have hi : i = (((cfgA (F := Ideal) T4).win (5 : Fin 6)).rect ⟨t, ht⟩).emb (ix2 ⟨(i 0).val % 1024, by omega⟩ ⟨(i 1).val % 512, by omega⟩) := by
    funext a
    refine Fin.ext ?_
    match a with
    | ⟨0, _⟩ => refine Eq.trans ?_ e.1.symm; rw [l0, hq]; show (i 0).val = (i 0).val / 1024 * 1024 + (i 0).val % 1024; omega
    | ⟨1, _⟩ => refine Eq.trans ?_ e.2.symm; rw [ch]; show (i 1).val = t / 272 * 512 + (i 1).val % 512; omega
  show i ∈ ((View.whole main_v14).slice (((cfgA (F := Ideal) T4).win (5 : Fin 6)).rect ⟨t, ht⟩)).set
  rw [View.set_slice_whole, hi, ← Rect.map_emb_univ]
  exact Finset.mem_map_of_mem _ (Finset.mem_univ _)

/-- So the result ends holding the attention. -/
theorem final_5 (hQ : ∀ i, ∃ r : ℝ, Q i = r) (hK : ∀ i, ∃ r : ℝ, K i = r) (e0 : V c main_arg0 = Q) (e1 : V c main_arg1 = K)
    (e2 : V c main_arg2 = W) (r : ℝ) (hr : 0 ≤ r) (e4 : ∀ i : S8x128.Idx, V c main_v13 i = (r : EReal)) :
    (dats V T4 0 c).arrAt (5 : Fin 6) grid0.N = attArr Q K W :=
  (dats V T4 0 c).arrAt_eq_of_cover (5 : Fin 6) (attArr Q K W)
    (fun t hf => flushed_5 Q K W V T4 c hQ hK e0 e1 e2 r hr e4 t hf) (cover_5 T4)

end Cert.KernelIdeal.Flash

end
-- ==== Proof.Flash.Bound.lean ====
module

public import proofs.«01_k».proof.Proof.Flash.Weights
public import proofs.«01_k».proof.Proof.Flash.Steps
public import proofs.«01_k».proof.Proof.Flash.Launch
public import Idealize.ShloMosaic.PureOps.Reduce
public import Idealize.ShloMosaic.PureOps.Ideal.Laws

@[expose] public section

set_option maxRecDepth 16384
set_option Elab.async false

noncomputable section

namespace Cert.KernelIdeal.Flash

open Cert.KernelIdeal Cert.KernelIdeal.Gen
open Idealize.ShloMosaic
open Idealize.ShloMosaic.TcCoe

/-! The bound on the keys' square length is a real and not negative, when the keys' norm weights are reals. -/

/-- The host's maximum of reals is a real, and not negative when they are not. -/
theorem reduceMax_real {s t u : Shape} {axes : List (Fin s.rank)} (x : s.Idx → EReal) (init : u.Idx → EReal) (h : s.ReducesTo axes t)
    (hu : 0 < u.numel) (j : t.Idx) (hinit : init (Shape.Idx.first hu) = ⊥) (i : s.Idx) (hi : h.drop i = j)
    (hx : ∀ i, ∃ r : ℝ, x i = r) :
    ∃ r : ℝ, Host.reduce (FloatOps.maximumf (F := Ideal) (φ := .f32)) x init h hu j = r ∧ ((∀ i, 0 ≤ x i) → 0 ≤ r) := by
  have e := Host.reduce_eq_fold (FloatOps.maximumf (F := Ideal) (φ := .f32)) x init h hu j
  rw [hinit] at e
  have hm : i ∈ Finset.univ.filter fun i => h.drop i = j := Finset.mem_filter.mpr ⟨Finset.mem_univ _, hi⟩
  obtain ⟨r, hr⟩ := fold_max_real (Finset.univ.filter fun i => h.drop i = j) ⟨i, hm⟩ x fun _ _ => hx _
  refine ⟨r, e.trans hr, fun h0 => ?_⟩
  have h1 : (0 : EReal) ≤ (Finset.univ.filter fun i => h.drop i = j).fold max ⊥ x :=
    (Finset.le_fold_max _).mpr (.inr ⟨i, hm, h0 _⟩)
  rw [hr] at h1
  exact EReal.coe_nonneg.mp h1

/-- A word of positive sign that is neither special nor subnormal is a real that is not negative. -/
theorem word_real (b : BitVec 32) (h1 : ¬ (b.extractLsb' 23 8).toNat = 2 ^ 8 - 1) (h2 : ¬ (b.extractLsb' 23 8).toNat = 0)
    (h3 : (b.extractLsb' (8 + 23) 1 == 1#1) = false) : ∃ r : ℝ, 0 ≤ r ∧ Ideal.ofBits .f32 b = r := by
  show ∃ r : ℝ, 0 ≤ r ∧ Ideal.ieee 8 23 b = r
  unfold Ideal.ieee
  dsimp only
  rw [if_neg h1, if_neg h2, h3]
  exact ⟨_, by simp only [Bool.false_eq_true, if_false]; positivity, rfl⟩

/-- An extended real whose absolute value is below +∞ is a real. -/
theorem real_of_lt {x : EReal} (h : Ideal.cmp .olt (max x (-x)) (Ideal.ofBits .f32 0x7F800000#32) = 1#1) : ∃ r : ℝ, x = r := by
  have e : Ideal.ofBits .f32 0x7F800000#32 = ⊤ := by simp [Ideal.ofBits, Ideal.ieee]
  rw [e] at h
  have h' : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  obtain ⟨h1, h2⟩ := max_lt_iff.mp h'
  induction x with
  | bot => exact absurd h2 (by simp)
  | top => exact absurd h1 (by simp)
  | coe r => exact ⟨r, rfl⟩

variable (m : (ℓ : Loc nD τ sig) → Buf (Elt Ideal) ℓ)

/-- The greatest square of a norm weight. -/
def maxSq (g : S128.Idx → EReal) : EReal :=
  Host.reduce (FloatOps.maximumf (F := Ideal) (φ := .f32)) (mulf (F := Ideal) (φ := .f32) g g) (constant (F := Ideal) S_ .f32 0xFF800000#32) reducesTo_S128_S_d0 h_S_ (Shape.Idx.first h_S_)

/-- The greatest square of a row of reals is a real that is not negative. -/
theorem maxSq_real {g : S128.Idx → EReal} (hg : ∀ i, ∃ r : ℝ, g i = r) : ∃ r : ℝ, maxSq g = r ∧ 0 ≤ r := by
  have hsq : ∀ i : S128.Idx, ∃ r : ℝ, 0 ≤ r ∧ mulf (F := Ideal) (φ := .f32) g g i = (r : EReal) := fun i => by
    obtain ⟨r, hr⟩ := hg i
    refine ⟨r * r, mul_self_nonneg r, ?_⟩
    show g i * g i = _
    rw [hr, EReal.coe_mul]
  obtain ⟨M, hM, hM0⟩ := reduceMax_real (mulf (F := Ideal) (φ := .f32) g g)
    (constant (F := Ideal) S_ .f32 0xFF800000#32) reducesTo_S128_S_d0 h_S_
    (Shape.Idx.first h_S_) ofBits_neg_inf (fun | 0 => (⟨0, by decide⟩ : Fin 128)) (funext fun b => b.elim0) fun i => (hsq i).imp fun _ h => h.2
  refine ⟨M, hM, hM0 fun i => ?_⟩
  obtain ⟨r, h0, hr⟩ := hsq i
  rw [hr]; exact EReal.coe_nonneg.mpr h0

/-- Every element of the bound's array is the same word of the norm weights. -/
theorem hostV_km (c : Dev nD) (i : S8x128.Idx) : hostV m c main_v13 i
    = Ideal.ofBits .f32 0x43000000#32 * maxSq (m ((c.tc : Thread nD τ).loc main_arg4)) * Ideal.ofBits .f32 0x3F8147AE#32 := by
  have e : hostV m c main_v13 = broadcastInDim S8x128 ![] bcast_S_S8x128 (mulf (F := Ideal) (φ := .f32) (mulf (F := Ideal) (φ := .f32) (constant (F := Ideal) S_ .f32 0x43000000#32)
      (Host.reduce (FloatOps.maximumf (F := Ideal) (φ := .f32)) (mulf (F := Ideal) (φ := .f32) (m ((c.tc : Thread nD τ).loc main_arg4)) (m ((c.tc : Thread nD τ).loc main_arg4))) (constant (F := Ideal) S_ .f32 0xFF800000#32) reducesTo_S128_S_d0 h_S_))
      (constant (F := Ideal) S_ .f32 0x3F8147AE#32)) := by
    unfold hostV
    after_results_simp <;> rfl
  rw [e]
  unfold maxSq
  rw [Subsingleton.elim (Shape.Idx.first h_S_ : S_.Idx) (fun a => a.elim0)]
  rw [show ∀ x : S_.Idx → EReal, broadcastInDim S8x128 ![] bcast_S_S8x128 x i = x (fun a => a.elim0) from fun x => congrArg x (Subsingleton.elim _ _)]
  rfl

/-- The bound is a real that is not negative. -/
theorem km_real (c : Dev nD) (hg : ∀ i : S128.Idx, ∃ r : ℝ, m ((c.tc : Thread nD τ).loc main_arg4) i = (r : EReal)) :
    ∃ r : ℝ, 0 ≤ r ∧ ∀ i : S8x128.Idx, hostV m c main_v13 i = (r : EReal) := by
  obtain ⟨M, hM, hM0⟩ := maxSq_real hg
  obtain ⟨a, ha0, ha⟩ := word_real 0x43000000#32 (by decide) (by decide) (by decide)
  obtain ⟨b, hb0, hb⟩ := word_real 0x3F8147AE#32 (by decide) (by decide) (by decide)
  refine ⟨a * M * b, mul_nonneg (mul_nonneg ha0 hM0) hb0, fun i => ?_⟩
  rw [hostV_km, ha, hb, hM, EReal.coe_mul, EReal.coe_mul]

end Cert.KernelIdeal.Flash

end
-- ==== Proof.Flash.Ref.lean ====
module

public import proofs.«01_k».proof.Proof.Flash.Array
public import proofs.«01_k».proof.Proof.Flash.Bound
public import proofs.«01_k».proof.Proof.Gen.ReferenceIdeal.Read

@[expose] public section

set_option maxRecDepth 16384
set_option Elab.async false

noncomputable section

namespace Cert.KernelIdeal.Flash

open Idealize.ShloMosaic
open Cert.ReferenceIdeal Cert.ReferenceIdeal.Gen Cert.ReferenceIdeal.Read

/-! The reference's attention of the prompt's two batches. -/

/-- The softmax to the base two, with any real taken off the scores, then the weighted values. -/
theorem softmax_core {n : ℕ} (hn : 0 < n) (sc : ℕ → ℝ) (v : ℕ → EReal) (S : Fin n → EReal) (V : Fin n → EReal) (M two zero : EReal)
    (hS : ∀ k, S k = (sc k.val : EReal)) (hV : ∀ k, V k = v k.val) (hM : ∃ r : ℝ, M = r) (h2 : two = ((2 : ℝ) : EReal)) (h0 : zero = 0) :
    ∑ k : Fin n, V k * Ideal.div (Ideal.pow two (S k - M)) (zero + ∑ u : Fin n, Ideal.pow two (S u - M)) = attend sc v n := by
  obtain ⟨r, rfl⟩ := hM
  subst h2 h0
  have e : ∀ k : Fin n, Ideal.pow ((2 : ℝ) : EReal) (S k - (r : EReal)) = wt (sc k.val - r) := fun k => by
    rw [hS, ← EReal.coe_sub]; rfl
  simp only [e, hV, zero_add]
  exact attend_eq hn r

variable (x0 : S1024x40960.Idx → EReal) (x1 : S40960x256.Idx → EReal) (x2 : S256x40960.Idx → EReal)

/-- The base is two. -/
theorem ofBits_two : Ideal.ofBits .f32 0x40000000#32 = ((2 : ℝ) : EReal) := by
  simp [Ideal.ofBits, Ideal.ieee, -EReal.coe_mul]; norm_num

/-- The reference's scores of the prompt are the scores of its rows. -/
theorem v12_at (i : S2x2x4x16384x16384.Idx) : val_main_v12 (F := Ideal) x0 x1 i
    = score x0 x1 ((i 1).val * 4 + (i 2).val) ((i 0).val * 16384 + (i 3).val) ((i 0).val * 16384 + (i 4).val) := by
  have h0 : (i 0).val < 2 := (i 0).isLt
  have h1 : (i 1).val < 2 := (i 1).isLt
  have h2 : (i 2).val < 4 := (i 2).isLt
  have h3 : (i 3).val < 16384 := (i 3).isLt
  have h4 : (i 4).val < 16384 := (i 4).isLt
  rw [val_main_v12_apply, val_main_v11_apply]
  refine Finset.sum_congr rfl fun k _ => ?_
  have hk := k.isLt
  rw [val_main_v8_apply, val_main_v7_apply, val_main_v2_apply, val_main_v6_apply, val_main_v5_apply, val_main_v1_apply, val_main_v0_apply]
  refine congrArg₂ (fun a b : EReal => a * b) (at2_idx x1 _ ?_ ?_) (at2_idx x0 _ ?_ ?_)
  · show (((((i 0).val * 16384 + (i 4).val) * 2 + (i 1).val) * 128 + k.val) / 256) = _
    omega
  · show (((((i 0).val * 16384 + (i 4).val) * 2 + (i 1).val) * 128 + k.val) % 256) = _
    omega
  · show ((((((i 0).val * 16384 + (i 3).val) * 2 + (i 1).val) * 4 + (i 2).val) * 128 + k.val) % 1024) = _
    omega
  · show ((((((i 0).val * 16384 + (i 3).val) * 2 + (i 1).val) * 4 + (i 2).val) * 128 + k.val) / 1024) = _
    omega

/-- The values of the prompt's two batches are those of its rows. -/
theorem v10_at (i : S2x16384x2x128.Idx) : val_main_v10 (F := Ideal) x2 i
    = at2 x2 ((i 2).val * 128 + (i 3).val) ((i 0).val * 16384 + (i 1).val) := by
  have h0 : (i 0).val < 2 := (i 0).isLt
  have h1 : (i 1).val < 16384 := (i 1).isLt
  have h2 : (i 2).val < 2 := (i 2).isLt
  have h3 : (i 3).val < 128 := (i 3).isLt
  rw [val_main_v10_apply, val_main_v9_apply, val_main_v4_apply, val_main_v3_apply]
  refine at2_idx x2 _ ?_ ?_
  · show (((((i 0).val * 16384 + (i 1).val) * 2 + (i 2).val) * 128 + (i 3).val) % 256) = _
    omega
  · show (((((i 0).val * 16384 + (i 1).val) * 2 + (i 2).val) * 128 + (i 3).val) / 256) = _
    omega

/-- The power of two that a score gives, with the row's maximum taken off. -/
theorem v18_at (i : S2x2x4x16384x16384.Idx) : val_main_v18 (F := Ideal) x0 x1 i = Ideal.pow (Ideal.ofBits .f32 0x40000000#32)
    (val_main_v12 (F := Ideal) x0 x1 i - val_main_v14 (F := Ideal) x0 x1 (idx_main_v15 (idx_main_v16 i))) := by
  rw [val_main_v18_apply, val_main_v17_apply, val_main_v16_apply, val_main_v15_apply, val_main_v13_apply]
  rfl

/-- The softmax's weight of the key k for the query p. -/
theorem v22_at (p : S2x2x128x4x16384.Idx) (k k' : Fin 16384) : val_main_v22 (F := Ideal) x0 x1 (ridx_main_v23 p k)
    = Ideal.div (Ideal.pow (Ideal.ofBits .f32 0x40000000#32) (val_main_v12 (F := Ideal) x0 x1 (ridx_main_v23 p k)
          - val_main_v14 (F := Ideal) x0 x1 (idx_main_v15 (idx_main_v16 (ridx_main_v23 p k')))))
        (Ideal.ofBits .f32 0x00000000#32 + ∑ u : Fin 16384, Ideal.pow (Ideal.ofBits .f32 0x40000000#32)
          (val_main_v12 (F := Ideal) x0 x1 (ridx_main_v23 p u)
            - val_main_v14 (F := Ideal) x0 x1 (idx_main_v15 (idx_main_v16 (ridx_main_v23 p k'))))) := by
  have e1 : ∀ u, idx_main_v15 (idx_main_v16 (ridx_main_v23 p u)) = idx_main_v15 (idx_main_v16 (ridx_main_v23 p k')) :=
    fun u => funext fun | 0 => rfl | 1 => rfl | 2 => rfl | 3 => rfl
  have e2 : ∀ u, idx_main_v19 (idx_main_v20 (idx_main_v21 (ridx_main_v23 p k))) u = ridx_main_v23 p u :=
    fun u => funext fun | 0 => rfl | 1 => rfl | 2 => rfl | 3 => rfl | 4 => rfl
  rw [val_main_v22_apply, val_main_v21_apply, val_main_v20_apply, val_main_v19_apply, v18_at, e1 k]
  simp only [e2, v18_at, e1, val_main_cst_1_apply]
  rfl

variable {x0 x1}

/-- A row's maximum is a real. -/
theorem v14_real (hQ : ∀ i, ∃ r : ℝ, x0 i = r) (hK : ∀ i, ∃ r : ℝ, x1 i = r) (j : S2x2x4x16384.Idx) :
    ∃ r : ℝ, val_main_v14 (F := Ideal) x0 x1 j = r := by
  obtain ⟨r, hr, -⟩ := reduceMax_real (val_main_v12 (F := Ideal) x0 x1) (val_main_cst_0 (F := Ideal))
    reducesTo_S2x2x4x16384x16384_S2x2x4x16384_d4 h_S_ j ofBits_neg_inf
    (fun | 0 => j 0 | 1 => j 1 | 2 => j 2 | 3 => j 3 | 4 => (⟨0, by decide⟩ : Fin 16384)) (funext fun | 0 => rfl | 1 => rfl | 2 => rfl | 3 => rfl)
    fun i => ⟨_, by rw [v12_at, ← score_real hQ hK]⟩
  exact ⟨r, hr⟩

/-- The first 32768 rows of the reference. -/
theorem v25_at (hQ : ∀ i, ∃ r : ℝ, x0 i = r) (hK : ∀ i, ∃ r : ℝ, x1 i = r) (i : S32768x1024.Idx) :
    val_main_v25 (F := Ideal) x0 x1 x2 i = att x0 x1 x2 (i 0).val (i 1).val := by
  have h0 : (i 0).val < 32768 := (i 0).isLt
  have h1 : (i 1).val < 1024 := (i 1).isLt
  rw [val_main_v25_apply, val_main_v24_apply, val_main_v23_apply]
  unfold att
  have e1 : rowLen (i 0).val = 16384 := if_pos h0
  have e2 : rowBase (i 0).val = (i 0).val / 16384 * 16384 := if_pos h0
  rw [e1, e2]
  refine Eq.trans (Finset.sum_congr rfl fun k _ => ?_) (softmax_core (by decide) _ _
    (fun k => val_main_v12 (F := Ideal) x0 x1 (ridx_main_v23 (idx_main_v24 (idx_main_v25 i)) k))
    (fun k => val_main_v10 (F := Ideal) x2 (lidx_main_v23 (idx_main_v24 (idx_main_v25 i)) k))
    (val_main_v14 (F := Ideal) x0 x1 (idx_main_v15 (idx_main_v16 (ridx_main_v23 (idx_main_v24 (idx_main_v25 i)) 0))))
    (Ideal.ofBits .f32 0x40000000#32) (Ideal.ofBits .f32 0x00000000#32) (fun k => ?_) (fun k => ?_) (v14_real hQ hK _) ofBits_two Ideal.ofBits_zero_f32)
  · refine congrArg (fun a : EReal => val_main_v10 (F := Ideal) x2 (lidx_main_v23 (idx_main_v24 (idx_main_v25 i)) k) * a) ?_
    exact v22_at x0 x1 _ k 0
  · refine (v12_at x0 x1 _).trans (Eq.trans ?_ (score_real hQ hK _ _ _).symm)
    refine congr (congrArg₂ (score x0 x1) ?_ ?_) ?_
    · show (((i 0).val * 1024 + (i 1).val) / 512 % 2) * 4 + ((i 0).val * 1024 + (i 1).val) / 128 % 4 = (i 1).val / 128
      omega
    · show (((i 0).val * 1024 + (i 1).val) / 16777216) * 16384 + ((i 0).val * 1024 + (i 1).val) / 1024 % 16384 = (i 0).val
      omega
    · show (((i 0).val * 1024 + (i 1).val) / 16777216) * 16384 + k.val = (i 0).val / 16384 * 16384 + k.val
      omega
  · refine (v10_at x2 _).trans (congrArg₂ (at2 x2) ?_ ?_)
    · show (((i 0).val * 1024 + (i 1).val) / 512 % 2) * 128 + ((i 0).val * 1024 + (i 1).val) % 128 = (i 1).val / 128 / 4 * 128 + (i 1).val % 128
      omega
    · show (((i 0).val * 1024 + (i 1).val) / 16777216) * 16384 + k.val = (i 0).val / 16384 * 16384 + k.val
      omega

end Cert.KernelIdeal.Flash

end
-- ==== Proof.Flash.RefSample.lean ====
module

public import proofs.«01_k».proof.Proof.Flash.Ref

@[expose] public section

set_option maxRecDepth 16384
set_option Elab.async false

noncomputable section

namespace Cert.KernelIdeal.Flash

open Idealize.ShloMosaic
open Cert.ReferenceIdeal Cert.ReferenceIdeal.Gen Cert.ReferenceIdeal.Read

/-! The reference's attention of the sample's two batches, and the whole of the reference. -/

variable (x0 : S1024x40960.Idx → EReal) (x1 : S40960x256.Idx → EReal) (x2 : S256x40960.Idx → EReal)

/-- The reference's scores of the sample are the scores of the rows from 32768 on. -/
theorem v33_at (i : S2x2x4x4096x4096.Idx) : val_main_v33 (F := Ideal) x0 x1 i
    = score x0 x1 ((i 1).val * 4 + (i 2).val) (32768 + (i 0).val * 4096 + (i 3).val) (32768 + (i 0).val * 4096 + (i 4).val) := by
  have h0 : (i 0).val < 2 := (i 0).isLt
  have h1 : (i 1).val < 2 := (i 1).isLt
  have h2 : (i 2).val < 4 := (i 2).isLt
  have h3 : (i 3).val < 4096 := (i 3).isLt
  have h4 : (i 4).val < 4096 := (i 4).isLt
  rw [val_main_v33_apply, val_main_v32_apply]
  refine Finset.sum_congr rfl fun k _ => ?_
  have hk := k.isLt
  rw [val_main_v29_apply, val_main_v28_apply, val_main_v2_apply, val_main_v27_apply, val_main_v26_apply, val_main_v1_apply, val_main_v0_apply]
  refine congrArg₂ (fun a b : EReal => a * b) (at2_idx x1 _ ?_ ?_) (at2_idx x0 _ ?_ ?_)
  · show 32768 + (((((i 0).val * 4096 + (i 4).val) * 2 + (i 1).val) * 128 + k.val) / 256) = _
    omega
  · show (((((i 0).val * 4096 + (i 4).val) * 2 + (i 1).val) * 128 + k.val) % 256) = _
    omega
  · show ((((((i 0).val * 4096 + (i 3).val) * 2 + (i 1).val) * 4 + (i 2).val) * 128 + k.val) % 1024) = _
    omega
  · show 32768 + ((((((i 0).val * 4096 + (i 3).val) * 2 + (i 1).val) * 4 + (i 2).val) * 128 + k.val) / 1024) = _
    omega

/-- The values of the sample's two batches are those of the rows from 32768 on. -/
theorem v31_at (i : S2x4096x2x128.Idx) : val_main_v31 (F := Ideal) x2 i
    = at2 x2 ((i 2).val * 128 + (i 3).val) (32768 + (i 0).val * 4096 + (i 1).val) := by
  have h0 : (i 0).val < 2 := (i 0).isLt
  have h1 : (i 1).val < 4096 := (i 1).isLt
  have h2 : (i 2).val < 2 := (i 2).isLt
  have h3 : (i 3).val < 128 := (i 3).isLt
  rw [val_main_v31_apply, val_main_v30_apply, val_main_v4_apply, val_main_v3_apply]
  refine at2_idx x2 _ ?_ ?_
  · show (((((i 0).val * 4096 + (i 1).val) * 2 + (i 2).val) * 128 + (i 3).val) % 256) = _
    omega
  · show 32768 + (((((i 0).val * 4096 + (i 1).val) * 2 + (i 2).val) * 128 + (i 3).val) / 256) = _
    omega

/-- The power of two that a score gives, with the row's maximum taken off. -/
theorem v39_at (i : S2x2x4x4096x4096.Idx) : val_main_v39 (F := Ideal) x0 x1 i = Ideal.pow (Ideal.ofBits .f32 0x40000000#32)
    (val_main_v33 (F := Ideal) x0 x1 i - val_main_v35 (F := Ideal) x0 x1 (idx_main_v36 (idx_main_v37 i))) := by
  rw [val_main_v39_apply, val_main_v38_apply, val_main_v37_apply, val_main_v36_apply, val_main_v34_apply]
  rfl

/-- The softmax's weight of the key k for the query p. -/
theorem v43_at (p : S2x2x128x4x4096.Idx) (k k' : Fin 4096) : val_main_v43 (F := Ideal) x0 x1 (ridx_main_v44 p k)
    = Ideal.div (Ideal.pow (Ideal.ofBits .f32 0x40000000#32) (val_main_v33 (F := Ideal) x0 x1 (ridx_main_v44 p k)
          - val_main_v35 (F := Ideal) x0 x1 (idx_main_v36 (idx_main_v37 (ridx_main_v44 p k')))))
        (Ideal.ofBits .f32 0x00000000#32 + ∑ u : Fin 4096, Ideal.pow (Ideal.ofBits .f32 0x40000000#32)
          (val_main_v33 (F := Ideal) x0 x1 (ridx_main_v44 p u)
            - val_main_v35 (F := Ideal) x0 x1 (idx_main_v36 (idx_main_v37 (ridx_main_v44 p k'))))) := by
  have e1 : ∀ u, idx_main_v36 (idx_main_v37 (ridx_main_v44 p u)) = idx_main_v36 (idx_main_v37 (ridx_main_v44 p k')) :=
    fun u => funext fun | 0 => rfl | 1 => rfl | 2 => rfl | 3 => rfl
  have e2 : ∀ u, idx_main_v40 (idx_main_v41 (idx_main_v42 (ridx_main_v44 p k))) u = ridx_main_v44 p u :=
    fun u => funext fun | 0 => rfl | 1 => rfl | 2 => rfl | 3 => rfl | 4 => rfl
  rw [val_main_v43_apply, val_main_v42_apply, val_main_v41_apply, val_main_v40_apply, v39_at, e1 k]
  simp only [e2, v39_at, e1, val_main_cst_4_apply]
  rfl

variable {x0 x1}

/-- A row's maximum is a real. -/
theorem v35_real (hQ : ∀ i, ∃ r : ℝ, x0 i = r) (hK : ∀ i, ∃ r : ℝ, x1 i = r) (j : S2x2x4x4096.Idx) :
    ∃ r : ℝ, val_main_v35 (F := Ideal) x0 x1 j = r := by
  obtain ⟨r, hr, -⟩ := reduceMax_real (val_main_v33 (F := Ideal) x0 x1) (val_main_cst_3 (F := Ideal))
    reducesTo_S2x2x4x4096x4096_S2x2x4x4096_d4 h_S_ j ofBits_neg_inf
    (fun | 0 => j 0 | 1 => j 1 | 2 => j 2 | 3 => j 3 | 4 => (⟨0, by decide⟩ : Fin 4096)) (funext fun | 0 => rfl | 1 => rfl | 2 => rfl | 3 => rfl)
    fun i => ⟨_, by rw [v33_at, ← score_real hQ hK]⟩
  exact ⟨r, hr⟩

/-- The last 8192 rows of the reference. -/
theorem v46_at (hQ : ∀ i, ∃ r : ℝ, x0 i = r) (hK : ∀ i, ∃ r : ℝ, x1 i = r) (i : S8192x1024.Idx) :
    val_main_v46 (F := Ideal) x0 x1 x2 i = att x0 x1 x2 (32768 + (i 0).val) (i 1).val := by
  have h0 : (i 0).val < 8192 := (i 0).isLt
  have h1 : (i 1).val < 1024 := (i 1).isLt
  rw [val_main_v46_apply, val_main_v45_apply, val_main_v44_apply]
  unfold att
  have e1 : rowLen (32768 + (i 0).val) = 4096 := if_neg (by omega)
  have e2 : rowBase (32768 + (i 0).val) = 32768 + (32768 + (i 0).val - 32768) / 4096 * 4096 := if_neg (by omega)
  rw [e1, e2]
  refine Eq.trans (Finset.sum_congr rfl fun k _ => ?_) (softmax_core (by decide) _ _
    (fun k => val_main_v33 (F := Ideal) x0 x1 (ridx_main_v44 (idx_main_v45 (idx_main_v46 i)) k))
    (fun k => val_main_v31 (F := Ideal) x2 (lidx_main_v44 (idx_main_v45 (idx_main_v46 i)) k))
    (val_main_v35 (F := Ideal) x0 x1 (idx_main_v36 (idx_main_v37 (ridx_main_v44 (idx_main_v45 (idx_main_v46 i)) 0))))
    (Ideal.ofBits .f32 0x40000000#32) (Ideal.ofBits .f32 0x00000000#32) (fun k => ?_) (fun k => ?_) (v35_real hQ hK _) ofBits_two Ideal.ofBits_zero_f32)
  · refine congrArg (fun a : EReal => val_main_v31 (F := Ideal) x2 (lidx_main_v44 (idx_main_v45 (idx_main_v46 i)) k) * a) ?_
    exact v43_at x0 x1 _ k 0
  · refine (v33_at x0 x1 _).trans (Eq.trans ?_ (score_real hQ hK _ _ _).symm)
    refine congr (congrArg₂ (score x0 x1) ?_ ?_) ?_
    · show (((i 0).val * 1024 + (i 1).val) / 512 % 2) * 4 + ((i 0).val * 1024 + (i 1).val) / 128 % 4 = (i 1).val / 128
      omega
    · show 32768 + (((i 0).val * 1024 + (i 1).val) / 4194304) * 4096 + ((i 0).val * 1024 + (i 1).val) / 1024 % 4096 = 32768 + (i 0).val
      omega
    · show 32768 + (((i 0).val * 1024 + (i 1).val) / 4194304) * 4096 + k.val = 32768 + (32768 + (i 0).val - 32768) / 4096 * 4096 + k.val
      omega
  · refine (v31_at x2 _).trans (congrArg₂ (at2 x2) ?_ ?_)
    · show (((i 0).val * 1024 + (i 1).val) / 512 % 2) * 128 + ((i 0).val * 1024 + (i 1).val) % 128 = (i 1).val / 128 / 4 * 128 + (i 1).val % 128
      omega
    · show 32768 + (((i 0).val * 1024 + (i 1).val) / 4194304) * 4096 + k.val = 32768 + (32768 + (i 0).val - 32768) / 4096 * 4096 + k.val
      omega

/-- Two arrays of one function's rows, laid one after the other, are that function's rows. -/
theorem rows_joined (a : S32768x1024.Idx → EReal) (b : S8192x1024.Idx → EReal) (f : ℕ → ℕ → EReal)
    (ha : ∀ i, a i = f (i 0).val (i 1).val) (hb : ∀ i, b i = f (32768 + (i 0).val) (i 1).val) (y : S40960x1024.Idx) :
    concatenate S40960x1024 0 [⟨S32768x1024, a⟩, ⟨S8192x1024, b⟩] concatenates_S32768x1024_S8192x1024_S40960x1024_d0 y
      = f (y 0).val (y 1).val := by
  have h0 : (y 0).val < 40960 := (y 0).isLt
  have h1 : (y 1).val < 1024 := (y 1).isLt
  by_cases h : (y 0).val < 32768
  · let i : S32768x1024.Idx := fun | 0 => (⟨(y 0).val, h⟩ : Fin 32768) | 1 => (⟨(y 1).val, h1⟩ : Fin 1024)
    exact (concatenate_pair_apply_left 0 a b concatenates_S32768x1024_S8192x1024_S40960x1024_d0 y rfl i
      (fun | 0 => rfl | 1 => rfl)).trans (ha i)
  · let i : S8192x1024.Idx := fun | 0 => (⟨(y 0).val - 32768, by omega⟩ : Fin 8192) | 1 => (⟨(y 1).val, h1⟩ : Fin 1024)
    have e : (y 0).val - 32768 + 32768 = (y 0).val := by omega
    refine (concatenate_pair_apply_right 0 a b concatenates_S32768x1024_S8192x1024_S40960x1024_d0 y rfl rfl i
      (fun | 0 => fun h => absurd rfl h | 1 => fun _ => rfl) e).trans ((hb i).trans ?_)
    exact congrArg (fun n => f n (y 1).val) ((Nat.add_comm _ _).trans e)

/-- The reference's result is the attention of its queries, keys and values. -/
theorem reference_eq (hQ : ∀ i, ∃ r : ℝ, x0 i = r) (hK : ∀ i, ∃ r : ℝ, x1 i = r) :
    val_main_v48 (F := Ideal) x0 x1 x2 = attArr x0 x1 x2 := by
  funext y
  rw [val_main_v48_apply]
  exact rows_joined _ _ (att x0 x1 x2) (v25_at x2 hQ hK) (v46_at x2 hQ hK) y

end Cert.KernelIdeal.Flash

end
-- ==== Proof.Flash.Value.lean ====
module

public import proofs.«01_k».proof.Defs
public import proofs.«01_k».proof.Proof.Gen.Pre_finite
public import proofs.«01_k».proof.Proof.Gen.ReferenceIdeal.Run
public import proofs.«01_k».proof.Proof.Flash.RefSample
public import proofs.«01_k».proof.Proof.Flash.Frame

@[expose] public section

set_option maxRecDepth 16384
set_option Elab.async false

noncomputable section

namespace Cert.Proof

open Idealize.ShloMosaic Idealize.ShloMosaic.TcCoe Idealize.SL.Sem
open Cert.KernelIdeal.Flash

/-! The kernel and the reference end with one array: the attention of the queries, the keys and the values. -/

/-- The kernel's run, when its queries, its keys and its keys' norm weights are reals. -/
theorem kernel_value (m : (ℓ : Loc Cert.KernelIdeal.nD Cert.KernelIdeal.τ Cert.KernelIdeal.sig) → Buf (Elt Ideal) ℓ)
    (g : Dev Cert.KernelIdeal.nD → PrngReg)
    (hQ : ∀ (c : Dev Cert.KernelIdeal.nD) i, ∃ r : ℝ, m ((c.tc : Thread Cert.KernelIdeal.nD Cert.KernelIdeal.τ).loc Cert.KernelIdeal.main_arg0) i = (r : EReal))
    (hK : ∀ (c : Dev Cert.KernelIdeal.nD) i, ∃ r : ℝ, m ((c.tc : Thread Cert.KernelIdeal.nD Cert.KernelIdeal.τ).loc Cert.KernelIdeal.main_arg1) i = (r : EReal))
    (hG : ∀ (c : Dev Cert.KernelIdeal.nD) i, ∃ r : ℝ, m ((c.tc : Thread Cert.KernelIdeal.nD Cert.KernelIdeal.τ).loc Cert.KernelIdeal.main_arg4) i = (r : EReal))
    (r : PUnit × MemSt Cert.KernelIdeal.nD Cert.KernelIdeal.τ Cert.KernelIdeal.sig (Elt Ideal)) (h : Final m r) (c : Dev Cert.KernelIdeal.nD) :
    r.2.mem ((c.tc : Thread Cert.KernelIdeal.nD Cert.KernelIdeal.τ).loc Cert.KernelIdeal.main_v14)
      = attArr (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  obtain ⟨k, hk0, hk⟩ := km_real m c (hG c)
  exact ((h.1 c).1 5).trans (final_5 _ _ _ (hostV m) (choice m) c (hQ c) (hK c) (hostV_unwritten m c _ (by decide))
    (hostV_unwritten m c _ (by decide)) (hostV_unwritten m c _ (by decide)) k hk0 hk)

/-- Where the precondition holds, the kernel's result and the reference's are equal. -/
theorem algebraic : Cert.algebraic_KernelIdeal_ReferenceIdeal_pre_finite := by
  intro m g m' g' hpre hargs
  have hQ : ∀ (c : Dev Cert.KernelIdeal.nD) i, ∃ r : ℝ,
      m ((c.tc : Thread Cert.KernelIdeal.nD Cert.KernelIdeal.τ).loc Cert.KernelIdeal.main_arg0) i = (r : EReal) :=
    fun c i => real_of_lt (congrFun (hpre c).1 i)
  have hK : ∀ (c : Dev Cert.KernelIdeal.nD) i, ∃ r : ℝ,
      m ((c.tc : Thread Cert.KernelIdeal.nD Cert.KernelIdeal.τ).loc Cert.KernelIdeal.main_arg1) i = (r : EReal) :=
    fun c i => real_of_lt (congrFun (hpre c).2.1 i)
  have hG : ∀ (c : Dev Cert.KernelIdeal.nD) i, ∃ r : ℝ,
      m ((c.tc : Thread Cert.KernelIdeal.nD Cert.KernelIdeal.τ).loc Cert.KernelIdeal.main_arg4) i = (r : EReal) :=
    fun c i => real_of_lt (congrFun (hpre c).2.2 i)
  refine ⟨fun c => attArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    (θ_run _ _ _).mono (fun r h c => ⟨kernel_value m g hQ hK hG r h c, args_kept m r h c⟩) (run_main m g),
    (θ_run _ _ _).mono (fun r h c => ⟨(h c).1.trans ?_, (h c).2⟩) (Cert.ReferenceIdeal.Value.run m' g')⟩
  rw [Cert.ReferenceIdeal.Read.val_main_v48_eq, (hargs c).1, (hargs c).2.1, (hargs c).2.2.1]
  exact reference_eq _ (hQ c) (hK c)

end Cert.Proof

end
-- ==== Proof.Project.Frames.lean ====
module

public import proofs.«01_k».proof.Defs
public import proofs.«01_k».proof.Proof.Gen.Project
public import proofs.«01_k».proof.Proof.Gen.ProjectIdeal
public import proofs.«01_k».proof.Proof.Gen.ProjectReferenceIdeal
public import proofs.«01_k».proof.Proof.Gen.ProjectReferenceIdeal.Run
public import proofs.«01_k».proof.Proof.Gen.ProjectIdeal.Frame
public import Idealize.ShloMosaic.Lib.Pipeline.Regions

@[expose] public section

set_option maxRecDepth 16384

noncomputable section

namespace Cert.Proof.Project

open Idealize.ShloMosaic Idealize.ShloMosaic.TcCoe Idealize.SL.Sem

/-- The frame of the idealized in-projection. -/
theorem frame_pi : Cert.quiescent_ProjectIdeal := fun m g _ => Cert.ProjectIdeal.Gen.frame (F := Ideal) m g

/-- The frame of its text, read on the machine's own floats. -/
def QuiescentBits : Prop :=
  ∀ (m : (ℓ : Loc Cert.ProjectIdeal.nD Cert.ProjectIdeal.τ Cert.ProjectIdeal.sig) → Buf (Elt Bits) ℓ) (g : Dev Cert.ProjectIdeal.nD → PrngReg),
    True → θ_run (Cert.ProjectIdeal.defs (F := Bits)) (onTc (τ := Cert.ProjectIdeal.τ) (Cert.ProjectIdeal.main (F := Bits)))
      ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0) ∧
      r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1) ∧
      r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2) ∧
      r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3) ∧
      r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4) ∧
      r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5) ∧
      r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6) ∧
      r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7) ∧
      r.2.mem ((c.tc : Thread Cert.ProjectIdeal.nD Cert.ProjectIdeal.τ).loc Cert.ProjectIdeal.main_arg8) = m ((c.tc : Thread Cert.ProjectIdeal.nD Cert.ProjectIdeal.τ).loc Cert.ProjectIdeal.main_arg8) ∧
      r.2.mem ((c.tc : Thread Cert.ProjectIdeal.nD Cert.ProjectIdeal.τ).loc Cert.ProjectIdeal.main_arg9) = m ((c.tc : Thread Cert.ProjectIdeal.nD Cert.ProjectIdeal.τ).loc Cert.ProjectIdeal.main_arg9) ∧
      r.2.mem ((c.tc : Thread Cert.ProjectIdeal.nD Cert.ProjectIdeal.τ).loc Cert.ProjectIdeal.main_arg10) = m ((c.tc : Thread Cert.ProjectIdeal.nD Cert.ProjectIdeal.τ).loc Cert.ProjectIdeal.main_arg10) ∧
      r.2.mem ((c.tc : Thread Cert.ProjectIdeal.nD Cert.ProjectIdeal.τ).loc Cert.ProjectIdeal.main_arg11) = m ((c.tc : Thread Cert.ProjectIdeal.nD Cert.ProjectIdeal.τ).loc Cert.ProjectIdeal.main_arg11) ∧
      r.2.mem ((c.tc : Thread Cert.ProjectIdeal.nD Cert.ProjectIdeal.τ).loc Cert.ProjectIdeal.main_arg12) = m ((c.tc : Thread Cert.ProjectIdeal.nD Cert.ProjectIdeal.τ).loc Cert.ProjectIdeal.main_arg12) ∧
      r.2.mem ((c.tc : Thread Cert.ProjectIdeal.nD Cert.ProjectIdeal.τ).loc Cert.ProjectIdeal.main_arg13) = m ((c.tc : Thread Cert.ProjectIdeal.nD Cert.ProjectIdeal.τ).loc Cert.ProjectIdeal.main_arg13) ∧
      r.2.mem ((c.tc : Thread Cert.ProjectIdeal.nD Cert.ProjectIdeal.τ).loc Cert.ProjectIdeal.main_arg14) = m ((c.tc : Thread Cert.ProjectIdeal.nD Cert.ProjectIdeal.τ).loc Cert.ProjectIdeal.main_arg14)) ∧
      r.2.sem = fun _ => 0)

/-- That text's frame on the machine's floats. -/
theorem frame_bits : QuiescentBits := fun m g _ => Cert.ProjectIdeal.Gen.frame (F := Bits) m g

/-- The two texts are the same. -/
theorem same_text : Cert.quiescent_Project = QuiescentBits := by chain_rfl

/-- The frame of the printed in-projection: its text is the idealized one's, read on the machine's floats. -/
theorem frame_p : Cert.quiescent_Project := same_text.mpr frame_bits

/-- The frame of its reference. -/
theorem frame_ri : Cert.quiescent_ProjectReferenceIdeal := fun m ρ _ =>
  (θ_run Cert.ProjectReferenceIdeal.defs _ _).mono (fun r h => ⟨fun c => (h c).2.2.2.2.2, sem_eq_zero_of_no_sems (by decide) r.2⟩)
    (Cert.ProjectReferenceIdeal.Value.run (F := Ideal) m ρ)

end Cert.Proof.Project

end
-- ==== Proof.Project.Base.lean ====
module

public import proofs.«01_k».proof.Proof.Flash.Reads

@[expose] public section

noncomputable section

namespace Cert.ProjectIdeal.Proj

open Idealize.ShloMosaic
export Cert.KernelIdeal.Flash (at2 at2_ix at2_idx)

/-! What the projections compute, as functions of row and column numbers. -/

/-- The element at `i`, `j`, `k` of an array of three axes, and zero outside the array. -/
def at3 {a b c : ℕ} (x : (⟨3, ![a, b, c]⟩ : Shape).Idx → EReal) (i j k : ℕ) : EReal :=
  if h : i < a ∧ j < b ∧ k < c then x (ix3 ⟨i, h.1⟩ ⟨j, h.2.1⟩ ⟨k, h.2.2⟩) else 0

theorem at3_ix {a b c : ℕ} (x : (⟨3, ![a, b, c]⟩ : Shape).Idx → EReal) (i : Fin a) (j : Fin b) (k : Fin c) :
    x (ix3 i j k) = at3 x i.val j.val k.val := by
  unfold at3; rw [dif_pos ⟨i.isLt, j.isLt, k.isLt⟩]

theorem at3_idx {a b c : ℕ} (x : (⟨3, ![a, b, c]⟩ : Shape).Idx → EReal) (y : (⟨3, ![a, b, c]⟩ : Shape).Idx) {i j k : ℕ}
    (hi : (y 0).val = i) (hj : (y 1).val = j) (hk : (y 2).val = k) : x y = at3 x i j k := by
  subst hi hj hk
  rw [eq_ix3 y]; exact at3_ix x (y 0) (y 1) (y 2)

/-- The reciprocal root of a mean square, `s` being the sum of `n` squares. -/
def rms (n s : EReal) : EReal := Ideal.rsqrt (Ideal.div s n + Ideal.ofBits .f32 0x358637BD#32)

/-- A normalised, scaled and shifted row of 2048. -/
def hid (x g sc sh : ℕ → EReal) (j : ℕ) : EReal :=
  x j * rms (Ideal.ofBits .f32 0x45000000#32) (∑ k : Fin 2048, x k * x k) * g j * (Ideal.ofBits .f32 0x3F800000#32 + sc j) + sh j

/-- A normalised head of 128. -/
def nrm (z g : ℕ → EReal) (d : ℕ) : EReal :=
  z d * rms (Ideal.ofBits .f32 0x43000000#32) (∑ k : Fin 128, z k * z k) * g d

/-- A normalised head turned by the tables of its position. -/
def rop (z g c s : ℕ → EReal) (d : ℕ) : EReal := nrm z g d * c d + nrm z g ((d + 64) % 128) * s d

theorem nrm_congr {z z' g g' : ℕ → EReal} {d : ℕ} (hd : d < 128) (hz : ∀ e, e < 128 → z e = z' e) (hg : ∀ e, e < 128 → g e = g' e) :
    nrm z g d = nrm z' g' d := by
  unfold nrm
  rw [hz d hd, hg d hd, Finset.sum_congr rfl fun (k : Fin 128) _ => by rw [hz k.val k.isLt]]

theorem rop_congr {z z' g g' c c' s s' : ℕ → EReal} {d : ℕ} (hd : d < 128) (hz : ∀ e, e < 128 → z e = z' e)
    (hg : ∀ e, e < 128 → g e = g' e) (hc : c d = c' d) (hs : s d = s' d) : rop z g c s d = rop z' g' c' s' d := by
  unfold rop
  rw [nrm_congr hd hz hg, nrm_congr (Nat.mod_lt _ (by decide)) hz hg, hc, hs]

/-- The sequence of a row, and its position in it. -/
def seqOf (i : ℕ) : ℕ := if i < 32768 then i / 16384 else 2 + (i - 32768) / 4096
def posOf (i : ℕ) : ℕ := if i < 32768 then i % 16384 else (i - 32768) % 4096

/-- The element at row `i` and column `j` of the rows of `a` followed by those of `b`. -/
def join {p q w : ℕ} (n : ℕ) (a : (⟨2, ![p, w]⟩ : Shape).Idx → EReal) (b : (⟨2, ![q, w]⟩ : Shape).Idx → EReal) (i j : ℕ) : EReal :=
  if i < n then at2 a i j else at2 b (i - n) j

section

variable (xa : (⟨2, ![32768, 2048]⟩ : Shape).Idx → EReal) (xb : (⟨2, ![8192, 2048]⟩ : Shape).Idx → EReal)
  (md : (⟨3, ![4, 8, 2048]⟩ : Shape).Idx → EReal) (g1 : (⟨2, ![1, 2048]⟩ : Shape).Idx → EReal)

/-- The normalised and modulated rows. -/
def H (i j : ℕ) : EReal := hid (join 32768 xa xb i) (at2 g1 0) (at3 md (seqOf i) 1) (at3 md (seqOf i) 0) j

/-- Their product with a matrix, and with a matrix given by its columns. -/
def mulN {n : ℕ} (w : (⟨2, ![2048, n]⟩ : Shape).Idx → EReal) (i j : ℕ) : EReal := ∑ k : Fin 2048, H xa xb md g1 i k * at2 w k j
def mulT {n : ℕ} (w : (⟨2, ![n, 2048]⟩ : Shape).Idx → EReal) (i j : ℕ) : EReal := ∑ k : Fin 2048, H xa xb md g1 i k * at2 w j k

/-- The turned heads: of the query side, given by columns, and of the key side. -/
def qOut (w : (⟨2, ![1024, 2048]⟩ : Shape).Idx → EReal) (g : (⟨2, ![128, 1]⟩ : Shape).Idx → EReal)
    (c s : (⟨2, ![128, 16384]⟩ : Shape).Idx → EReal) (i j : ℕ) : EReal :=
  rop (fun e => mulT xa xb md g1 w i (j / 128 * 128 + e)) (fun e => at2 g e 0) (fun e => at2 c e (posOf i)) (fun e => at2 s e (posOf i)) (j % 128)
def kOut (w : (⟨2, ![2048, 256]⟩ : Shape).Idx → EReal) (g : (⟨2, ![1, 128]⟩ : Shape).Idx → EReal)
    (c s : (⟨2, ![16384, 128]⟩ : Shape).Idx → EReal) (i j : ℕ) : EReal :=
  rop (fun e => mulN xa xb md g1 w i (j / 128 * 128 + e)) (at2 g 0) (at2 c (posOf i)) (at2 s (posOf i)) (j % 128)

end

end Cert.ProjectIdeal.Proj

end
-- ==== Proof.Project.Blocks.lean ====
module

public import proofs.«01_k».proof.Proof.Project.Base
public import proofs.«01_k».proof.Proof.Gen.ProjectIdeal.Value

@[expose] public section

set_option maxRecDepth 16384

noncomputable section

namespace Cert.ProjectIdeal.Proj

open Cert.ProjectIdeal Cert.ProjectIdeal.Gen
open Idealize.ShloMosaic Idealize.ShloMosaic.TcCoe

/-! The block each window stands at, and the blocks of the inputs at an index. -/

/-- The sequence of a block of rows, and its position among that sequence's blocks. -/
def seqB (t : ℕ) : ℕ := if t < 64 then t / 32 else 2 + (t - 64) / 8
def posB (t : ℕ) : ℕ := if t < 64 then t % 32 else (t - 64) % 8

theorem index_0 : ∀ t : Fin cfg0.N, t.val < 64 → win0_0.index t = ![t.val, 0] :=
  (by decide +kernel : ∀ t : Fin grid0.N, t.val < 64 → win0_0.index t = ![t.val, 0])
theorem index_1 : ∀ t : Fin cfg0.N, ¬ t.val < 64 → win0_1.index t = ![t.val - 64, 0] :=
  (by decide +kernel : ∀ t : Fin grid0.N, ¬ t.val < 64 → win0_1.index t = ![t.val - 64, 0])
theorem index_2 : ∀ t : Fin cfg0.N, win0_2.index t = ![seqB t.val, 0, 0] :=
  (by decide +kernel : ∀ t : Fin grid0.N, win0_2.index t = ![seqB t.val, 0, 0])
theorem index_11 : ∀ t : Fin cfg0.N, win0_11.index t = ![0, posB t.val] :=
  (by decide +kernel : ∀ t : Fin grid0.N, win0_11.index t = ![0, posB t.val])
theorem index_12 : ∀ t : Fin cfg0.N, win0_12.index t = ![0, posB t.val] :=
  (by decide +kernel : ∀ t : Fin grid0.N, win0_12.index t = ![0, posB t.val])
theorem index_13 : ∀ t : Fin cfg0.N, win0_13.index t = ![posB t.val, 0] :=
  (by decide +kernel : ∀ t : Fin grid0.N, win0_13.index t = ![posB t.val, 0])
theorem index_14 : ∀ t : Fin cfg0.N, win0_14.index t = ![posB t.val, 0] :=
  (by decide +kernel : ∀ t : Fin grid0.N, win0_14.index t = ![posB t.val, 0])
theorem index_15 : ∀ t : Fin cfg0.N, win0_15.index t = ![0, t.val] :=
  (by decide +kernel : ∀ t : Fin grid0.N, win0_15.index t = ![0, t.val])
theorem index_16 : ∀ t : Fin cfg0.N, win0_16.index t = ![t.val, 0] :=
  (by decide +kernel : ∀ t : Fin grid0.N, win0_16.index t = ![t.val, 0])
theorem index_17 : ∀ t : Fin cfg0.N, win0_17.index t = ![0, t.val] :=
  (by decide +kernel : ∀ t : Fin grid0.N, win0_17.index t = ![0, t.val])
theorem index_18 : ∀ t : Fin cfg0.N, win0_18.index t = ![t.val, 0] :=
  (by decide +kernel : ∀ t : Fin grid0.N, win0_18.index t = ![t.val, 0])
theorem index_19 : ∀ t : Fin cfg0.N, win0_19.index t = ![t.val, 0] :=
  (by decide +kernel : ∀ t : Fin grid0.N, win0_19.index t = ![t.val, 0])

theorem coords_val : ∀ t : Fin cfg0.N, (grid0.coords t 0).val = t.val :=
  (by decide +kernel : ∀ t : Fin grid0.N, (grid0.coords t 0).val = t.val)

variable (m : (ℓ : Loc nD τ sig) → Buf (Elt Ideal) ℓ) (c : Dev nD) (t : Fin cfg0.N)

theorem iblk_0 (h : t.val < 64) (r : Fin 512) (j : Fin 2048) : iblk m c 0 t (ix2 r j)
    = at2 (a := 32768) (b := 2048) (V m c main_arg0) (t.val * 512 + r.val) j.val := by
  refine at2_idx (a := 32768) (b := 2048) (V m c main_arg0) _ ?_ ?_
  · refine (Pipeline.Window.rect_emb_val (cfg0.win (0 : Fin 20)) t (ix2 r j) (0 : Fin 2)).trans ?_
    rw [show (cfg0.win (0 : Fin 20)).index t = _ from index_0 t h]; rfl
  · refine (Pipeline.Window.rect_emb_val (cfg0.win (0 : Fin 20)) t (ix2 r j) (1 : Fin 2)).trans ?_
    rw [show (cfg0.win (0 : Fin 20)).index t = _ from index_0 t h]; exact Nat.zero_add _

theorem iblk_1 (h : ¬ t.val < 64) (r : Fin 512) (j : Fin 2048) : iblk m c 1 t (ix2 r j)
    = at2 (a := 8192) (b := 2048) (V m c main_arg1) ((t.val - 64) * 512 + r.val) j.val := by
  refine at2_idx (a := 8192) (b := 2048) (V m c main_arg1) _ ?_ ?_
  · refine (Pipeline.Window.rect_emb_val (cfg0.win (1 : Fin 20)) t (ix2 r j) (0 : Fin 2)).trans ?_
    rw [show (cfg0.win (1 : Fin 20)).index t = _ from index_1 t h]; rfl
  · refine (Pipeline.Window.rect_emb_val (cfg0.win (1 : Fin 20)) t (ix2 r j) (1 : Fin 2)).trans ?_
    rw [show (cfg0.win (1 : Fin 20)).index t = _ from index_1 t h]; exact Nat.zero_add _

theorem iblk_2 (i : Fin 8) (j : Fin 2048) : iblk m c 2 t (ix3 0 i j)
    = at3 (a := 4) (b := 8) (c := 2048) (V m c main_arg2) (seqB t.val) i.val j.val := by
  refine at3_idx (a := 4) (b := 8) (c := 2048) (V m c main_arg2) _ ?_ ?_ ?_
  · refine (Pipeline.Window.rect_emb_val (cfg0.win (2 : Fin 20)) t (ix3 0 i j) (0 : Fin 3)).trans ?_
    rw [show (cfg0.win (2 : Fin 20)).index t = _ from index_2 t]; exact Nat.mul_one _
  · refine (Pipeline.Window.rect_emb_val (cfg0.win (2 : Fin 20)) t (ix3 0 i j) (1 : Fin 3)).trans ?_
    rw [show (cfg0.win (2 : Fin 20)).index t = _ from index_2 t]; exact Nat.zero_add _
  · refine (Pipeline.Window.rect_emb_val (cfg0.win (2 : Fin 20)) t (ix3 0 i j) (2 : Fin 3)).trans ?_
    rw [show (cfg0.win (2 : Fin 20)).index t = _ from index_2 t]; exact Nat.zero_add _

theorem iblk_11 (d : Fin 128) (n : Fin 512) : iblk m c 11 t (ix2 d n)
    = at2 (a := 128) (b := 16384) (V m c main_arg11) d.val (posB t.val * 512 + n.val) := by
  refine at2_idx (a := 128) (b := 16384) (V m c main_arg11) _ ?_ ?_
  · refine (Pipeline.Window.rect_emb_val (cfg0.win (11 : Fin 20)) t (ix2 d n) (0 : Fin 2)).trans ?_
    rw [show (cfg0.win (11 : Fin 20)).index t = _ from index_11 t]; exact Nat.zero_add _
  · refine (Pipeline.Window.rect_emb_val (cfg0.win (11 : Fin 20)) t (ix2 d n) (1 : Fin 2)).trans ?_
    rw [show (cfg0.win (11 : Fin 20)).index t = _ from index_11 t]; rfl

theorem iblk_12 (d : Fin 128) (n : Fin 512) : iblk m c 12 t (ix2 d n)
    = at2 (a := 128) (b := 16384) (V m c main_arg12) d.val (posB t.val * 512 + n.val) := by
  refine at2_idx (a := 128) (b := 16384) (V m c main_arg12) _ ?_ ?_
  · refine (Pipeline.Window.rect_emb_val (cfg0.win (12 : Fin 20)) t (ix2 d n) (0 : Fin 2)).trans ?_
    rw [show (cfg0.win (12 : Fin 20)).index t = _ from index_12 t]; exact Nat.zero_add _
  · refine (Pipeline.Window.rect_emb_val (cfg0.win (12 : Fin 20)) t (ix2 d n) (1 : Fin 2)).trans ?_
    rw [show (cfg0.win (12 : Fin 20)).index t = _ from index_12 t]; rfl

theorem iblk_13 (n : Fin 512) (d : Fin 128) : iblk m c 13 t (ix2 n d)
    = at2 (a := 16384) (b := 128) (V m c main_arg13) (posB t.val * 512 + n.val) d.val := by
  refine at2_idx (a := 16384) (b := 128) (V m c main_arg13) _ ?_ ?_
  · refine (Pipeline.Window.rect_emb_val (cfg0.win (13 : Fin 20)) t (ix2 n d) (0 : Fin 2)).trans ?_
    rw [show (cfg0.win (13 : Fin 20)).index t = _ from index_13 t]; rfl
  · refine (Pipeline.Window.rect_emb_val (cfg0.win (13 : Fin 20)) t (ix2 n d) (1 : Fin 2)).trans ?_
    rw [show (cfg0.win (13 : Fin 20)).index t = _ from index_13 t]; exact Nat.zero_add _

theorem iblk_14 (n : Fin 512) (d : Fin 128) : iblk m c 14 t (ix2 n d)
    = at2 (a := 16384) (b := 128) (V m c main_arg14) (posB t.val * 512 + n.val) d.val := by
  refine at2_idx (a := 16384) (b := 128) (V m c main_arg14) _ ?_ ?_
  · refine (Pipeline.Window.rect_emb_val (cfg0.win (14 : Fin 20)) t (ix2 n d) (0 : Fin 2)).trans ?_
    rw [show (cfg0.win (14 : Fin 20)).index t = _ from index_14 t]; rfl
  · refine (Pipeline.Window.rect_emb_val (cfg0.win (14 : Fin 20)) t (ix2 n d) (1 : Fin 2)).trans ?_
    rw [show (cfg0.win (14 : Fin 20)).index t = _ from index_14 t]; exact Nat.zero_add _

/-- A window that stands at its array's origin shows the array's own indices. -/
theorem emb_origin (w : Fin 20) (hk : (cfg0.win w).kind = .blocked) (hi : ∀ a, (cfg0.win w).index t a = 0)
    (y : ((cfg0.win w).xblock (cfg0.grid.coords t)).Idx) (a : Fin (cfg0.win w).shape.rank) :
    (((cfg0.win w).rect t).emb y a).val = (y a).val :=
  (Pipeline.Window.rect_emb_val (cfg0.win w) t y a hk).trans (by rw [hi a, Nat.zero_mul, Nat.zero_add])

/-- The weights and gains are one block. -/
theorem iblk_3 (i : Fin 1) (j : Fin 2048) : iblk m c 3 t (ix2 i j) = V m c main_arg3 (ix2 i j) :=
  congrArg (V m c main_arg3) (funext fun a => Fin.ext (emb_origin t 3 rfl (fun | 0 => rfl | 1 => rfl) (ix2 i j) a))
theorem iblk_4 (i : Fin 1024) (j : Fin 2048) : iblk m c 4 t (ix2 i j) = V m c main_arg4 (ix2 i j) :=
  congrArg (V m c main_arg4) (funext fun a => Fin.ext (emb_origin t 4 rfl (fun | 0 => rfl | 1 => rfl) (ix2 i j) a))
theorem iblk_5 (i : Fin 2048) (j : Fin 256) : iblk m c 5 t (ix2 i j) = V m c main_arg5 (ix2 i j) :=
  congrArg (V m c main_arg5) (funext fun a => Fin.ext (emb_origin t 5 rfl (fun | 0 => rfl | 1 => rfl) (ix2 i j) a))
theorem iblk_6 (i : Fin 256) (j : Fin 2048) : iblk m c 6 t (ix2 i j) = V m c main_arg6 (ix2 i j) :=
  congrArg (V m c main_arg6) (funext fun a => Fin.ext (emb_origin t 6 rfl (fun | 0 => rfl | 1 => rfl) (ix2 i j) a))
theorem iblk_7 (i : Fin 2048) (j : Fin 1024) : iblk m c 7 t (ix2 i j) = V m c main_arg7 (ix2 i j) :=
  congrArg (V m c main_arg7) (funext fun a => Fin.ext (emb_origin t 7 rfl (fun | 0 => rfl | 1 => rfl) (ix2 i j) a))
theorem iblk_8 (i : Fin 2048) (j : Fin 1024) : iblk m c 8 t (ix2 i j) = V m c main_arg8 (ix2 i j) :=
  congrArg (V m c main_arg8) (funext fun a => Fin.ext (emb_origin t 8 rfl (fun | 0 => rfl | 1 => rfl) (ix2 i j) a))
theorem iblk_9 (i : Fin 128) (j : Fin 1) : iblk m c 9 t (ix2 i j) = V m c main_arg9 (ix2 i j) :=
  congrArg (V m c main_arg9) (funext fun a => Fin.ext (emb_origin t 9 rfl (fun | 0 => rfl | 1 => rfl) (ix2 i j) a))
theorem iblk_10 (i : Fin 1) (j : Fin 128) : iblk m c 10 t (ix2 i j) = V m c main_arg10 (ix2 i j) :=
  congrArg (V m c main_arg10) (funext fun a => Fin.ext (emb_origin t 10 rfl (fun | 0 => rfl | 1 => rfl) (ix2 i j) a))

end Cert.ProjectIdeal.Proj

end
-- ==== Proof.Project.Pays.lean ====
module

public import proofs.«01_k».proof.Proof.Project.Base
public import proofs.«01_k».proof.Proof.Gen.ProjectIdeal.Skeleton

@[expose] public section

set_option maxRecDepth 16384

noncomputable section

namespace Cert.ProjectIdeal.Proj

open Cert.ProjectIdeal Cert.ProjectIdeal.Gen
open Idealize.ShloMosaic

/-- An array of extended reals. -/
local notation "Arr" s => Shape.Idx s → EReal

/-- The normalised and modulated rows of a block. -/
theorem rows_at (x : Arr S512x2048) (sh sc : Arr S1x1x2048) (g : Arr S1x2048) (i : grid0.Coords) (a b : Arr S512x2048)
    (hx : Scalar.select (Scalar.cmpi .slt (BitVec.ofNat 32 (i 0).val) 64#32) a b = x) (r : Fin 512) (j : Fin 2048) :
    k0_pay2 (F := Ideal) i a b sh sc g (ix2 r j)
      = x (ix2 r j) * rms (Ideal.ofBits .f32 0x45000000#32) (∑ k : Fin 2048, x (ix2 r k) * x (ix2 r k)) * g (ix2 0 j)
        * (Ideal.ofBits .f32 0x3F800000#32 + sc (ix3 0 0 j)) + sh (ix3 0 0 j) := by
  subst hx
  unfold rms
  pointwise [k0_pay2]

theorem pay3_at (i : grid0.Coords) (a b : Arr S512x2048) (sh sc : Arr S1x1x2048) (g : Arr S1x2048) (w : Arr S1024x2048) (r : Fin 1024) (c : Fin 512) :
    k0_pay3 (F := Ideal) i a b sh sc g w (ix2 r c) = ∑ k : Fin 2048, w (ix2 r k) * k0_pay2 (F := Ideal) i a b sh sc g (ix2 c k) := by
  pointwise [k0_pay3]

theorem pay19_at (h : Arr S512x2048) (w : Arr S256x2048) (r : Fin 256) (c : Fin 512) :
    k0_pay19 (F := Ideal) h w (ix2 r c) = ∑ k : Fin 2048, w (ix2 r k) * h (ix2 c k) := by
  pointwise [k0_pay19]

theorem pay20_at (h : Arr S512x2048) (w : Arr S2048x256) (r : Fin 512) (c : Fin 256) :
    k0_pay20 (F := Ideal) h w (ix2 r c) = ∑ k : Fin 2048, h (ix2 r k) * w (ix2 k c) := by
  pointwise [k0_pay20]

theorem pay23_at (h : Arr S512x2048) (w : Arr S2048x1024) (r : Fin 512) (c : Fin 1024) :
    k0_pay23 (F := Ideal) h w (ix2 r c) = ∑ k : Fin 2048, h (ix2 r k) * w (ix2 k c) := by
  pointwise [k0_pay23]

theorem pay1_at (h : Arr S512x2048) (w : Arr S2048x1024) (r : Fin 512) (c : Fin 1024) :
    k0_pay1 (F := Ideal) h w (ix2 r c) = ∑ k : Fin 2048, h (ix2 r k) * w (ix2 k c) := by
  pointwise [k0_pay1]

end Cert.ProjectIdeal.Proj

end
-- ==== Proof.Project.Heads.lean ====
module

public import proofs.«01_k».proof.Proof.Project.Pays
public import Idealize.ShloMosaic.Lib.Pipeline.Value

@[expose] public section

set_option maxRecDepth 16384

noncomputable section

namespace Cert.ProjectIdeal.Proj

open Cert.ProjectIdeal Cert.ProjectIdeal.Gen
open Idealize.ShloMosaic

/-- An array of extended reals. -/
local notation "Arr" s => Shape.Idx s → EReal

/-! The heads of a block: of the query side with a token per column, of the key side with a token per row. -/

/-- A head normalised. -/
def nrmQ (z : FVec Ideal S128x512 .f32) (g : Vec Ideal S128x1 .f32) : FVec Ideal S128x512 .f32 :=
  mulf (mulf z (broadcastTo S128x512 (rsqrt (addf (divf (shapeCast S1x512 (multiReduction .add [0] S512 (mulf z z) 0x00000000#32
    reduces_S128x512_S512 (.inl rfl) rfl) shapeCasts_S512_S1x512) (broadcast S1x512 (Scalar.ofBits .f32 0x43000000#32)))
    (broadcast S1x512 (Scalar.ofBits .f32 0x358637BD#32)))) broadcasts_S1x512_S128x512)) (broadcastTo S128x512 g broadcasts_S128x1_S128x512)

def nrmK (z : FVec Ideal S512x128 .f32) (g : Vec Ideal S1x128 .f32) : FVec Ideal S512x128 .f32 :=
  mulf (mulf z (broadcastTo S512x128 (rsqrt (addf (divf (shapeCast S512x1 (multiReduction .add [1] S512 (mulf z z) 0x00000000#32
    reduces_S512x128_S512 (.inl rfl) rfl) shapeCasts_S512_S512x1) (broadcast S512x1 (Scalar.ofBits .f32 0x43000000#32)))
    (broadcast S512x1 (Scalar.ofBits .f32 0x358637BD#32)))) broadcasts_S512x1_S512x128)) (broadcastTo S512x128 g broadcasts_S1x128_S512x128)

/-- A head with its halves swapped. -/
def swapQ (q : FVec Ideal S128x512 .f32) : FVec Ideal S128x512 .f32 :=
  concatenate S128x512 0 [⟨S64x512, extractStridedSlice S64x512 ![64, 0] q slices_S128x512_o64_0_S64x512⟩,
    ⟨S64x512, extractStridedSlice S64x512 ![0, 0] q slices_S128x512_o0_0_S64x512⟩] concatenates_S64x512_S64x512_S128x512_d0

def swapK (q : FVec Ideal S512x128 .f32) : FVec Ideal S512x128 .f32 :=
  concatenate S512x128 1 [⟨S512x64, extractStridedSlice S512x64 ![0, 64] q slices_S512x128_o0_64_S512x64⟩,
    ⟨S512x64, extractStridedSlice S512x64 ![0, 0] q slices_S512x128_o0_0_S512x64⟩] concatenates_S512x64_S512x64_S512x128_d1

/-- A head turned. -/
def turnQ (q : FVec Ideal S128x512 .f32) (c s : Vec Ideal S128x512 .f32) : FVec Ideal S128x512 .bf16 :=
  truncf .bf16 (addf (mulf q c) (mulf (swapQ q) s)) bitsLt_bf16_f32

def turnK (q : FVec Ideal S512x128 .f32) (c s : Vec Ideal S512x128 .f32) : FVec Ideal S512x128 .bf16 :=
  truncf .bf16 (addf (mulf q c) (mulf (swapK q) s)) bitsLt_bf16_f32

theorem nrmQ_at (z : Arr S128x512) (g : Arr S128x1) (d : Fin 128) (n : Fin 512) :
    nrmQ z g (ix2 d n) = nrm (fun e => at2 z e n.val) (fun e => at2 g e 0) d.val := by
  have h : nrmQ z g (ix2 d n) = z (ix2 d n) * rms (Ideal.ofBits .f32 0x43000000#32) (∑ k : Fin 128, z (ix2 k n) * z (ix2 k n)) * g (ix2 d 0) := by
    unfold rms
    pointwise [nrmQ]
  rw [h]
  unfold nrm
  simp only [at2_ix]
  rfl

theorem nrmK_at (z : Arr S512x128) (g : Arr S1x128) (n : Fin 512) (d : Fin 128) :
    nrmK z g (ix2 n d) = nrm (at2 z n.val) (at2 g 0) d.val := by
  have h : nrmK z g (ix2 n d) = z (ix2 n d) * rms (Ideal.ofBits .f32 0x43000000#32) (∑ k : Fin 128, z (ix2 n k) * z (ix2 n k)) * g (ix2 0 d) := by
    unfold rms
    pointwise [nrmK]
  rw [h]
  unfold nrm
  simp only [at2_ix]
  rfl

theorem swapQ_at (q : Arr S128x512) (d : Fin 128) (n : Fin 512) : swapQ q (ix2 d n) = q (ix2 ⟨(d.val + 64) % 128, by omega⟩ n) := by
  unfold swapQ
  by_cases h : d.val < 64
  · refine (concatenate_pair_apply_left 0 _ _ concatenates_S64x512_S64x512_S128x512_d0 (ix2 d n) rfl (ix2 ⟨d.val, h⟩ n : S64x512.Idx) ?_).trans ?_
    · intro b; match b with | ⟨0, _⟩ => rfl | ⟨1, _⟩ => rfl
    · pointwise
      exact congrArg q (congrArg (fun e => (ix2 e n : S128x512.Idx)) (Fin.ext (by show _ = (d.val + 64) % 128; simp only []; omega)))
  · refine (concatenate_pair_apply_right 0 _ _ concatenates_S64x512_S64x512_S128x512_d0 (ix2 d n) rfl rfl (ix2 ⟨d.val - 64, by omega⟩ n : S64x512.Idx) ?_ ?_).trans ?_
    · intro b hb; match b with | ⟨0, _⟩ => exact absurd rfl hb | ⟨1, _⟩ => rfl
    · show d.val - 64 + 64 = d.val; omega
    · pointwise
      exact congrArg q (congrArg (fun e => (ix2 e n : S128x512.Idx)) (Fin.ext (by show _ = (d.val + 64) % 128; simp only []; omega)))

theorem swapK_at (q : Arr S512x128) (n : Fin 512) (d : Fin 128) : swapK q (ix2 n d) = q (ix2 n ⟨(d.val + 64) % 128, by omega⟩) := by
  unfold swapK
  by_cases h : d.val < 64
  · refine (concatenate_pair_apply_left 1 _ _ concatenates_S512x64_S512x64_S512x128_d1 (ix2 n d) rfl (ix2 n ⟨d.val, h⟩ : S512x64.Idx) ?_).trans ?_
    · intro b; match b with | ⟨0, _⟩ => rfl | ⟨1, _⟩ => rfl
    · pointwise
      exact congrArg q (congrArg (fun e => (ix2 n e : S512x128.Idx)) (Fin.ext (by show _ = (d.val + 64) % 128; simp only []; omega)))
  · refine (concatenate_pair_apply_right 1 _ _ concatenates_S512x64_S512x64_S512x128_d1 (ix2 n d) rfl rfl (ix2 n ⟨d.val - 64, by omega⟩ : S512x64.Idx) ?_ ?_).trans ?_
    · intro b hb; match b with | ⟨0, _⟩ => rfl | ⟨1, _⟩ => exact absurd rfl hb
    · show d.val - 64 + 64 = d.val; omega
    · pointwise
      exact congrArg q (congrArg (fun e => (ix2 n e : S512x128.Idx)) (Fin.ext (by show _ = (d.val + 64) % 128; simp only []; omega)))

/-- A turned head, at an index. -/
theorem headQ_at (z : Arr S128x512) (g : Arr S128x1) (c s : Arr S128x512) (d : Fin 128) (n : Fin 512) :
    turnQ (nrmQ z g) c s (ix2 d n) = rop (fun e => at2 z e n.val) (fun e => at2 g e 0) (fun e => at2 c e n.val) (fun e => at2 s e n.val) d.val := by
  have h : turnQ (nrmQ z g) c s (ix2 d n) = nrmQ z g (ix2 d n) * c (ix2 d n) + swapQ (nrmQ z g) (ix2 d n) * s (ix2 d n) := rfl
  rw [h, swapQ_at, nrmQ_at, nrmQ_at, at2_ix c, at2_ix s]
  rfl

theorem headK_at (z : Arr S512x128) (g : Arr S1x128) (c s : Arr S512x128) (n : Fin 512) (d : Fin 128) :
    turnK (nrmK z g) c s (ix2 n d) = rop (at2 z n.val) (at2 g 0) (at2 c n.val) (at2 s n.val) d.val := by
  have h : turnK (nrmK z g) c s (ix2 n d) = nrmK z g (ix2 n d) * c (ix2 n d) + swapK (nrmK z g) (ix2 n d) * s (ix2 n d) := rfl
  rw [h, swapK_at, nrmK_at, nrmK_at, at2_ix c, at2_ix s]
  rfl

end Cert.ProjectIdeal.Proj

end
-- ==== Proof.Project.Rows.lean ====
module

public import proofs.«01_k».proof.Proof.Project.Blocks
public import proofs.«01_k».proof.Proof.Project.Heads

@[expose] public section

set_option maxRecDepth 16384

noncomputable section

namespace Cert.ProjectIdeal.Proj

open Cert.ProjectIdeal Cert.ProjectIdeal.Gen
open Idealize.ShloMosaic Idealize.ShloMosaic.TcCoe

/-! The projections of a block of rows. -/

theorem seq_pos {t r : ℕ} (ht : t < 80) (hr : r < 512) : seqOf (t * 512 + r) = seqB t ∧ posOf (t * 512 + r) = posB t * 512 + r := by
  unfold seqOf posOf seqB posB
  by_cases h : t < 64
  · rw [if_pos (by omega : t * 512 + r < 32768), if_pos h, if_pos (by omega : t * 512 + r < 32768), if_pos h]
    exact ⟨by omega, by omega⟩
  · rw [if_neg (by omega : ¬ t * 512 + r < 32768), if_neg h, if_neg (by omega : ¬ t * 512 + r < 32768), if_neg h]
    exact ⟨by omega, by omega⟩

/-- Which of the two arrays of rows a block is taken from. -/
theorem pick : ∀ n : Fin 80, Scalar.cmpi .slt (BitVec.ofNat 32 n.val) 64#32 = if n.val < 64 then 1#1 else 0#1 := by
  decide

/-- The whole of an array of two axes, read. -/
theorem ld_all {a b : ℕ} {e : EltTy} (x : (⟨2, ![a, b]⟩ : Shape).Idx → Elt Ideal e)
    (inb : ∀ i, (![0, 0] : Fin 2 → ℕ) i + (⟨2, ![a, b]⟩ : Shape).size i ≤ (⟨2, ![a, b]⟩ : Shape).size i) :
    View.ld (Val := Elt Ideal) (e' := e) x (Rect.unit (s := ⟨2, ![a, b]⟩) ![0, 0] (⟨2, ![a, b]⟩ : Shape).size inb) = x := by
  funext y
  refine congrArg x (funext fun k => Fin.ext ?_)
  match k with
  | ⟨0, _⟩ => show 0 + 1 * (y 0).val = (y 0).val; omega
  | ⟨1, _⟩ => show 0 + 1 * (y 1).val = (y 1).val; omega

variable (m : (ℓ : Loc nD τ sig) → Buf (Elt Ideal) ℓ) (c : Dev nD) (t : Fin cfg0.N)

/-- The arguments, as arrays of extended reals. -/
abbrev X0 : S32768x2048.Idx → EReal := V m c main_arg0
abbrev X1 : S8192x2048.Idx → EReal := V m c main_arg1
abbrev X2 : S4x8x2048.Idx → EReal := V m c main_arg2
abbrev X3 : S1x2048.Idx → EReal := V m c main_arg3
abbrev X4 : S1024x2048.Idx → EReal := V m c main_arg4
abbrev X5 : S2048x256.Idx → EReal := V m c main_arg5
abbrev X6 : S256x2048.Idx → EReal := V m c main_arg6
abbrev X7 : S2048x1024.Idx → EReal := V m c main_arg7
abbrev X8 : S2048x1024.Idx → EReal := V m c main_arg8
abbrev X9 : S128x1.Idx → EReal := V m c main_arg9
abbrev X10 : S1x128.Idx → EReal := V m c main_arg10
abbrev X11 : S128x16384.Idx → EReal := V m c main_arg11
abbrev X12 : S128x16384.Idx → EReal := V m c main_arg12
abbrev X13 : S16384x128.Idx → EReal := V m c main_arg13
abbrev X14 : S16384x128.Idx → EReal := V m c main_arg14

/-- The normalised and modulated rows of block `t`. -/
def hB : S512x2048.Idx → EReal := k0_pay24 (F := Ideal) (grid0.coords t) (iblk m c 0 t) (iblk m c 1 t) (iblk m c 2 t) (iblk m c 3 t)
  (iblk m c 4 t) (iblk m c 5 t) (iblk m c 6 t) (iblk m c 7 t) (iblk m c 8 t) (iblk m c 9 t) (iblk m c 10 t) (iblk m c 11 t)
  (iblk m c 12 t) (iblk m c 13 t) (iblk m c 14 t)

theorem rows_sel (x : S512x2048.Idx → EReal)
    (hx : Scalar.select (Scalar.cmpi .slt (BitVec.ofNat 32 (grid0.coords t 0).val) 64#32) (iblk m c 0 t : S512x2048.Idx → EReal) (iblk m c 1 t) = x)
    (f : ℕ → ℕ → EReal) (hf : ∀ (r : Fin 512) (j : Fin 2048), x (ix2 r j) = f r.val j.val) (r : Fin 512) (j : Fin 2048) :
    hB m c t (ix2 r j) = hid (f r.val) (at2 (X3 m c) 0) (at3 (X2 m c) (seqB t.val) 1) (at3 (X2 m c) (seqB t.val) 0) j.val := by
  unfold hB k0_pay24
  rw [ld_all (iblk m c 0 t), ld_all (iblk m c 1 t), ld_all (iblk m c 3 t)]
  refine (rows_at x _ _ _ (grid0.coords t) _ _ hx r j).trans ?_
  have e1 : (View.ld (Val := Elt Ideal) (e' := .f32) (iblk m c 2 t) r0_1 : S1x1x2048.Idx → EReal) (ix3 0 0 j) = at3 (X2 m c) (seqB t.val) 0 j.val := by
    refine Eq.trans ?_ (iblk_2 m c t 0 j)
    refine congrArg (iblk m c 2 t) (funext fun k => Fin.ext ?_)
    match k with | ⟨0, _⟩ => rfl | ⟨1, _⟩ => rfl | ⟨2, _⟩ => show 0 + 1 * j.val = j.val; omega
  have e2 : (View.ld (Val := Elt Ideal) (e' := .f32) (iblk m c 2 t) r0_2 : S1x1x2048.Idx → EReal) (ix3 0 0 j) = at3 (X2 m c) (seqB t.val) 1 j.val := by
    refine Eq.trans ?_ (iblk_2 m c t 1 j)
    refine congrArg (iblk m c 2 t) (funext fun k => Fin.ext ?_)
    match k with | ⟨0, _⟩ => rfl | ⟨1, _⟩ => rfl | ⟨2, _⟩ => show 0 + 1 * j.val = j.val; omega
  have e3 : (iblk m c 3 t : S1x2048.Idx → EReal) (ix2 0 j) = at2 (X3 m c) 0 j.val := (iblk_3 m c t 0 j).trans (at2_ix (X3 m c) 0 j)
  rw [e1, e2, e3, hf r j, Finset.sum_congr rfl fun (k : Fin 2048) _ => by rw [hf r k]]
  rfl

theorem hB_at (r : Fin 512) (j : Fin 2048) : hB m c t (ix2 r j) = H (X0 m c) (X1 m c) (X2 m c) (X3 m c) (t.val * 512 + r.val) j.val := by
  have ht : t.val < 80 := t.isLt
  have hp := pick ⟨t.val, ht⟩
  have hc := coords_val t
  unfold H
  rw [(seq_pos ht r.isLt).1]
  by_cases h : t.val < 64
  · refine (rows_sel m c t (iblk m c 0 t) (by rw [hc, hp, if_pos h]; rfl) (fun r j => at2 (X0 m c) (t.val * 512 + r) j) (iblk_0 m c t h) r j).trans ?_
    refine congrArg (fun f => hid f _ _ _ j.val) (funext fun k => ?_)
    unfold join; rw [if_pos (by omega)]
  · refine (rows_sel m c t (iblk m c 1 t) (by rw [hc, hp, if_neg h]; rfl) (fun r j => at2 (X1 m c) ((t.val - 64) * 512 + r) j) (iblk_1 m c t h) r j).trans ?_
    refine congrArg (fun f => hid f _ _ _ j.val) (funext fun k => ?_)
    unfold join; rw [if_neg (by omega), show t.val * 512 + r.val - 32768 = (t.val - 64) * 512 + r.val by omega]

/-- Their products with the weights. -/
theorem hB_mul {n : ℕ} (w : (⟨2, ![2048, n]⟩ : Shape).Idx → EReal) (r : Fin 512) (j : Fin n) :
    (∑ k : Fin 2048, hB m c t (ix2 r k) * w (ix2 k j)) = mulN (X0 m c) (X1 m c) (X2 m c) (X3 m c) w (t.val * 512 + r.val) j.val :=
  Finset.sum_congr rfl fun k _ => by rw [hB_at, at2_ix w]

theorem mul_hB {n : ℕ} (w : (⟨2, ![n, 2048]⟩ : Shape).Idx → EReal) (r : Fin 512) (j : Fin n) :
    (∑ k : Fin 2048, w (ix2 j k) * hB m c t (ix2 r k)) = mulT (X0 m c) (X1 m c) (X2 m c) (X3 m c) w (t.val * 512 + r.val) j.val :=
  Finset.sum_congr rfl fun k _ => by rw [hB_at, at2_ix w, mul_comm]

end Cert.ProjectIdeal.Proj

end
-- ==== Proof.Project.Outs.lean ====
module

public import proofs.«01_k».proof.Proof.Project.Rows

@[expose] public section

set_option maxRecDepth 16384

noncomputable section

namespace Cert.ProjectIdeal.Proj

open Cert.ProjectIdeal Cert.ProjectIdeal.Gen
open Idealize.ShloMosaic Idealize.ShloMosaic.TcCoe

/-! What a point leaves in each of the five output blocks. -/

section Pieces

variable (xa : S32768x2048.Idx → EReal) (xb : S8192x2048.Idx → EReal) (md : S4x8x2048.Idx → EReal) (g1 : S1x2048.Idx → EReal)

/-- A head of the query side, cut from the product. -/
theorem pieceQ (w : S1024x2048.Idx → EReal) (g : S128x1.Idx → EReal) (C S : S128x16384.Idx → EReal) (i : ℕ → ℕ) (p : ℕ)
    (v : S1024x512.Idx → EReal) (c s : S128x512.Idx → EReal)
    (hv : ∀ (r : Fin 1024) (n : Fin 512), v (ix2 r n) = mulT xa xb md g1 w (i n.val) r.val)
    (hp : ∀ n, n < 512 → posOf (i n) = p * 512 + n)
    (hc : ∀ (d : Fin 128) (n : Fin 512), c (ix2 d n) = at2 C d.val (p * 512 + n.val))
    (hs : ∀ (d : Fin 128) (n : Fin 512), s (ix2 d n) = at2 S d.val (p * 512 + n.val))
    (q o : ℕ) (ho : o = q * 128) (hq : q < 8) (h : S1024x512.Slices ![o, 0] S128x512) (d : Fin 128) (n : Fin 512) :
    turnQ (nrmQ (extractStridedSlice S128x512 ![o, 0] v h) g) c s (ix2 d n) = qOut xa xb md g1 w g C S (i n.val) (o + d.val) := by
  rw [headQ_at]
  unfold qOut
  have e1 : (o + d.val) % 128 = d.val := by omega
  have e2 : (o + d.val) / 128 * 128 = o := by omega
  rw [e1, e2, hp n.val n.isLt]
  refine rop_congr d.isLt (fun e he => ?_) (fun e he => rfl) ?_ ?_
  · refine (at2_ix (a := 128) (b := 512) _ ⟨e, he⟩ n).symm.trans ?_
    refine (extractStridedSlice_apply _ v h (ix2 ⟨e, he⟩ n) (ix2 ⟨o + e, by omega⟩ n : S1024x512.Idx) ?_).trans (hv _ n)
    intro a; match a with | ⟨0, _⟩ => rfl | ⟨1, _⟩ => exact (Nat.zero_add _).symm
  · exact (at2_ix c d n).symm.trans (hc d n)
  · exact (at2_ix s d n).symm.trans (hs d n)

/-- A head of the key side, cut from the product. -/
theorem pieceK (w : S2048x256.Idx → EReal) (g : S1x128.Idx → EReal) (C S : S16384x128.Idx → EReal) (i : ℕ → ℕ) (p : ℕ)
    (v : S512x256.Idx → EReal) (c s : S512x128.Idx → EReal)
    (hv : ∀ (n : Fin 512) (r : Fin 256), v (ix2 n r) = mulN xa xb md g1 w (i n.val) r.val)
    (hp : ∀ n, n < 512 → posOf (i n) = p * 512 + n)
    (hc : ∀ (n : Fin 512) (d : Fin 128), c (ix2 n d) = at2 C (p * 512 + n.val) d.val)
    (hs : ∀ (n : Fin 512) (d : Fin 128), s (ix2 n d) = at2 S (p * 512 + n.val) d.val)
    (q o : ℕ) (ho : o = q * 128) (hq : q < 2) (h : S512x256.Slices ![0, o] S512x128) (n : Fin 512) (d : Fin 128) :
    turnK (nrmK (extractStridedSlice S512x128 ![0, o] v h) g) c s (ix2 n d) = kOut xa xb md g1 w g C S (i n.val) (o + d.val) := by
  rw [headK_at]
  unfold kOut
  have e1 : (o + d.val) % 128 = d.val := by omega
  have e2 : (o + d.val) / 128 * 128 = o := by omega
  rw [e1, e2, hp n.val n.isLt]
  refine rop_congr d.isLt (fun e he => ?_) (fun e he => rfl) ?_ ?_
  · refine (at2_ix (a := 512) (b := 128) _ n ⟨e, he⟩).symm.trans ?_
    refine (extractStridedSlice_apply _ v h (ix2 n ⟨e, he⟩) (ix2 n ⟨o + e, by omega⟩ : S512x256.Idx) ?_).trans (hv n _)
    intro a; match a with | ⟨0, _⟩ => exact (Nat.zero_add _).symm | ⟨1, _⟩ => rfl
  · exact (at2_ix c n d).symm.trans (hc n d)
  · exact (at2_ix s n d).symm.trans (hs n d)

end Pieces

variable (m : (ℓ : Loc nD τ sig) → Buf (Elt Ideal) ℓ) (c : Dev nD) (t : Fin cfg0.N)

theorem blk_4 : iblk m c 4 t = X4 m c := funext fun (y : S1024x2048.Idx) => by rw [eq_ix2 y]; exact iblk_4 m c t (y 0) (y 1)
theorem blk_5 : iblk m c 5 t = X5 m c := funext fun (y : S2048x256.Idx) => by rw [eq_ix2 y]; exact iblk_5 m c t (y 0) (y 1)
theorem blk_6 : iblk m c 6 t = X6 m c := funext fun (y : S256x2048.Idx) => by rw [eq_ix2 y]; exact iblk_6 m c t (y 0) (y 1)
theorem blk_7 : iblk m c 7 t = X7 m c := funext fun (y : S2048x1024.Idx) => by rw [eq_ix2 y]; exact iblk_7 m c t (y 0) (y 1)
theorem blk_8 : iblk m c 8 t = X8 m c := funext fun (y : S2048x1024.Idx) => by rw [eq_ix2 y]; exact iblk_8 m c t (y 0) (y 1)
theorem blk_9 : iblk m c 9 t = X9 m c := funext fun (y : S128x1.Idx) => by rw [eq_ix2 y]; exact iblk_9 m c t (y 0) (y 1)
theorem blk_10 : iblk m c 10 t = X10 m c := funext fun (y : S1x128.Idx) => by rw [eq_ix2 y]; exact iblk_10 m c t (y 0) (y 1)

/-- The values, by columns. -/
theorem out_17 (j : Fin 256) (n : Fin 512) : out0_17 (F := Ideal) (grid0.coords t) (iblk m c 0 t) (iblk m c 1 t) (iblk m c 2 t) (iblk m c 3 t)
    (iblk m c 4 t) (iblk m c 5 t) (iblk m c 6 t) (iblk m c 7 t) (iblk m c 8 t) (iblk m c 9 t) (iblk m c 10 t) (iblk m c 11 t)
    (iblk m c 12 t) (iblk m c 13 t) (iblk m c 14 t) (ix2 j n)
      = mulT (X0 m c) (X1 m c) (X2 m c) (X3 m c) (X6 m c) (t.val * 512 + n.val) j.val := by
  unfold out0_17
  rw [ld_all (iblk m c 6 t)]
  refine (View.canon_apply_of_pieces (Val := Elt Ideal) (e := .bf16) (fun y : S256x512.Idx => mulT (X0 m c) (X1 m c) (X2 m c) (X3 m c) (X6 m c)
    (t.val * 512 + (y 1).val) (y 0).val) _ ?_ (ix2 j n) (cover0_17 _ _)).trans rfl
  intro p hp y
  simp only [List.mem_cons, List.not_mem_nil, or_false] at hp
  subst hp
  obtain ⟨y0, y1, rfl⟩ : ∃ (a : Fin 256) (b : Fin 512), y = ix2 a b := ⟨y 0, y 1, eq_ix2 y⟩
  rw [blk_6]
  refine (pay19_at (hB m c t) (X6 m c) y0 y1).trans ((mul_hB m c t (X6 m c) y1 y0).trans ?_)
  show mulT _ _ _ _ _ _ _ = mulT _ _ _ _ _ (t.val * 512 + (0 + 1 * y1.val)) (0 + 1 * y0.val)
  rw [Nat.zero_add, Nat.zero_add, Nat.one_mul, Nat.one_mul]

/-- The up and gate projections. -/
theorem out_18 (n : Fin 512) (j : Fin 1024) : out0_18 (F := Ideal) (grid0.coords t) (iblk m c 0 t) (iblk m c 1 t) (iblk m c 2 t) (iblk m c 3 t)
    (iblk m c 4 t) (iblk m c 5 t) (iblk m c 6 t) (iblk m c 7 t) (iblk m c 8 t) (iblk m c 9 t) (iblk m c 10 t) (iblk m c 11 t)
    (iblk m c 12 t) (iblk m c 13 t) (iblk m c 14 t) (ix2 n j)
      = mulN (X0 m c) (X1 m c) (X2 m c) (X3 m c) (X7 m c) (t.val * 512 + n.val) j.val := by
  unfold out0_18
  rw [ld_all (iblk m c 7 t)]
  refine (View.canon_apply_of_pieces (Val := Elt Ideal) (e := .bf16) (fun y : S512x1024.Idx => mulN (X0 m c) (X1 m c) (X2 m c) (X3 m c) (X7 m c)
    (t.val * 512 + (y 0).val) (y 1).val) _ ?_ (ix2 n j) (cover0_18 _ _)).trans rfl
  intro p hp y
  simp only [List.mem_cons, List.not_mem_nil, or_false] at hp
  subst hp
  obtain ⟨y0, y1, rfl⟩ : ∃ (a : Fin 512) (b : Fin 1024), y = ix2 a b := ⟨y 0, y 1, eq_ix2 y⟩
  rw [blk_7]
  refine (pay23_at (hB m c t) (X7 m c) y0 y1).trans ((hB_mul m c t (X7 m c) y0 y1).trans ?_)
  show mulN _ _ _ _ _ _ _ = mulN _ _ _ _ _ (t.val * 512 + (0 + 1 * y0.val)) (0 + 1 * y1.val)
  rw [Nat.zero_add, Nat.zero_add, Nat.one_mul, Nat.one_mul]

theorem out_19 (n : Fin 512) (j : Fin 1024) : out0_19 (F := Ideal) (grid0.coords t) (iblk m c 0 t) (iblk m c 1 t) (iblk m c 2 t) (iblk m c 3 t)
    (iblk m c 4 t) (iblk m c 5 t) (iblk m c 6 t) (iblk m c 7 t) (iblk m c 8 t) (iblk m c 9 t) (iblk m c 10 t) (iblk m c 11 t)
    (iblk m c 12 t) (iblk m c 13 t) (iblk m c 14 t) (ix2 n j)
      = mulN (X0 m c) (X1 m c) (X2 m c) (X3 m c) (X8 m c) (t.val * 512 + n.val) j.val := by
  unfold out0_19
  rw [ld_all (iblk m c 8 t)]
  refine (View.canon_apply_of_pieces (Val := Elt Ideal) (e := .bf16) (fun y : S512x1024.Idx => mulN (X0 m c) (X1 m c) (X2 m c) (X3 m c) (X8 m c)
    (t.val * 512 + (y 0).val) (y 1).val) _ ?_ (ix2 n j) (cover0_19 _ _)).trans rfl
  intro p hp y
  simp only [List.mem_cons, List.not_mem_nil, or_false] at hp
  subst hp
  obtain ⟨y0, y1, rfl⟩ : ∃ (a : Fin 512) (b : Fin 1024), y = ix2 a b := ⟨y 0, y 1, eq_ix2 y⟩
  rw [blk_8]
  refine (pay1_at (hB m c t) (X8 m c) y0 y1).trans ((hB_mul m c t (X8 m c) y0 y1).trans ?_)
  show mulN _ _ _ _ _ _ _ = mulN _ _ _ _ _ (t.val * 512 + (0 + 1 * y0.val)) (0 + 1 * y1.val)
  rw [Nat.zero_add, Nat.zero_add, Nat.one_mul, Nat.one_mul]

/-- The keys. -/
theorem out_16 (n : Fin 512) (j : Fin 256) : out0_16 (F := Ideal) (grid0.coords t) (iblk m c 0 t) (iblk m c 1 t) (iblk m c 2 t) (iblk m c 3 t)
    (iblk m c 4 t) (iblk m c 5 t) (iblk m c 6 t) (iblk m c 7 t) (iblk m c 8 t) (iblk m c 9 t) (iblk m c 10 t) (iblk m c 11 t)
    (iblk m c 12 t) (iblk m c 13 t) (iblk m c 14 t) (ix2 n j)
      = kOut (X0 m c) (X1 m c) (X2 m c) (X3 m c) (X5 m c) (X10 m c) (X13 m c) (X14 m c) (t.val * 512 + n.val) j.val := by
  have hp : ∀ n, n < 512 → posOf (t.val * 512 + n) = posB t.val * 512 + n := fun n hn => (seq_pos t.isLt hn).2
  have hv : ∀ (n : Fin 512) (r : Fin 256), k0_pay20 (F := Ideal) (hB m c t) (X5 m c) (ix2 n r)
      = mulN (X0 m c) (X1 m c) (X2 m c) (X3 m c) (X5 m c) (t.val * 512 + n.val) r.val := fun n r =>
    (pay20_at (hB m c t) (X5 m c) n r).trans (hB_mul m c t (X5 m c) n r)
  unfold out0_16 k0_pay26
  rw [ld_all (iblk m c 5 t), ld_all (iblk m c 13 t), ld_all (iblk m c 14 t), ld_all (iblk m c 10 t), blk_5, blk_10]
  refine (View.canon_apply_of_pieces (Val := Elt Ideal) (e := .bf16) (fun y : S512x256.Idx => kOut (X0 m c) (X1 m c) (X2 m c) (X3 m c) (X5 m c)
    (X10 m c) (X13 m c) (X14 m c) (t.val * 512 + (y 0).val) (y 1).val) _ ?_ (ix2 n j) (cover0_16 _ _ _)).trans rfl
  intro p h y
  simp only [List.mem_cons, List.not_mem_nil, or_false] at h
  rcases h with rfl | rfl
  all_goals
    obtain ⟨y0, y1, rfl⟩ : ∃ (a : Fin 512) (b : Fin 128), y = ix2 a b := ⟨y 0, y 1, eq_ix2 y⟩
  · refine (pieceK _ _ _ _ (X5 m c) (X10 m c) (X13 m c) (X14 m c) (fun n => t.val * 512 + n) (posB t.val)
      (k0_pay20 (F := Ideal) (hB m c t) (X5 m c)) (iblk m c 13 t) (iblk m c 14 t) hv hp (iblk_13 m c t) (iblk_14 m c t) 1 128 rfl (by decide)
      slices_S512x256_o0_128_S512x128 y0 y1).trans ?_
    show kOut _ _ _ _ _ _ _ _ _ _ = kOut _ _ _ _ _ _ _ _ (t.val * 512 + (0 + 1 * y0.val)) (128 + 1 * y1.val)
    simp only [Nat.zero_add, Nat.one_mul]
  · refine (pieceK _ _ _ _ (X5 m c) (X10 m c) (X13 m c) (X14 m c) (fun n => t.val * 512 + n) (posB t.val)
      (k0_pay20 (F := Ideal) (hB m c t) (X5 m c)) (iblk m c 13 t) (iblk m c 14 t) hv hp (iblk_13 m c t) (iblk_14 m c t) 0 0 rfl (by decide)
      slices_S512x256_o0_0_S512x128 y0 y1).trans ?_
    show kOut _ _ _ _ _ _ _ _ _ _ = kOut _ _ _ _ _ _ _ _ (t.val * 512 + (0 + 1 * y0.val)) (0 + 1 * y1.val)
    simp only [Nat.zero_add, Nat.one_mul]

/-- The queries, by columns. -/
theorem out_15 (j : Fin 1024) (n : Fin 512) : out0_15 (F := Ideal) (grid0.coords t) (iblk m c 0 t) (iblk m c 1 t) (iblk m c 2 t) (iblk m c 3 t)
    (iblk m c 4 t) (iblk m c 5 t) (iblk m c 6 t) (iblk m c 7 t) (iblk m c 8 t) (iblk m c 9 t) (iblk m c 10 t) (iblk m c 11 t)
    (iblk m c 12 t) (iblk m c 13 t) (iblk m c 14 t) (ix2 j n)
      = qOut (X0 m c) (X1 m c) (X2 m c) (X3 m c) (X4 m c) (X9 m c) (X11 m c) (X12 m c) (t.val * 512 + n.val) j.val := by
  have hp : ∀ n, n < 512 → posOf (t.val * 512 + n) = posB t.val * 512 + n := fun n hn => (seq_pos t.isLt hn).2
  unfold out0_15
  obtain ⟨v, e⟩ : ∃ v : S1024x512.Idx → EReal, v = k0_pay25 (F := Ideal) (grid0.coords t) (iblk m c 0 t) (iblk m c 1 t) (iblk m c 2 t)
    (iblk m c 3 t) (iblk m c 4 t) (iblk m c 5 t) (iblk m c 6 t) (iblk m c 7 t) (iblk m c 8 t) (iblk m c 9 t) (iblk m c 10 t) (iblk m c 11 t)
    (iblk m c 12 t) (iblk m c 13 t) (iblk m c 14 t) := ⟨_, rfl⟩
  have hv : ∀ (r : Fin 1024) (n : Fin 512), v (ix2 r n)
      = mulT (X0 m c) (X1 m c) (X2 m c) (X3 m c) (X4 m c) (t.val * 512 + n.val) r.val := by
    intro r n
    rw [e]
    unfold k0_pay25
    rw [ld_all (iblk m c 4 t), blk_4]
    exact (pay3_at _ _ _ _ _ _ (X4 m c) r n).trans (mul_hB m c t (X4 m c) n r)
  rw [ld_all (iblk m c 9 t), ld_all (iblk m c 11 t), ld_all (iblk m c 12 t), ← e, blk_9]
  have key : ∀ (q o : ℕ) (ho : o = q * 128) (hq : q < 8) (h : S1024x512.Slices ![o, 0] S128x512)
      (inb : ∀ i, (![o, 0] : Fin 2 → ℕ) i + S128x512.size i ≤ S1024x512.size i) (y : S128x512.Idx),
      turnQ (nrmQ (extractStridedSlice S128x512 ![o, 0] v h) (X9 m c)) (iblk m c 11 t) (iblk m c 12 t) y
        = (fun z : S1024x512.Idx => qOut (X0 m c) (X1 m c) (X2 m c) (X3 m c) (X4 m c) (X9 m c) (X11 m c) (X12 m c) (t.val * 512 + (z 1).val) (z 0).val)
          ((Rect.unit (s := S1024x512) ![o, 0] S128x512.size inb).emb y) := by
    intro q o ho hq h inb y
    obtain ⟨y0, y1, rfl⟩ : ∃ (a : Fin 128) (b : Fin 512), y = ix2 a b := ⟨y 0, y 1, eq_ix2 y⟩
    refine (pieceQ _ _ _ _ (X4 m c) (X9 m c) (X11 m c) (X12 m c) (fun n => t.val * 512 + n) (posB t.val) v (iblk m c 11 t) (iblk m c 12 t)
      hv hp (iblk_11 m c t) (iblk_12 m c t) q o ho hq h y0 y1).trans ?_
    show qOut _ _ _ _ _ _ _ _ _ _ = qOut _ _ _ _ _ _ _ _ (t.val * 512 + (0 + 1 * y1.val)) (o + 1 * y0.val)
    simp only [Nat.zero_add, Nat.one_mul]
  refine (View.canon_apply_of_pieces (Val := Elt Ideal) (e := .bf16) (fun y : S1024x512.Idx => qOut (X0 m c) (X1 m c) (X2 m c) (X3 m c) (X4 m c)
    (X9 m c) (X11 m c) (X12 m c) (t.val * 512 + (y 1).val) (y 0).val) _ ?_ (ix2 j n) (cover0_15 _ _ _ _ _ _ _ _ _)).trans rfl
  intro p h y
  simp only [List.mem_cons, List.not_mem_nil, or_false] at h
  rcases h with rfl | rfl | rfl | rfl | rfl | rfl | rfl | rfl
  · exact key 7 896 rfl (by decide) slices_S1024x512_o896_0_S128x512 inb_S1024x512_S128x512_896_0 y
  · exact key 6 768 rfl (by decide) slices_S1024x512_o768_0_S128x512 inb_S1024x512_S128x512_768_0 y
  · exact key 5 640 rfl (by decide) slices_S1024x512_o640_0_S128x512 inb_S1024x512_S128x512_640_0 y
  · exact key 4 512 rfl (by decide) slices_S1024x512_o512_0_S128x512 inb_S1024x512_S128x512_512_0 y
  · exact key 3 384 rfl (by decide) slices_S1024x512_o384_0_S128x512 inb_S1024x512_S128x512_384_0 y
  · exact key 2 256 rfl (by decide) slices_S1024x512_o256_0_S128x512 inb_S1024x512_S128x512_256_0 y
  · exact key 1 128 rfl (by decide) slices_S1024x512_o128_0_S128x512 inb_S1024x512_S128x512_128_0 y
  · exact key 0 0 rfl (by decide) slices_S1024x512_o0_0_S128x512 inb_S1024x512_S128x512_0_0 y

end Cert.ProjectIdeal.Proj

end
-- ==== Proof.Project.Arrays.lean ====
module

public import proofs.«01_k».proof.Proof.Project.Outs
public import Idealize.ShloMosaic.Lib.Pipeline.ValueKit.Geometry

@[expose] public section

set_option maxRecDepth 16384

noncomputable section

namespace Cert.ProjectIdeal.Proj

open Cert.ProjectIdeal Cert.ProjectIdeal.Gen Cert.ProjectIdeal.Value
open Idealize.ShloMosaic Idealize.ShloMosaic.TcCoe

/-! The five results after the run. -/

variable (m : (ℓ : Loc nD τ sig) → Buf (Elt Ideal) ℓ) (c : Dev nD)

/-- The queries, by columns. -/
def G15 : S1024x40960.Idx → EReal := fun y => qOut (X0 m c) (X1 m c) (X2 m c) (X3 m c) (X4 m c) (X9 m c) (X11 m c) (X12 m c) (y 1).val (y 0).val

theorem emb_15 (t : Fin cfg0.N) (j : Fin 1024) (n : Fin 512) :
    (((cfg0.win (15 : Fin 20)).rect t).emb (ix2 j n) (0 : Fin 2)).val = j.val
    ∧ (((cfg0.win (15 : Fin 20)).rect t).emb (ix2 j n) (1 : Fin 2)).val = t.val * 512 + n.val := by
  constructor
  · refine (Pipeline.Window.rect_emb_val (cfg0.win (15 : Fin 20)) t (ix2 j n) (0 : Fin 2)).trans ?_
    rw [show (cfg0.win (15 : Fin 20)).index t = _ from index_15 t]; exact Nat.zero_add _
  · refine (Pipeline.Window.rect_emb_val (cfg0.win (15 : Fin 20)) t (ix2 j n) (1 : Fin 2)).trans ?_
    rw [show (cfg0.win (15 : Fin 20)).index t = _ from index_15 t]; rfl

theorem final_15 : (dats m 0 c).arrAt (15 : Fin 20) cfg0.N = G15 m c := by
  refine (dats m 0 c).arrAt_eq_of_cover (15 : Fin 20) (G15 m c) (fun t _ => ?_)
    (Pipeline.Window.Covers.cover _ (by decide +kernel : (cfg0.win (15 : Fin 20)).Covers) (Memref.isWhole_whole _))
  refine (flushed15 m c t).trans ?_
  funext y
  obtain ⟨j, n, rfl⟩ : ∃ (a : Fin 1024) (b : Fin 512), y = ix2 a b := ⟨y 0, y 1, eq_ix2 y⟩
  refine (out_15 m c t j n).trans ?_
  show _ = qOut (X0 m c) (X1 m c) (X2 m c) (X3 m c) (X4 m c) (X9 m c) (X11 m c) (X12 m c) (((cfg0.win (15 : Fin 20)).rect t).emb (ix2 j n) (1 : Fin 2)).val (((cfg0.win (15 : Fin 20)).rect t).emb (ix2 j n) (0 : Fin 2)).val
  rw [(emb_15 t j n).1, (emb_15 t j n).2]

/-- The keys. -/
def G16 : S40960x256.Idx → EReal := fun y => kOut (X0 m c) (X1 m c) (X2 m c) (X3 m c) (X5 m c) (X10 m c) (X13 m c) (X14 m c) (y 0).val (y 1).val

theorem emb_16 (t : Fin cfg0.N) (j : Fin 512) (n : Fin 256) :
    (((cfg0.win (16 : Fin 20)).rect t).emb (ix2 j n) (0 : Fin 2)).val = t.val * 512 + j.val
    ∧ (((cfg0.win (16 : Fin 20)).rect t).emb (ix2 j n) (1 : Fin 2)).val = n.val := by
  constructor
  · refine (Pipeline.Window.rect_emb_val (cfg0.win (16 : Fin 20)) t (ix2 j n) (0 : Fin 2)).trans ?_
    rw [show (cfg0.win (16 : Fin 20)).index t = _ from index_16 t]; rfl
  · refine (Pipeline.Window.rect_emb_val (cfg0.win (16 : Fin 20)) t (ix2 j n) (1 : Fin 2)).trans ?_
    rw [show (cfg0.win (16 : Fin 20)).index t = _ from index_16 t]; exact Nat.zero_add _

theorem final_16 : (dats m 0 c).arrAt (16 : Fin 20) cfg0.N = G16 m c := by
  refine (dats m 0 c).arrAt_eq_of_cover (16 : Fin 20) (G16 m c) (fun t _ => ?_)
    (Pipeline.Window.Covers.cover _ (by decide +kernel : (cfg0.win (16 : Fin 20)).Covers) (Memref.isWhole_whole _))
  refine (flushed16 m c t).trans ?_
  funext y
  obtain ⟨j, n, rfl⟩ : ∃ (a : Fin 512) (b : Fin 256), y = ix2 a b := ⟨y 0, y 1, eq_ix2 y⟩
  refine (out_16 m c t j n).trans ?_
  show _ = kOut (X0 m c) (X1 m c) (X2 m c) (X3 m c) (X5 m c) (X10 m c) (X13 m c) (X14 m c) (((cfg0.win (16 : Fin 20)).rect t).emb (ix2 j n) (0 : Fin 2)).val (((cfg0.win (16 : Fin 20)).rect t).emb (ix2 j n) (1 : Fin 2)).val
  rw [(emb_16 t j n).1, (emb_16 t j n).2]

/-- The values, by columns. -/
def G17 : S256x40960.Idx → EReal := fun y => mulT (X0 m c) (X1 m c) (X2 m c) (X3 m c) (X6 m c) (y 1).val (y 0).val

theorem emb_17 (t : Fin cfg0.N) (j : Fin 256) (n : Fin 512) :
    (((cfg0.win (17 : Fin 20)).rect t).emb (ix2 j n) (0 : Fin 2)).val = j.val
    ∧ (((cfg0.win (17 : Fin 20)).rect t).emb (ix2 j n) (1 : Fin 2)).val = t.val * 512 + n.val := by
  constructor
  · refine (Pipeline.Window.rect_emb_val (cfg0.win (17 : Fin 20)) t (ix2 j n) (0 : Fin 2)).trans ?_
    rw [show (cfg0.win (17 : Fin 20)).index t = _ from index_17 t]; exact Nat.zero_add _
  · refine (Pipeline.Window.rect_emb_val (cfg0.win (17 : Fin 20)) t (ix2 j n) (1 : Fin 2)).trans ?_
    rw [show (cfg0.win (17 : Fin 20)).index t = _ from index_17 t]; rfl

theorem final_17 : (dats m 0 c).arrAt (17 : Fin 20) cfg0.N = G17 m c := by
  refine (dats m 0 c).arrAt_eq_of_cover (17 : Fin 20) (G17 m c) (fun t _ => ?_)
    (Pipeline.Window.Covers.cover _ (by decide +kernel : (cfg0.win (17 : Fin 20)).Covers) (Memref.isWhole_whole _))
  refine (flushed17 m c t).trans ?_
  funext y
  obtain ⟨j, n, rfl⟩ : ∃ (a : Fin 256) (b : Fin 512), y = ix2 a b := ⟨y 0, y 1, eq_ix2 y⟩
  refine (out_17 m c t j n).trans ?_
  show _ = mulT (X0 m c) (X1 m c) (X2 m c) (X3 m c) (X6 m c) (((cfg0.win (17 : Fin 20)).rect t).emb (ix2 j n) (1 : Fin 2)).val (((cfg0.win (17 : Fin 20)).rect t).emb (ix2 j n) (0 : Fin 2)).val
  rw [(emb_17 t j n).1, (emb_17 t j n).2]

/-- The up projection. -/
def G18 : S40960x1024.Idx → EReal := fun y => mulN (X0 m c) (X1 m c) (X2 m c) (X3 m c) (X7 m c) (y 0).val (y 1).val

theorem emb_18 (t : Fin cfg0.N) (j : Fin 512) (n : Fin 1024) :
    (((cfg0.win (18 : Fin 20)).rect t).emb (ix2 j n) (0 : Fin 2)).val = t.val * 512 + j.val
    ∧ (((cfg0.win (18 : Fin 20)).rect t).emb (ix2 j n) (1 : Fin 2)).val = n.val := by
  constructor
  · refine (Pipeline.Window.rect_emb_val (cfg0.win (18 : Fin 20)) t (ix2 j n) (0 : Fin 2)).trans ?_
    rw [show (cfg0.win (18 : Fin 20)).index t = _ from index_18 t]; rfl
  · refine (Pipeline.Window.rect_emb_val (cfg0.win (18 : Fin 20)) t (ix2 j n) (1 : Fin 2)).trans ?_
    rw [show (cfg0.win (18 : Fin 20)).index t = _ from index_18 t]; exact Nat.zero_add _

theorem final_18 : (dats m 0 c).arrAt (18 : Fin 20) cfg0.N = G18 m c := by
  refine (dats m 0 c).arrAt_eq_of_cover (18 : Fin 20) (G18 m c) (fun t _ => ?_)
    (Pipeline.Window.Covers.cover _ (by decide +kernel : (cfg0.win (18 : Fin 20)).Covers) (Memref.isWhole_whole _))
  refine (flushed18 m c t).trans ?_
  funext y
  obtain ⟨j, n, rfl⟩ : ∃ (a : Fin 512) (b : Fin 1024), y = ix2 a b := ⟨y 0, y 1, eq_ix2 y⟩
  refine (out_18 m c t j n).trans ?_
  show _ = mulN (X0 m c) (X1 m c) (X2 m c) (X3 m c) (X7 m c) (((cfg0.win (18 : Fin 20)).rect t).emb (ix2 j n) (0 : Fin 2)).val (((cfg0.win (18 : Fin 20)).rect t).emb (ix2 j n) (1 : Fin 2)).val
  rw [(emb_18 t j n).1, (emb_18 t j n).2]

/-- The gate projection. -/
def G19 : S40960x1024.Idx → EReal := fun y => mulN (X0 m c) (X1 m c) (X2 m c) (X3 m c) (X8 m c) (y 0).val (y 1).val

theorem emb_19 (t : Fin cfg0.N) (j : Fin 512) (n : Fin 1024) :
    (((cfg0.win (19 : Fin 20)).rect t).emb (ix2 j n) (0 : Fin 2)).val = t.val * 512 + j.val
    ∧ (((cfg0.win (19 : Fin 20)).rect t).emb (ix2 j n) (1 : Fin 2)).val = n.val := by
  constructor
  · refine (Pipeline.Window.rect_emb_val (cfg0.win (19 : Fin 20)) t (ix2 j n) (0 : Fin 2)).trans ?_
    rw [show (cfg0.win (19 : Fin 20)).index t = _ from index_19 t]; rfl
  · refine (Pipeline.Window.rect_emb_val (cfg0.win (19 : Fin 20)) t (ix2 j n) (1 : Fin 2)).trans ?_
    rw [show (cfg0.win (19 : Fin 20)).index t = _ from index_19 t]; exact Nat.zero_add _

theorem final_19 : (dats m 0 c).arrAt (19 : Fin 20) cfg0.N = G19 m c := by
  refine (dats m 0 c).arrAt_eq_of_cover (19 : Fin 20) (G19 m c) (fun t _ => ?_)
    (Pipeline.Window.Covers.cover _ (by decide +kernel : (cfg0.win (19 : Fin 20)).Covers) (Memref.isWhole_whole _))
  refine (flushed19 m c t).trans ?_
  funext y
  obtain ⟨j, n, rfl⟩ : ∃ (a : Fin 512) (b : Fin 1024), y = ix2 a b := ⟨y 0, y 1, eq_ix2 y⟩
  refine (out_19 m c t j n).trans ?_
  show _ = mulN (X0 m c) (X1 m c) (X2 m c) (X3 m c) (X8 m c) (((cfg0.win (19 : Fin 20)).rect t).emb (ix2 j n) (0 : Fin 2)).val (((cfg0.win (19 : Fin 20)).rect t).emb (ix2 j n) (1 : Fin 2)).val
  rw [(emb_19 t j n).1, (emb_19 t j n).2]

end Cert.ProjectIdeal.Proj

end
-- ==== Proof.Project.RefRows.lean ====
module

public import proofs.«01_k».proof.Proof.Project.Base
public import proofs.«01_k».proof.Proof.Gen.ProjectReferenceIdeal.Read

@[expose] public section

set_option maxRecDepth 16384

noncomputable section

namespace Cert.ProjectIdeal.Proj

open Idealize.ShloMosaic
open Cert.ProjectReferenceIdeal Cert.ProjectReferenceIdeal.Gen Cert.ProjectReferenceIdeal.Read

/-! The reference's rows: joined, normalised, modulated, and multiplied by the weights. -/

/-- Two arrays of one function's rows, laid one after the other, are that function's rows. -/
theorem rows_joined {w : ℕ} (a : (⟨2, ![32768, w]⟩ : Shape).Idx → EReal) (b : (⟨2, ![8192, w]⟩ : Shape).Idx → EReal) (f : ℕ → ℕ → EReal)
    (h : Shape.Concatenates [(⟨2, ![32768, w]⟩ : Shape), (⟨2, ![8192, w]⟩ : Shape)] (⟨2, ![40960, w]⟩ : Shape) 0)
    (ha : ∀ i, a i = f (i 0).val (i 1).val) (hb : ∀ i, b i = f (32768 + (i 0).val) (i 1).val) (y : (⟨2, ![40960, w]⟩ : Shape).Idx) :
    concatenate (⟨2, ![40960, w]⟩ : Shape) 0 [⟨(⟨2, ![32768, w]⟩ : Shape), a⟩, ⟨(⟨2, ![8192, w]⟩ : Shape), b⟩] h y
      = f (y 0).val (y 1).val := by
  have h0 : (y 0).val < 40960 := (y 0).isLt
  by_cases hl : (y 0).val < 32768
  · let i : (⟨2, ![32768, w]⟩ : Shape).Idx := ix2 ⟨(y 0).val, hl⟩ (y 1)
    exact (concatenate_pair_apply_left 0 a b h y rfl i (fun | 0 => rfl | 1 => rfl)).trans (ha i)
  · let i : (⟨2, ![8192, w]⟩ : Shape).Idx := ix2 ⟨(y 0).val - 32768, by omega⟩ (y 1)
    have e : (y 0).val - 32768 + 32768 = (y 0).val := by omega
    refine (concatenate_pair_apply_right 0 a b h y rfl rfl i (fun | 0 => fun h => absurd rfl h | 1 => fun _ => rfl) e).trans ((hb i).trans ?_)
    exact congrArg (fun n => f n (y 1).val) ((Nat.add_comm _ _).trans e)

variable (x0 : S32768x2048.Idx → EReal) (x1 : S8192x2048.Idx → EReal) (x2 : S4x8x2048.Idx → EReal) (x3 : S1x2048.Idx → EReal)

theorem v0_at (y : S40960x2048.Idx) : val_main_v0 (F := Ideal) x0 x1 y = join 32768 x0 x1 (y 0).val (y 1).val := by
  unfold val_main_v0
  refine rows_joined x0 x1 (join 32768 x0 x1) _ (fun i => ?_) (fun i => ?_) y
  · unfold join
    rw [if_pos (show (i 0).val < 32768 from (i 0).isLt)]
    exact at2_idx x0 i rfl rfl
  · unfold join
    rw [if_neg (by omega), Nat.add_sub_cancel_left]
    exact at2_idx x1 i rfl rfl

theorem seqOf_first {i : ℕ} (h : i < 32768) : seqOf i = i / 16384 := if_pos h
theorem seqOf_second {i : ℕ} : seqOf (32768 + i) = 2 + i / 4096 := by
  unfold seqOf; rw [if_neg (by omega), Nat.add_sub_cancel_left]
theorem posOf_first {i : ℕ} (h : i < 32768) : posOf i = i % 16384 := if_pos h
theorem posOf_second {i : ℕ} : posOf (32768 + i) = i % 4096 := by
  unfold posOf; rw [if_neg (by omega), Nat.add_sub_cancel_left]

/-- The scale of each row's sequence. -/
theorem v23_at (y : S40960x2048.Idx) : val_main_v23 (F := Ideal) x2 y = at3 x2 (seqOf (y 0).val) 1 (y 1).val := by
  unfold val_main_v23
  refine rows_joined _ _ (fun i j => at3 x2 (seqOf i) 1 j) _ (fun i => ?_) (fun i => ?_) y
  all_goals
    have h1 : (i 1).val < 2048 := (i 1).isLt
  · have h0 : (i 0).val < 32768 := (i 0).isLt
    rw [val_main_v18_apply, val_main_v17_apply, val_main_v16_apply, val_main_v15_apply, val_main_v14_apply, val_main_v13_apply]
    refine (at3_idx x2 _ ?_ rfl ?_).trans (congrArg (fun s => at3 x2 s 1 (i 1).val) (seqOf_first h0).symm)
    · show (((i 0).val * 2048 + (i 1).val) / 33554432 * 2048 + ((i 0).val * 2048 + (i 1).val) % 2048) / 2048 = _
      omega
    · show (((i 0).val * 2048 + (i 1).val) / 33554432 * 2048 + ((i 0).val * 2048 + (i 1).val) % 2048) % 2048 = _
      omega
  · have h0 : (i 0).val < 8192 := (i 0).isLt
    rw [val_main_v22_apply, val_main_v21_apply, val_main_v20_apply, val_main_v19_apply, val_main_v14_apply, val_main_v13_apply]
    refine (at3_idx x2 _ ?_ rfl ?_).trans (congrArg (fun s => at3 x2 s 1 (i 1).val) seqOf_second.symm)
    · show ((2 + ((i 0).val * 2048 + (i 1).val) / 8388608) * 2048 + ((i 0).val * 2048 + (i 1).val) % 2048) / 2048 = _
      omega
    · show ((2 + ((i 0).val * 2048 + (i 1).val) / 8388608) * 2048 + ((i 0).val * 2048 + (i 1).val) % 2048) % 2048 = _
      omega

/-- The shift of each row's sequence. -/
theorem v37_at (y : S40960x2048.Idx) : val_main_v37 (F := Ideal) x2 y = at3 x2 (seqOf (y 0).val) 0 (y 1).val := by
  unfold val_main_v37
  refine rows_joined _ _ (fun i j => at3 x2 (seqOf i) 0 j) _ (fun i => ?_) (fun i => ?_) y
  all_goals
    have h1 : (i 1).val < 2048 := (i 1).isLt
  · have h0 : (i 0).val < 32768 := (i 0).isLt
    rw [val_main_v32_apply, val_main_v31_apply, val_main_v30_apply, val_main_v29_apply, val_main_v28_apply, val_main_v27_apply]
    refine (at3_idx x2 _ ?_ rfl ?_).trans (congrArg (fun s => at3 x2 s 0 (i 1).val) (seqOf_first h0).symm)
    · show (((i 0).val * 2048 + (i 1).val) / 33554432 * 2048 + ((i 0).val * 2048 + (i 1).val) % 2048) / 2048 = _
      omega
    · show (((i 0).val * 2048 + (i 1).val) / 33554432 * 2048 + ((i 0).val * 2048 + (i 1).val) % 2048) % 2048 = _
      omega
  · have h0 : (i 0).val < 8192 := (i 0).isLt
    rw [val_main_v36_apply, val_main_v35_apply, val_main_v34_apply, val_main_v33_apply, val_main_v28_apply, val_main_v27_apply]
    refine (at3_idx x2 _ ?_ rfl ?_).trans (congrArg (fun s => at3 x2 s 0 (i 1).val) seqOf_second.symm)
    · show ((2 + ((i 0).val * 2048 + (i 1).val) / 8388608) * 2048 + ((i 0).val * 2048 + (i 1).val) % 2048) / 2048 = _
      omega
    · show ((2 + ((i 0).val * 2048 + (i 1).val) / 8388608) * 2048 + ((i 0).val * 2048 + (i 1).val) % 2048) % 2048 = _
      omega

theorem zero_bits : Ideal.ofBits .f32 0x00000000#32 = 0 := by
  simp [Ideal.ofBits, Ideal.ieee]

/-- The reciprocal root of a row's mean square. -/
theorem v9_at (y : S40960x2048.Idx) : val_main_v9 (F := Ideal) x0 x1 y = rms (Ideal.ofBits .f32 0x45000000#32)
    (∑ k : Fin 2048, join 32768 x0 x1 (y 0).val k.val * join 32768 x0 x1 (y 0).val k.val) := by
  rw [val_main_v9_apply, val_main_v8_apply, val_main_v7_apply, val_main_v6_apply, val_main_cst_1_apply, val_main_v5_apply, val_main_v4_apply,
    val_main_cst_0_apply, val_main_v3_apply, val_main_v2_apply, val_main_cst_apply]
  simp only [val_main_v1_apply, v0_at]
  refine congrArg (rms (Ideal.ofBits .f32 0x45000000#32)) (Eq.trans (congrArg (· + _) zero_bits) (zero_add _))

/-- The reference's rows are those of the kernel. -/
theorem v38_at (y : S40960x2048.Idx) : val_main_v38 (F := Ideal) x0 x1 x2 x3 y = H x0 x1 x2 x3 (y 0).val (y 1).val := by
  rw [val_main_v38_apply, val_main_v26_apply, val_main_v25_apply, val_main_v24_apply, val_main_cst_2_apply, val_main_v12_apply,
    val_main_v11_apply, val_main_v10_apply, v0_at, v9_at, v23_at, v37_at, at2_idx x3 (idx_main_v11 y) (i := 0) (j := (y 1).val) rfl rfl]
  rfl

/-- Their products with the weights. -/
theorem v41_at (x4 : S1024x2048.Idx → EReal) (y : S40960x1024.Idx) :
    val_main_v41 (F := Ideal) x0 x1 x2 x3 x4 y = mulT x0 x1 x2 x3 x4 (y 0).val (y 1).val := by
  rw [val_main_v41_apply]
  refine Finset.sum_congr rfl fun k _ => ?_
  rw [v38_at, val_main_v40_apply, val_main_v39_apply]
  exact congrArg (fun z : EReal => _ * z) (at2_idx x4 _ rfl rfl)

theorem v128_at (x6 : S256x2048.Idx → EReal) (y : S40960x256.Idx) :
    val_main_v128 (F := Ideal) x0 x1 x2 x3 x6 y = mulT x0 x1 x2 x3 x6 (y 0).val (y 1).val := by
  rw [val_main_v128_apply]
  refine Finset.sum_congr rfl fun k _ => ?_
  rw [v38_at, val_main_v127_apply, val_main_v126_apply]
  exact congrArg (fun z : EReal => _ * z) (at2_idx x6 _ rfl rfl)

theorem v85_at (x5 : S2048x256.Idx → EReal) (y : S40960x256.Idx) :
    val_main_v85 (F := Ideal) x0 x1 x2 x3 x5 y = mulN x0 x1 x2 x3 x5 (y 0).val (y 1).val := by
  rw [val_main_v85_apply]
  refine Finset.sum_congr rfl fun k _ => ?_
  rw [v38_at, val_main_v84_apply]
  exact congrArg (fun z : EReal => _ * z) (at2_idx x5 _ rfl rfl)

theorem v130_at (x7 : S2048x1024.Idx → EReal) (y : S40960x1024.Idx) :
    val_main_v130 (F := Ideal) x0 x1 x2 x3 x7 y = mulN x0 x1 x2 x3 x7 (y 0).val (y 1).val := by
  rw [val_main_v130_apply]
  refine Finset.sum_congr rfl fun k _ => ?_
  rw [v38_at, val_main_v129_apply]
  exact congrArg (fun z : EReal => _ * z) (at2_idx x7 _ rfl rfl)

theorem v132_at (x8 : S2048x1024.Idx → EReal) (y : S40960x1024.Idx) :
    val_main_v132 (F := Ideal) x0 x1 x2 x3 x8 y = mulN x0 x1 x2 x3 x8 (y 0).val (y 1).val :=
  v130_at x0 x1 x2 x3 x8 y

end Cert.ProjectIdeal.Proj

end
-- ==== Proof.Project.RefHeads.lean ====
module

public import proofs.«01_k».proof.Proof.Project.RefRows

@[expose] public section

set_option maxRecDepth 16384

noncomputable section

namespace Cert.ProjectIdeal.Proj

open Idealize.ShloMosaic
open Cert.ProjectReferenceIdeal Cert.ProjectReferenceIdeal.Gen Cert.ProjectReferenceIdeal.Read

/-! The reference's heads: normalised, turned by the tables of their position, and laid out as the results. -/

/-- The halves of the last axis, exchanged. -/
theorem halves_swapped {n : ℕ} (a b : (⟨3, ![40960, n, 64]⟩ : Shape).Idx → EReal) (f : ℕ → ℕ → ℕ → EReal)
    (h : Shape.Concatenates [(⟨3, ![40960, n, 64]⟩ : Shape), (⟨3, ![40960, n, 64]⟩ : Shape)] (⟨3, ![40960, n, 128]⟩ : Shape) 2)
    (ha : ∀ i, a i = f (i 0).val (i 1).val (64 + (i 2).val)) (hb : ∀ i, b i = f (i 0).val (i 1).val (i 2).val)
    (y : (⟨3, ![40960, n, 128]⟩ : Shape).Idx) :
    concatenate (⟨3, ![40960, n, 128]⟩ : Shape) 2 [⟨(⟨3, ![40960, n, 64]⟩ : Shape), a⟩, ⟨(⟨3, ![40960, n, 64]⟩ : Shape), b⟩] h y
      = f (y 0).val (y 1).val (((y 2).val + 64) % 128) := by
  have h2 : (y 2).val < 128 := (y 2).isLt
  by_cases hl : (y 2).val < 64
  · let i : (⟨3, ![40960, n, 64]⟩ : Shape).Idx := ix3 (y 0) (y 1) ⟨(y 2).val, hl⟩
    refine (concatenate_pair_apply_left 2 a b h y rfl i (fun | 0 => rfl | 1 => rfl | 2 => rfl)).trans ((ha i).trans ?_)
    exact congrArg (f (y 0).val (y 1).val) (show 64 + (y 2).val = _ by omega)
  · let i : (⟨3, ![40960, n, 64]⟩ : Shape).Idx := ix3 (y 0) (y 1) ⟨(y 2).val - 64, by omega⟩
    have e : (y 2).val - 64 + 64 = (y 2).val := by omega
    refine (concatenate_pair_apply_right 2 a b h y rfl rfl i
      (fun | 0 => fun _ => rfl | 1 => fun _ => rfl | 2 => fun h => absurd rfl h) e).trans ((hb i).trans ?_)
    exact congrArg (f (y 0).val (y 1).val) (show (y 2).val - 64 = _ by omega)

/-- The tables of the positions, each row that of one token. -/
theorem v64_at (x11 : S128x16384.Idx → EReal) (y : S40960x128.Idx) :
    val_main_v64 (F := Ideal) x11 y = at2 x11 (y 1).val (posOf (y 0).val) := by
  unfold val_main_v64
  refine rows_joined _ _ (fun i j => at2 x11 j (posOf i)) _ (fun i => ?_) (fun i => ?_) y
  all_goals
    have h1 : (i 1).val < 128 := (i 1).isLt
  · have h0 : (i 0).val < 32768 := (i 0).isLt
    rw [val_main_v59_apply, val_main_v58_apply, val_main_v57_apply, val_main_v56_apply]
    refine (at2_idx x11 _ ?_ ?_).trans (congrArg (fun p => at2 x11 (i 1).val (p)) (posOf_first h0).symm)
    · show ((i 0).val * 128 + (i 1).val) % 128 = _
      omega
    · show ((i 0).val * 128 + (i 1).val) / 128 % 16384 = _
      omega
  · have h0 : (i 0).val < 8192 := (i 0).isLt
    rw [val_main_v63_apply, val_main_v62_apply, val_main_v61_apply, val_main_v60_apply, val_main_v56_apply]
    refine (at2_idx x11 _ ?_ ?_).trans (congrArg (fun p => at2 x11 (i 1).val (p)) posOf_second.symm)
    · show ((i 0).val * 128 + (i 1).val) % 128 = _
      omega
    · show ((i 0).val * 128 + (i 1).val) / 128 % 4096 = _
      omega

theorem v73_at (x12 : S128x16384.Idx → EReal) (y : S40960x128.Idx) :
    val_main_v73 (F := Ideal) x12 y = at2 x12 (y 1).val (posOf (y 0).val) :=
  v64_at x12 y

theorem v107_at (x13 : S16384x128.Idx → EReal) (y : S40960x128.Idx) :
    val_main_v107 (F := Ideal) x13 y = at2 x13 (posOf (y 0).val) (y 1).val := by
  unfold val_main_v107
  refine rows_joined _ _ (fun i j => at2 x13 (posOf i) j) _ (fun i => ?_) (fun i => ?_) y
  all_goals
    have h1 : (i 1).val < 128 := (i 1).isLt
  · have h0 : (i 0).val < 32768 := (i 0).isLt
    rw [val_main_v102_apply, val_main_v101_apply, val_main_v100_apply]
    refine (at2_idx x13 _ ?_ ?_).trans (congrArg (fun p => at2 x13 (p) (i 1).val) (posOf_first h0).symm)
    · show ((i 0).val * 128 + (i 1).val) / 128 % 16384 = _
      omega
    · show ((i 0).val * 128 + (i 1).val) % 128 = _
      omega
  · have h0 : (i 0).val < 8192 := (i 0).isLt
    rw [val_main_v106_apply, val_main_v105_apply, val_main_v104_apply, val_main_v103_apply]
    refine (at2_idx x13 _ ?_ ?_).trans (congrArg (fun p => at2 x13 (p) (i 1).val) posOf_second.symm)
    · show ((i 0).val * 128 + (i 1).val) / 128 % 4096 = _
      omega
    · show ((i 0).val * 128 + (i 1).val) % 128 = _
      omega

theorem v115_at (x14 : S16384x128.Idx → EReal) (y : S40960x128.Idx) :
    val_main_v115 (F := Ideal) x14 y = at2 x14 (posOf (y 0).val) (y 1).val :=
  v107_at x14 y

section

variable (x0 : S32768x2048.Idx → EReal) (x1 : S8192x2048.Idx → EReal) (x2 : S4x8x2048.Idx → EReal) (x3 : S1x2048.Idx → EReal)
  (x4 : S1024x2048.Idx → EReal) (x9 : S128x1.Idx → EReal)

/-- The heads of the queries. -/
theorem v42_at (y : S40960x8x128.Idx) : val_main_v42 (F := Ideal) x0 x1 x2 x3 x4 y
    = mulT x0 x1 x2 x3 x4 (y 0).val ((y 1).val * 128 + (y 2).val) := by
  have h1 : (y 1).val < 8 := (y 1).isLt
  have h2 : (y 2).val < 128 := (y 2).isLt
  rw [val_main_v42_apply, v41_at]
  congr 1
  · show (((y 0).val * 8 + (y 1).val) * 128 + (y 2).val) / 1024 = _
    omega
  · show (((y 0).val * 8 + (y 1).val) * 128 + (y 2).val) % 1024 = _
    omega

theorem v52_at (y : S40960x8x128.Idx) : val_main_v52 (F := Ideal) x0 x1 x2 x3 x4 y = rms (Ideal.ofBits .f32 0x43000000#32)
    (∑ k : Fin 128, mulT x0 x1 x2 x3 x4 (y 0).val ((y 1).val * 128 + k.val) * mulT x0 x1 x2 x3 x4 (y 0).val ((y 1).val * 128 + k.val)) := by
  rw [val_main_v52_apply, val_main_v51_apply, val_main_v50_apply, val_main_v49_apply, val_main_cst_5_apply, val_main_v48_apply, val_main_v47_apply,
    val_main_cst_4_apply, val_main_v46_apply, val_main_v45_apply, val_main_cst_3_apply]
  simp only [val_main_v44_apply, v42_at]
  exact congrArg (rms (Ideal.ofBits .f32 0x43000000#32)) (Eq.trans (congrArg (· + _) zero_bits) (zero_add _))

/-- The normalised heads of the queries. -/
theorem v55_at (y : S40960x8x128.Idx) : val_main_v55 (F := Ideal) x0 x1 x2 x3 x4 x9 y
    = nrm (fun e => mulT x0 x1 x2 x3 x4 (y 0).val ((y 1).val * 128 + e)) (fun e => at2 x9 e 0) (y 2).val := by
  have h2 : (y 2).val < 128 := (y 2).isLt
  rw [val_main_v55_apply, val_main_v53_apply, v42_at, v52_at, val_main_v54_apply, val_main_v43_apply]
  exact congrArg (fun z : EReal => _ * z) (at2_idx x9 _ (by show ((0 * 1 + 0) * 128 + (y 2).val) / 1 = (y 2).val; omega) rfl)

theorem v76_at (y : S40960x8x128.Idx) : val_main_v76 (F := Ideal) x0 x1 x2 x3 x4 x9 y
    = nrm (fun e => mulT x0 x1 x2 x3 x4 (y 0).val ((y 1).val * 128 + e)) (fun e => at2 x9 e 0) (((y 2).val + 64) % 128) := by
  unfold val_main_v76
  refine halves_swapped _ _ (fun i h => nrm (fun e => mulT x0 x1 x2 x3 x4 i (h * 128 + e)) (fun e => at2 x9 e 0)) _
    (fun i => ?_) (fun i => ?_) y
  · rw [val_main_v74_apply, v55_at]
  · rw [val_main_v75_apply, v55_at]

/-- The heads of the queries, turned. -/
theorem v83_at (x11 x12 : S128x16384.Idx → EReal) (y : S40960x8x128.Idx) :
    val_main_v83 (F := Ideal) x0 x1 x2 x3 x4 x9 x11 x12 y
      = rop (fun e => mulT x0 x1 x2 x3 x4 (y 0).val ((y 1).val * 128 + e)) (fun e => at2 x9 e 0) (fun e => at2 x11 e (posOf (y 0).val))
          (fun e => at2 x12 e (posOf (y 0).val)) (y 2).val := by
  rw [val_main_v83_apply, val_main_v79_apply, v55_at, val_main_v78_apply, val_main_v77_apply, v64_at, val_main_v82_apply, v76_at,
    val_main_v81_apply, val_main_v80_apply, v73_at]
  rfl

end

section

variable (x0 : S32768x2048.Idx → EReal) (x1 : S8192x2048.Idx → EReal) (x2 : S4x8x2048.Idx → EReal) (x3 : S1x2048.Idx → EReal)
  (x5 : S2048x256.Idx → EReal) (x10 : S1x128.Idx → EReal)

/-- The heads of the keys. -/
theorem v86_at (y : S40960x2x128.Idx) : val_main_v86 (F := Ideal) x0 x1 x2 x3 x5 y
    = mulN x0 x1 x2 x3 x5 (y 0).val ((y 1).val * 128 + (y 2).val) := by
  have h1 : (y 1).val < 2 := (y 1).isLt
  have h2 : (y 2).val < 128 := (y 2).isLt
  rw [val_main_v86_apply, v85_at]
  congr 1
  · show (((y 0).val * 2 + (y 1).val) * 128 + (y 2).val) / 256 = _
    omega
  · show (((y 0).val * 2 + (y 1).val) * 128 + (y 2).val) % 256 = _
    omega

theorem v96_at (y : S40960x2x128.Idx) : val_main_v96 (F := Ideal) x0 x1 x2 x3 x5 y = rms (Ideal.ofBits .f32 0x43000000#32)
    (∑ k : Fin 128, mulN x0 x1 x2 x3 x5 (y 0).val ((y 1).val * 128 + k.val) * mulN x0 x1 x2 x3 x5 (y 0).val ((y 1).val * 128 + k.val)) := by
  rw [val_main_v96_apply, val_main_v95_apply, val_main_v94_apply, val_main_v93_apply, val_main_cst_8_apply, val_main_v92_apply, val_main_v91_apply,
    val_main_cst_7_apply, val_main_v90_apply, val_main_v89_apply, val_main_cst_6_apply]
  simp only [val_main_v88_apply, v86_at]
  exact congrArg (rms (Ideal.ofBits .f32 0x43000000#32)) (Eq.trans (congrArg (· + _) zero_bits) (zero_add _))

/-- The normalised heads of the keys. -/
theorem v99_at (y : S40960x2x128.Idx) : val_main_v99 (F := Ideal) x0 x1 x2 x3 x5 x10 y
    = nrm (fun e => mulN x0 x1 x2 x3 x5 (y 0).val ((y 1).val * 128 + e)) (at2 x10 0) (y 2).val := by
  have h2 : (y 2).val < 128 := (y 2).isLt
  rw [val_main_v99_apply, val_main_v97_apply, v86_at, v96_at, val_main_v98_apply, val_main_v87_apply]
  exact congrArg (fun z : EReal => _ * z) (at2_idx x10 _ rfl (by show ((0 * 1 + 0) * 128 + (y 2).val) % 128 = (y 2).val; omega))

theorem v118_at (y : S40960x2x128.Idx) : val_main_v118 (F := Ideal) x0 x1 x2 x3 x5 x10 y
    = nrm (fun e => mulN x0 x1 x2 x3 x5 (y 0).val ((y 1).val * 128 + e)) (at2 x10 0) (((y 2).val + 64) % 128) := by
  unfold val_main_v118
  refine halves_swapped _ _ (fun i h => nrm (fun e => mulN x0 x1 x2 x3 x5 i (h * 128 + e)) (at2 x10 0)) _
    (fun i => ?_) (fun i => ?_) y
  · rw [val_main_v116_apply, v99_at]
  · rw [val_main_v117_apply, v99_at]

/-- The heads of the keys, turned. -/
theorem v125_at (x13 x14 : S16384x128.Idx → EReal) (y : S40960x2x128.Idx) :
    val_main_v125 (F := Ideal) x0 x1 x2 x3 x5 x10 x13 x14 y
      = rop (fun e => mulN x0 x1 x2 x3 x5 (y 0).val ((y 1).val * 128 + e)) (at2 x10 0) (at2 x13 (posOf (y 0).val))
          (at2 x14 (posOf (y 0).val)) (y 2).val := by
  rw [val_main_v125_apply, val_main_v121_apply, v99_at, val_main_v120_apply, val_main_v119_apply, v107_at, val_main_v124_apply, v118_at,
    val_main_v123_apply, val_main_v122_apply, v115_at]
  rfl

end

end Cert.ProjectIdeal.Proj

end
-- ==== Proof.Project.RefOuts.lean ====
module

public import proofs.«01_k».proof.Proof.Project.RefHeads

@[expose] public section

set_option maxRecDepth 16384

noncomputable section

namespace Cert.ProjectIdeal.Proj

open Idealize.ShloMosaic
open Cert.ProjectReferenceIdeal Cert.ProjectReferenceIdeal.Gen Cert.ProjectReferenceIdeal.Read

/-! The reference's five results. -/

variable (x0 : S32768x2048.Idx → EReal) (x1 : S8192x2048.Idx → EReal) (x2 : S4x8x2048.Idx → EReal) (x3 : S1x2048.Idx → EReal)

/-- The turned queries, given by columns. -/
theorem v135_at (x4 : S1024x2048.Idx → EReal) (x9 : S128x1.Idx → EReal) (x11 x12 : S128x16384.Idx → EReal) (y : S1024x40960.Idx) :
    val_main_v135 (F := Ideal) x0 x1 x2 x3 x4 x9 x11 x12 y = qOut x0 x1 x2 x3 x4 x9 x11 x12 (y 1).val (y 0).val := by
  have h0 : (y 0).val < 1024 := (y 0).isLt
  have h1 : (y 1).val < 40960 := (y 1).isLt
  have e0 : ((y 1).val * 1024 + (y 0).val) / 1024 = (y 1).val := by omega
  have e1 : ((y 1).val * 1024 + (y 0).val) / 128 % 8 = (y 0).val / 128 := by omega
  have e2 : ((y 1).val * 1024 + (y 0).val) % 128 = (y 0).val % 128 := by omega
  rw [val_main_v135_apply, val_main_v134_apply, val_main_v133_apply, v83_at]
  unfold qOut
  show rop (fun e => mulT x0 x1 x2 x3 x4 (((y 1).val * 1024 + (y 0).val) / 1024) (((y 1).val * 1024 + (y 0).val) / 128 % 8 * 128 + e)) _
    (fun e => at2 x11 e (posOf (((y 1).val * 1024 + (y 0).val) / 1024))) (fun e => at2 x12 e (posOf (((y 1).val * 1024 + (y 0).val) / 1024)))
    (((y 1).val * 1024 + (y 0).val) % 128) = _
  rw [e0, e1, e2]

/-- The turned keys. -/
theorem v137_at (x5 : S2048x256.Idx → EReal) (x10 : S1x128.Idx → EReal) (x13 x14 : S16384x128.Idx → EReal) (y : S40960x256.Idx) :
    val_main_v137 (F := Ideal) x0 x1 x2 x3 x5 x10 x13 x14 y = kOut x0 x1 x2 x3 x5 x10 x13 x14 (y 0).val (y 1).val := by
  have h0 : (y 0).val < 40960 := (y 0).isLt
  have h1 : (y 1).val < 256 := (y 1).isLt
  have e0 : ((y 0).val * 256 + (y 1).val) / 256 = (y 0).val := by omega
  have e1 : ((y 0).val * 256 + (y 1).val) / 128 % 2 = (y 1).val / 128 := by omega
  have e2 : ((y 0).val * 256 + (y 1).val) % 128 = (y 1).val % 128 := by omega
  rw [val_main_v137_apply, val_main_v136_apply, v125_at]
  unfold kOut
  show rop (fun e => mulN x0 x1 x2 x3 x5 (((y 0).val * 256 + (y 1).val) / 256) (((y 0).val * 256 + (y 1).val) / 128 % 2 * 128 + e)) _
    (at2 x13 (posOf (((y 0).val * 256 + (y 1).val) / 256))) (at2 x14 (posOf (((y 0).val * 256 + (y 1).val) / 256)))
    (((y 0).val * 256 + (y 1).val) % 128) = _
  rw [e0, e1, e2]

/-- The values, given by columns. -/
theorem v139_at (x6 : S256x2048.Idx → EReal) (y : S256x40960.Idx) :
    val_main_v139 (F := Ideal) x0 x1 x2 x3 x6 y = mulT x0 x1 x2 x3 x6 (y 1).val (y 0).val := by
  rw [val_main_v139_apply, val_main_v138_apply, v128_at]
  rfl

/-- The two halves of the gated branch. -/
theorem v140_at (x7 : S2048x1024.Idx → EReal) (y : S40960x1024.Idx) :
    val_main_v140 (F := Ideal) x0 x1 x2 x3 x7 y = mulN x0 x1 x2 x3 x7 (y 0).val (y 1).val := by
  rw [val_main_v140_apply, v130_at]
  rfl

theorem v141_at (x8 : S2048x1024.Idx → EReal) (y : S40960x1024.Idx) :
    val_main_v141 (F := Ideal) x0 x1 x2 x3 x8 y = mulN x0 x1 x2 x3 x8 (y 0).val (y 1).val :=
  v140_at x0 x1 x2 x3 x8 y

end Cert.ProjectIdeal.Proj

end
-- ==== Proof.Project.Value.lean ====
module

public import proofs.«01_k».proof.Defs
public import proofs.«01_k».proof.Proof.Gen.ProjectReferenceIdeal.Run
public import proofs.«01_k».proof.Proof.Project.Arrays
public import proofs.«01_k».proof.Proof.Project.RefOuts

@[expose] public section

set_option maxRecDepth 16384
set_option Elab.async false

noncomputable section

namespace Cert.Proof

open Idealize.ShloMosaic Idealize.ShloMosaic.TcCoe Idealize.SL.Sem
open Cert.ProjectIdeal.Proj

/-! The in-projection and its reference end with the same five arrays. -/

/-- The projected queries, keys, values and gated branch are equal, whatever the arguments. -/
theorem algebraic_project : Cert.algebraic_ProjectIdeal_ProjectReferenceIdeal := by
  intro m g m' g' _ hargs
  refine ⟨G15 m, G16 m, G17 m, G18 m, G19 m,
    (θ_run _ _ _).mono (fun r h c => ?_) (Cert.ProjectIdeal.Value.run_blocks m g),
    (θ_run _ _ _).mono (fun r h c => ?_) (Cert.ProjectReferenceIdeal.Value.run m' g')⟩
  · obtain ⟨h0, h1, h2, h3, h4, ha⟩ := h c
    exact ⟨h0.trans (final_15 m c), h1.trans (final_16 m c), h2.trans (final_17 m c), h3.trans (final_18 m c), h4.trans (final_19 m c), ha⟩
  · obtain ⟨h0, h1, h2, h3, h4, ha⟩ := h c
    obtain ⟨e0, e1, e2, e3, e4, e5, e6, e7, e8, e9, e10, e11, e12, e13, e14⟩ := hargs c
    refine ⟨h0.trans ?_, h1.trans ?_, h2.trans ?_, h3.trans ?_, h4.trans ?_, ha⟩
    · rw [Cert.ProjectReferenceIdeal.Read.val_main_v135_eq, e0, e1, e2, e3, e4, e9, e11, e12]
      exact funext fun y => v135_at _ _ _ _ _ _ _ _ y
    · rw [Cert.ProjectReferenceIdeal.Read.val_main_v137_eq, e0, e1, e2, e3, e5, e10, e13, e14]
      exact funext fun y => v137_at _ _ _ _ _ _ _ _ y
    · rw [Cert.ProjectReferenceIdeal.Read.val_main_v139_eq, e0, e1, e2, e3, e6]
      exact funext fun y => v139_at _ _ _ _ _ y
    · rw [Cert.ProjectReferenceIdeal.Read.val_main_v140_eq, e0, e1, e2, e3, e7]
      exact funext fun y => v140_at _ _ _ _ _ y
    · rw [Cert.ProjectReferenceIdeal.Read.val_main_v141_eq, e0, e1, e2, e3, e8]
      exact funext fun y => v141_at _ _ _ _ _ y

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Kernel.Launch
public import proofs.«01_k».proof.Proof.Gen.KernelIdeal.Launch
public import proofs.«01_k».proof.Proof.Gen.ReferenceIdeal.Run
public import proofs.«01_k».proof.Proof.Gen.ReferenceIdeal.Read
public import proofs.«01_k».proof.Proof.Gen.Project
public import proofs.«01_k».proof.Proof.Gen.ProjectIdeal
public import proofs.«01_k».proof.Proof.Gen.ProjectReferenceIdeal
public import proofs.«01_k».proof.Proof.Gen.ProjectIdeal.Value
public import proofs.«01_k».proof.Proof.Gen.ProjectReferenceIdeal.Run
public import proofs.«01_k».proof.Proof.Gen.ProjectReferenceIdeal.Read
public import proofs.«01_k».proof.Proof.Flash.Frames
public import proofs.«01_k».proof.Proof.Flash.Value
public import proofs.«01_k».proof.Proof.Project.Frames
public import proofs.«01_k».proof.Proof.Project.Value

@[expose] public section

noncomputable section

namespace Cert.Proof

open Idealize.ShloMosaic Idealize.SL.Sem

/-- Of the attention call and of the in-projection call: the frames of the three programs, the idealized kernel as the kernel's own
text, and the equality of the kernel's results with the reference's. -/
theorem claim : Cert.Claim :=
  ⟨Cert.Kernel.Gen.facts, Cert.KernelIdeal.Gen.facts, Cert.ReferenceIdeal.Gen.facts, Cert.Project.Gen.facts, Cert.ProjectIdeal.Gen.facts,
    Cert.ProjectReferenceIdeal.Gen.facts, Cert.Pre_finite.Gen.facts, frame_p, frame_pi, fun m g _ => frame_pi m g trivial, frame_ri,
    fun m g _ => frame_ri m g trivial, Project.frame_p, Project.frame_pi, Project.frame_ri, trivial, algebraic, trivial, algebraic_project⟩

end Cert.Proof

end
